-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys_KernelIdeal [hPre_finite_queries_and_keys_KernelIdeal : Cert.Pre_finite_queries_and_keys_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys_ReferenceIdeal [hPre_finite_queries_and_keys_ReferenceIdeal : Cert.Pre_finite_queries_and_keys_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys_KernelIdeal [hKernelIdeal : Cert.KernelIdeal.Facts] [hPre_finite_queries_and_keys_KernelIdeal : Cert.Pre_finite_queries_and_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys_ReferenceIdeal [hReferenceIdeal : Cert.ReferenceIdeal.Facts] [hPre_finite_queries_and_keys_ReferenceIdeal : Cert.Pre_finite_queries_and_keys_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_queries_and_keys_KernelIdeal [hKernelIdeal : Cert.KernelIdeal.Facts] [hReferenceIdeal : Cert.ReferenceIdeal.Facts] [hPre_finite_queries_and_keys_KernelIdeal : Cert.Pre_finite_queries_and_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys_KernelIdeal m →
    (∀ c : Dev Cert.KernelIdeal.nD,
      m ((c.tc : Thread Cert.KernelIdeal.nD Cert.KernelIdeal.τ).loc Cert.KernelIdeal.main_arg0) = Layout.blockN ⟨4, ![2, 256, 8, 64]⟩ ⟨4, ![2, 1024, 8, 64]⟩ (Layout.meshBlock [2, 4, 4] ![[], [2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 256, 8, 64]⟩ ⟨4, ![2, 1024, 8, 64]⟩ (Layout.meshBlock [2, 4, 4] ![[], [2], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 256, 8, 64]⟩ ⟨4, ![2, 1024, 8, 64]⟩ (Layout.meshBlock [2, 4, 4] ![[], [2], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨4, ![2, 256, 8, 64]⟩ ⟨4, ![2, 1024, 8, 64]⟩ (Layout.meshBlock [2, 4, 4] ![[], [2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_queries_and_keys_KernelIdeal : Cert.Pre_finite_queries_and_keys_KernelIdeal.Facts) (hPre_finite_queries_and_keys_ReferenceIdeal : Cert.Pre_finite_queries_and_keys_ReferenceIdeal.Facts),
    quiescent_Kernel (hKernel := hKernel)
    ∧ quiescent_KernelIdeal (hKernelIdeal := hKernelIdeal)
    ∧ quiescent_KernelIdeal_pre_finite_queries_and_keys_KernelIdeal (hKernelIdeal := hKernelIdeal) (hPre_finite_queries_and_keys_KernelIdeal := hPre_finite_queries_and_keys_KernelIdeal)
    ∧ quiescent_ReferenceIdeal (hReferenceIdeal := hReferenceIdeal)
    ∧ quiescent_ReferenceIdeal_pre_finite_queries_and_keys_ReferenceIdeal (hReferenceIdeal := hReferenceIdeal) (hPre_finite_queries_and_keys_ReferenceIdeal := hPre_finite_queries_and_keys_ReferenceIdeal)
    ∧ preserves_Kernel_KernelIdeal
    ∧ algebraic_KernelIdeal_ReferenceIdeal_pre_finite_queries_and_keys_KernelIdeal (hKernelIdeal := hKernelIdeal) (hReferenceIdeal := hReferenceIdeal) (hPre_finite_queries_and_keys_KernelIdeal := hPre_finite_queries_and_keys_KernelIdeal)
-- ==== Pre_finite_queries_and_keys_KernelIdeal.lean ====
abbrev S2x256x8x64 : Shape := ⟨4, ![2, 256, 8, 64]⟩
abbrev S_ : Shape := ⟨0, ![]⟩

class Facts : Prop where
  bcast_S_S2x256x8x64 : S_.BroadcastsInDim S2x256x8x64 (![] : Fin 0 → Fin S2x256x8x64.rank)

variable [Facts]

def fn {F : FTy → Type} [FloatOps F] (main_arg0 : FVec F S2x256x8x64 .bf16) (main_arg1 : FVec F S2x256x8x64 .bf16) (main_arg2 : FVec F S2x256x8x64 .bf16) : IVec S2x256x8x64 1 :=
  let main_v0 : FVec F S2x256x8x64 .bf16 := Host.absf main_arg0
  let main_cst : FVec F S_ .bf16 := constant S_ .bf16 0x7F80#16
  let main_v1 : FVec F S2x256x8x64 .bf16 := broadcastInDim S2x256x8x64 ![] bcast_S_S2x256x8x64 main_cst
  let main_v2 : IVec S2x256x8x64 1 := cmpf .olt main_v0 main_v1
  let main_v3 : FVec F S2x256x8x64 .bf16 := Host.absf main_arg1
  let main_cst_0 : FVec F S_ .bf16 := constant S_ .bf16 0x7F80#16
  let main_v4 : FVec F S2x256x8x64 .bf16 := broadcastInDim S2x256x8x64 ![] bcast_S_S2x256x8x64 main_cst_0
  let main_v5 : IVec S2x256x8x64 1 := cmpf .olt main_v3 main_v4
  let main_v6 : IVec S2x256x8x64 1 := andi main_v2 main_v5
  main_v6
-- ==== Pre_finite_queries_and_keys_ReferenceIdeal.lean ====
abbrev S2x1024x8x64 : Shape := ⟨4, ![2, 1024, 8, 64]⟩
abbrev S_ : Shape := ⟨0, ![]⟩

class Facts : Prop where
  bcast_S_S2x1024x8x64 : S_.BroadcastsInDim S2x1024x8x64 (![] : Fin 0 → Fin S2x1024x8x64.rank)

variable [Facts]

def fn {F : FTy → Type} [FloatOps F] (main_arg0 : FVec F S2x1024x8x64 .bf16) (main_arg1 : FVec F S2x1024x8x64 .bf16) (main_arg2 : FVec F S2x1024x8x64 .bf16) : IVec S2x1024x8x64 1 :=
  let main_v0 : FVec F S2x1024x8x64 .bf16 := Host.absf main_arg0
  let main_cst : FVec F S_ .bf16 := constant S_ .bf16 0x7F80#16
  let main_v1 : FVec F S2x1024x8x64 .bf16 := broadcastInDim S2x1024x8x64 ![] bcast_S_S2x1024x8x64 main_cst
  let main_v2 : IVec S2x1024x8x64 1 := cmpf .olt main_v0 main_v1
  let main_v3 : FVec F S2x1024x8x64 .bf16 := Host.absf main_arg1
  let main_cst_0 : FVec F S_ .bf16 := constant S_ .bf16 0x7F80#16
  let main_v4 : FVec F S2x1024x8x64 .bf16 := broadcastInDim S2x1024x8x64 ![] bcast_S_S2x1024x8x64 main_cst_0
  let main_v5 : IVec S2x1024x8x64 1 := cmpf .olt main_v3 main_v4
  let main_v6 : IVec S2x1024x8x64 1 := andi main_v2 main_v5
  main_v6
-- ==== Kernel.lean ====
abbrev S2x256x8x64 : Shape := ⟨4, ![2, 256, 8, 64]⟩
abbrev S4x2x2x256x64 : Shape := ⟨5, ![4, 2, 2, 256, 64]⟩
abbrev S2x4x2x256x64 : Shape := ⟨5, ![2, 4, 2, 256, 64]⟩
abbrev S4 : Shape := ⟨1, ![4]⟩
abbrev S512x64 : Shape := ⟨2, ![512, 64]⟩
abbrev S2x256x512 : Shape := ⟨3, ![2, 256, 512]⟩
abbrev S1x256x512 : Shape := ⟨3, ![1, 256, 512]⟩
abbrev S256x512 : Shape := ⟨2, ![256, 512]⟩
abbrev S256x64 : Shape := ⟨2, ![256, 64]⟩
abbrev S1x256x64 : Shape := ⟨3, ![1, 256, 64]⟩
abbrev S2x256x64 : Shape := ⟨3, ![2, 256, 64]⟩
abbrev S1x1x2x256x64 : Shape := ⟨5, ![1, 1, 2, 256, 64]⟩
abbrev S_ : Shape := ⟨0, ![]⟩
abbrev S1 : Shape := ⟨1, ![1]⟩
abbrev S1x2x2x256x64 : Shape := ⟨5, ![1, 2, 2, 256, 64]⟩
abbrev S2x2x256x64 : Shape := ⟨4, ![2, 2, 256, 64]⟩
abbrev S256x256 : Shape := ⟨2, ![256, 256]⟩
abbrev S256 : Shape := ⟨1, ![256]⟩
abbrev S256x1 : Shape := ⟨2, ![256, 1]⟩
abbrev S1x2x2x128x64 : Shape := ⟨5, ![1, 2, 2, 128, 64]⟩
abbrev S2x2x128x64 : Shape := ⟨4, ![2, 2, 128, 64]⟩
abbrev S1x1x1x256x64 : Shape := ⟨5, ![1, 1, 1, 256, 64]⟩
abbrev S1x1x1x128x64 : Shape := ⟨5, ![1, 1, 1, 128, 64]⟩
abbrev S128x64 : Shape := ⟨2, ![128, 64]⟩
abbrev S256x128 : Shape := ⟨2, ![256, 128]⟩
abbrev S1x1x2x128x64 : Shape := ⟨5, ![1, 1, 2, 128, 64]⟩
abbrev S2x128x64 : Shape := ⟨3, ![2, 128, 64]⟩
abbrev S2x256x1x64 : Shape := ⟨4, ![2, 256, 1, 64]⟩
abbrev S2x256x4x64 : Shape := ⟨4, ![2, 256, 4, 64]⟩

abbrev nBuf : Space → Nat
  | .hbm => 4
  | .vmem => 6
  | .smem => 0
  | _ => 0

abbrev bufTy : (tb : Table) → Fin (tcTables nBuf tb) → BufTy
  | .hbm, ⟨0, _⟩ => ⟨S2x256x8x64, .bf16⟩
  | .hbm, ⟨1, _⟩ => ⟨S2x256x8x64, .bf16⟩
  | .hbm, ⟨2, _⟩ => ⟨S2x256x8x64, .bf16⟩
  | .hbm, ⟨3, _⟩ => ⟨S2x256x8x64, .f32⟩
  | .local _ .vmem, ⟨0, _⟩ => ⟨S2x256x8x64, .bf16⟩
  | .local _ .vmem, ⟨1, _⟩ => ⟨S2x256x8x64, .bf16⟩
  | .local _ .vmem, ⟨2, _⟩ => ⟨S2x256x8x64, .bf16⟩
  | .local _ .vmem, ⟨3, _⟩ => ⟨S2x256x8x64, .f32⟩
  | .local _ .vmem, ⟨4, _⟩ => ⟨S4x2x2x256x64, .bf16⟩
  | .local _ .vmem, ⟨5, _⟩ => ⟨S2x4x2x256x64, .bf16⟩
  | _, _ => ⟨S2x256x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_34 : BitVec 32 := 16#32
  let v63 : BitVec 32 := Scalar.muli v2 c16_i32_34
  let v64 : BitVec 32 := Scalar.addi c0_i32 v63
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_35 : BitVec 32 := 4#32
  let v65 : BitVec 32 := Scalar.muli v5 c4_i32_35
  let v66 : BitVec 32 := Scalar.addi v64 v65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v9 : BitVec 32 := Scalar.addi v8 c4_i32_2
  let c1_i32_3 : BitVec 32 := 1#32
  let v10 : BitVec 32 := Scalar.subi v9 c1_i32_3
  let c4_i32_4 : BitVec 32 := 4#32
  let v11 : BitVec 32 := Scalar.remsi v10 c4_i32_4
  let c1_i32_36 : BitVec 32 := 1#32
  let v67 : BitVec 32 := Scalar.muli v11 c1_i32_36
  let v68 : BitVec 32 := Scalar.addi v66 v67
  v68.toNat
def k0_dev2 (d0 : Dev nD) : Nat :=
  let c0_i32_39 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_38 : BitVec 32 := 16#32
  let v69 : BitVec 32 := Scalar.muli v2 c16_i32_38
  let v70 : BitVec 32 := Scalar.addi c0_i32_39 v69
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_40 : BitVec 32 := 4#32
  let v71 : BitVec 32 := Scalar.muli v5 c4_i32_40
  let v72 : BitVec 32 := Scalar.addi v70 v71
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_41 : BitVec 32 := 1#32
  let v73 : BitVec 32 := Scalar.muli v13 c1_i32_41
  let v74 : BitVec 32 := Scalar.addi v72 v73
  v74.toNat
def k0_dev3 (d0 : Dev nD) : Nat :=
  let c0_i32_44 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_43 : BitVec 32 := 16#32
  let v75 : BitVec 32 := Scalar.muli v2 c16_i32_43
  let v76 : BitVec 32 := Scalar.addi c0_i32_44 v75
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_7 : BitVec 32 := 4#32
  let v14 : BitVec 32 := Scalar.addi v5 c4_i32_7
  let c1_i32_8 : BitVec 32 := 1#32
  let v15 : BitVec 32 := Scalar.subi v14 c1_i32_8
  let c4_i32_9 : BitVec 32 := 4#32
  let v16 : BitVec 32 := Scalar.remsi v15 c4_i32_9
  let c4_i32_45 : BitVec 32 := 4#32
  let v77 : BitVec 32 := Scalar.muli v16 c4_i32_45
  let v78 : BitVec 32 := Scalar.addi v76 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_46 : BitVec 32 := 1#32
  let v79 : BitVec 32 := Scalar.muli v8 c1_i32_46
  let v80 : BitVec 32 := Scalar.addi v78 v79
  v80.toNat
def k0_dev4 (d0 : Dev nD) : Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_48 : BitVec 32 := 16#32
  let v81 : BitVec 32 := Scalar.muli v2 c16_i32_48
  let v82 : BitVec 32 := Scalar.addi c0_i32_49 v81
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v17 : BitVec 32 := Scalar.addi v5 c1_i32_10
  let c4_i32_11 : BitVec 32 := 4#32
  let v18 : BitVec 32 := Scalar.remsi v17 c4_i32_11
  let c4_i32_50 : BitVec 32 := 4#32
  let v83 : BitVec 32 := Scalar.muli v18 c4_i32_50
  let v84 : BitVec 32 := Scalar.addi v82 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v85 : BitVec 32 := Scalar.muli v8 c1_i32_51
  let v86 : BitVec 32 := Scalar.addi v84 v85
  v86.toNat
def k0_dev5 (d0 : Dev nD) : Nat :=
  let c0_i32_54 : BitVec 32 := 0#32
  let c1_i32_12 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_12 v2
  let c16_i32_53 : BitVec 32 := 16#32
  let v87 : BitVec 32 := Scalar.muli v19 c16_i32_53
  let v88 : BitVec 32 := Scalar.addi c0_i32_54 v87
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_55 : BitVec 32 := 4#32
  let v89 : BitVec 32 := Scalar.muli v5 c4_i32_55
  let v90 : BitVec 32 := Scalar.addi v88 v89
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v91 : BitVec 32 := Scalar.muli v8 c1_i32_56
  let v92 : BitVec 32 := Scalar.addi v90 v91
  v92.toNat
def k0_dev6 (d0 : Dev nD) : Nat :=
  let c0_i32_61 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_60 : BitVec 32 := 16#32
  let v93 : BitVec 32 := Scalar.muli v2 c16_i32_60
  let v94 : BitVec 32 := Scalar.addi c0_i32_61 v93
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_62 : BitVec 32 := 4#32
  let v95 : BitVec 32 := Scalar.muli v5 c4_i32_62
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_63 : BitVec 32 := 1#32
  let v97 : BitVec 32 := Scalar.muli v13 c1_i32_63
  let v98 : BitVec 32 := Scalar.addi v96 v97
  v98.toNat
def k0_dev7 (d0 : Dev nD) : Nat :=
  let c0_i32_77 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_76 : BitVec 32 := 16#32
  let v107 : BitVec 32 := Scalar.muli v2 c16_i32_76
  let v108 : BitVec 32 := Scalar.addi c0_i32_77 v107
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_78 : BitVec 32 := 4#32
  let v109 : BitVec 32 := Scalar.muli v5 c4_i32_78
  let v110 : BitVec 32 := Scalar.addi v108 v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v9 : BitVec 32 := Scalar.addi v8 c4_i32_2
  let c1_i32_3 : BitVec 32 := 1#32
  let v10 : BitVec 32 := Scalar.subi v9 c1_i32_3
  let c4_i32_4 : BitVec 32 := 4#32
  let v11 : BitVec 32 := Scalar.remsi v10 c4_i32_4
  let c1_i32_79 : BitVec 32 := 1#32
  let v111 : BitVec 32 := Scalar.muli v11 c1_i32_79
  let v112 : BitVec 32 := Scalar.addi v110 v111
  v112.toNat
def k0_dev8 (d0 : Dev nD) : Nat :=
  let c0_i32_138 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_137 : BitVec 32 := 16#32
  let v184 : BitVec 32 := Scalar.muli v2 c16_i32_137
  let v185 : BitVec 32 := Scalar.addi c0_i32_138 v184
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_139 : BitVec 32 := 4#32
  let v186 : BitVec 32 := Scalar.muli v5 c4_i32_139
  let v187 : BitVec 32 := Scalar.addi v185 v186
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_140 : BitVec 32 := 1#32
  let v188 : BitVec 32 := Scalar.muli v13 c1_i32_140
  let v189 : BitVec 32 := Scalar.addi v187 v188
  v189.toNat
def k0_dev9 (d0 : Dev nD) : Nat :=
  let c0_i32_154 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_153 : BitVec 32 := 16#32
  let v198 : BitVec 32 := Scalar.muli v2 c16_i32_153
  let v199 : BitVec 32 := Scalar.addi c0_i32_154 v198
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_155 : BitVec 32 := 4#32
  let v200 : BitVec 32 := Scalar.muli v5 c4_i32_155
  let v201 : BitVec 32 := Scalar.addi v199 v200
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v9 : BitVec 32 := Scalar.addi v8 c4_i32_2
  let c1_i32_3 : BitVec 32 := 1#32
  let v10 : BitVec 32 := Scalar.subi v9 c1_i32_3
  let c4_i32_4 : BitVec 32 := 4#32
  let v11 : BitVec 32 := Scalar.remsi v10 c4_i32_4
  let c1_i32_156 : BitVec 32 := 1#32
  let v202 : BitVec 32 := Scalar.muli v11 c1_i32_156
  let v203 : BitVec 32 := Scalar.addi v201 v202
  v203.toNat
def k0_off1 (d0 : Dev nD) : Fin 5 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_327 : BitVec 32 := 0#32
  let c0_i32_328 : BitVec 32 := 0#32
  let c0_i32_329 : BitVec 32 := 0#32
  ![v2.toNat, v5.toNat, 0, 0, 0]
def k0_dev10 (d0 : Dev nD) : Nat :=
  let c0_i32_324 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_323 : BitVec 32 := 16#32
  let v397 : BitVec 32 := Scalar.muli v2 c16_i32_323
  let v398 : BitVec 32 := Scalar.addi c0_i32_324 v397
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v17 : BitVec 32 := Scalar.addi v5 c1_i32_10
  let c4_i32_11 : BitVec 32 := 4#32
  let v18 : BitVec 32 := Scalar.remsi v17 c4_i32_11
  let c4_i32_325 : BitVec 32 := 4#32
  let v399 : BitVec 32 := Scalar.muli v18 c4_i32_325
  let v400 : BitVec 32 := Scalar.addi v398 v399
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_326 : BitVec 32 := 1#32
  let v401 : BitVec 32 := Scalar.muli v8 c1_i32_326
  let v402 : BitVec 32 := Scalar.addi v400 v401
  v402.toNat
def k0_dev11 (d0 : Dev nD) : Nat :=
  let c0_i32_336 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_335 : BitVec 32 := 16#32
  let v411 : BitVec 32 := Scalar.muli v2 c16_i32_335
  let v412 : BitVec 32 := Scalar.addi c0_i32_336 v411
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_7 : BitVec 32 := 4#32
  let v14 : BitVec 32 := Scalar.addi v5 c4_i32_7
  let c1_i32_8 : BitVec 32 := 1#32
  let v15 : BitVec 32 := Scalar.subi v14 c1_i32_8
  let c4_i32_9 : BitVec 32 := 4#32
  let v16 : BitVec 32 := Scalar.remsi v15 c4_i32_9
  let c4_i32_337 : BitVec 32 := 4#32
  let v413 : BitVec 32 := Scalar.muli v16 c4_i32_337
  let v414 : BitVec 32 := Scalar.addi v412 v413
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_338 : BitVec 32 := 1#32
  let v415 : BitVec 32 := Scalar.muli v8 c1_i32_338
  let v416 : BitVec 32 := Scalar.addi v414 v415
  v416.toNat
def k0_dev12 (d0 : Dev nD) : Nat :=
  let c0_i32_348 : BitVec 32 := 0#32
  let c1_i32_12 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_12 v2
  let c16_i32_347 : BitVec 32 := 16#32
  let v425 : BitVec 32 := Scalar.muli v19 c16_i32_347
  let v426 : BitVec 32 := Scalar.addi c0_i32_348 v425
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_349 : BitVec 32 := 4#32
  let v427 : BitVec 32 := Scalar.muli v5 c4_i32_349
  let v428 : BitVec 32 := Scalar.addi v426 v427
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_350 : BitVec 32 := 1#32
  let v429 : BitVec 32 := Scalar.muli v8 c1_i32_350
  let v430 : BitVec 32 := Scalar.addi v428 v429
  v430.toNat
def k0_off2 (d0 : Dev nD) : Fin 5 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_7 : BitVec 32 := 4#32
  let v14 : BitVec 32 := Scalar.addi v5 c4_i32_7
  let c1_i32_8 : BitVec 32 := 1#32
  let v15 : BitVec 32 := Scalar.subi v14 c1_i32_8
  let c4_i32_9 : BitVec 32 := 4#32
  let v16 : BitVec 32 := Scalar.remsi v15 c4_i32_9
  let c0_i32_387 : BitVec 32 := 0#32
  let c0_i32_388 : BitVec 32 := 0#32
  let c0_i32_389 : BitVec 32 := 0#32
  ![v2.toNat, v16.toNat, 0, 0, 0]
def k0_dev13 (d0 : Dev nD) : Nat :=
  let c0_i32_384 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_383 : BitVec 32 := 16#32
  let v463 : BitVec 32 := Scalar.muli v2 c16_i32_383
  let v464 : BitVec 32 := Scalar.addi c0_i32_384 v463
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v17 : BitVec 32 := Scalar.addi v5 c1_i32_10
  let c4_i32_11 : BitVec 32 := 4#32
  let v18 : BitVec 32 := Scalar.remsi v17 c4_i32_11
  let c4_i32_385 : BitVec 32 := 4#32
  let v465 : BitVec 32 := Scalar.muli v18 c4_i32_385
  let v466 : BitVec 32 := Scalar.addi v464 v465
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_386 : BitVec 32 := 1#32
  let v467 : BitVec 32 := Scalar.muli v8 c1_i32_386
  let v468 : BitVec 32 := Scalar.addi v466 v467
  v468.toNat
def k0_off3 (d0 : Dev nD) : Fin 5 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v17 : BitVec 32 := Scalar.addi v5 c1_i32_10
  let c4_i32_11 : BitVec 32 := 4#32
  let v18 : BitVec 32 := Scalar.remsi v17 c4_i32_11
  let c0_i32_399 : BitVec 32 := 0#32
  let c128_i32_400 : BitVec 32 := 128#32
  let c0_i32_401 : BitVec 32 := 0#32
  ![v2.toNat, v18.toNat, 0, 128, 0]
def k0_dev14 (d0 : Dev nD) : Nat :=
  let c0_i32_396 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_395 : BitVec 32 := 16#32
  let v477 : BitVec 32 := Scalar.muli v2 c16_i32_395
  let v478 : BitVec 32 := Scalar.addi c0_i32_396 v477
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_7 : BitVec 32 := 4#32
  let v14 : BitVec 32 := Scalar.addi v5 c4_i32_7
  let c1_i32_8 : BitVec 32 := 1#32
  let v15 : BitVec 32 := Scalar.subi v14 c1_i32_8
  let c4_i32_9 : BitVec 32 := 4#32
  let v16 : BitVec 32 := Scalar.remsi v15 c4_i32_9
  let c4_i32_397 : BitVec 32 := 4#32
  let v479 : BitVec 32 := Scalar.muli v16 c4_i32_397
  let v480 : BitVec 32 := Scalar.addi v478 v479
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_398 : BitVec 32 := 1#32
  let v481 : BitVec 32 := Scalar.muli v8 c1_i32_398
  let v482 : BitVec 32 := Scalar.addi v480 v481
  v482.toNat
def k0_off4 (d0 : Dev nD) : Fin 5 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_7 : BitVec 32 := 4#32
  let v14 : BitVec 32 := Scalar.addi v5 c4_i32_7
  let c1_i32_8 : BitVec 32 := 1#32
  let v15 : BitVec 32 := Scalar.subi v14 c1_i32_8
  let c4_i32_9 : BitVec 32 := 4#32
  let v16 : BitVec 32 := Scalar.remsi v15 c4_i32_9
  let c0_i32_411 : BitVec 32 := 0#32
  let c0_i32_412 : BitVec 32 := 0#32
  let c0_i32_413 : BitVec 32 := 0#32
  ![v2.toNat, v16.toNat, 0, 0, 0]
def k0_dev15 (d0 : Dev nD) : Nat :=
  let c0_i32_408 : BitVec 32 := 0#32
  let c1_i32_12 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_12 v2
  let c16_i32_407 : BitVec 32 := 16#32
  let v491 : BitVec 32 := Scalar.muli v19 c16_i32_407
  let v492 : BitVec 32 := Scalar.addi c0_i32_408 v491
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_409 : BitVec 32 := 4#32
  let v493 : BitVec 32 := Scalar.muli v5 c4_i32_409
  let v494 : BitVec 32 := Scalar.addi v492 v493
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_410 : BitVec 32 := 1#32
  let v495 : BitVec 32 := Scalar.muli v8 c1_i32_410
  let v496 : BitVec 32 := Scalar.addi v494 v495
  v496.toNat
def k0_off5 (d0 : Dev nD) (c1_i32_10 : BitVec 32) : Fin 5 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v17 : BitVec 32 := Scalar.addi v5 c1_i32_10
  let c4_i32_11 : BitVec 32 := 4#32
  let v18 : BitVec 32 := Scalar.remsi v17 c4_i32_11
  let c0_i32_423 : BitVec 32 := 0#32
  let c0_i32_424 : BitVec 32 := 0#32
  let c0_i32_425 : BitVec 32 := 0#32
  ![v2.toNat, v18.toNat, 0, 0, 0]
def k0_dev16 (d0 : Dev nD) : Nat :=
  let c0_i32_420 : BitVec 32 := 0#32
  let c1_i32_12 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_12 v2
  let c16_i32_419 : BitVec 32 := 16#32
  let v505 : BitVec 32 := Scalar.muli v19 c16_i32_419
  let v506 : BitVec 32 := Scalar.addi c0_i32_420 v505
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_421 : BitVec 32 := 4#32
  let v507 : BitVec 32 := Scalar.muli v5 c4_i32_421
  let v508 : BitVec 32 := Scalar.addi v506 v507
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_422 : BitVec 32 := 1#32
  let v509 : BitVec 32 := Scalar.muli v8 c1_i32_422
  let v510 : BitVec 32 := Scalar.addi v508 v509
  v510.toNat
def k0_dev17 (d0 : Dev nD) : Nat :=
  let c0_i32_458 : BitVec 32 := 0#32
  let c1_i32_12 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_12 v2
  let c16_i32_457 : BitVec 32 := 16#32
  let v545 : BitVec 32 := Scalar.muli v19 c16_i32_457
  let v546 : BitVec 32 := Scalar.addi c0_i32_458 v545
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_459 : BitVec 32 := 4#32
  let v547 : BitVec 32 := Scalar.muli v5 c4_i32_459
  let v548 : BitVec 32 := Scalar.addi v546 v547
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_460 : BitVec 32 := 1#32
  let v549 : BitVec 32 := Scalar.muli v8 c1_i32_460
  let v550 : BitVec 32 := Scalar.addi v548 v549
  v550.toNat
abbrev stage0_0 : Fin 1 → Memref sig .tc .vmem S2x256x8x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256x8x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x1024x8x64 : Shape := ⟨4, ![2, 1024, 8, 64]⟩
abbrev S2x8x1024x1024 : Shape := ⟨4, ![2, 8, 1024, 1024]⟩
abbrev S_ : Shape := ⟨0, ![]⟩
abbrev S2x8x1024 : Shape := ⟨3, ![2, 8, 1024]⟩
abbrev S2x8x1024x1 : Shape := ⟨4, ![2, 8, 1024, 1]⟩
abbrev S2x8x64x1024 : Shape := ⟨4, ![2, 8, 64, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2x1024x8x64, .bf16⟩
  | .hbm, ⟨1, _⟩ => ⟨S2x1024x8x64, .bf16⟩
  | .hbm, ⟨2, _⟩ => ⟨S2x1024x8x64, .bf16⟩
  | .hbm, ⟨3, _⟩ => ⟨S2x1024x8x64, .f32⟩
  | .hbm, ⟨4, _⟩ => ⟨S2x1024x8x64, .f32⟩
  | .hbm, ⟨5, _⟩ => ⟨S2x1024x8x64, .f32⟩
  | .hbm, ⟨6, _⟩ => ⟨S2x8x1024x1024, .f32⟩
  | .hbm, ⟨7, _⟩ => ⟨S_, .f32⟩
  | .hbm, ⟨8, _⟩ => ⟨S2x8x1024x1024, .f32⟩
  | .hbm, ⟨9, _⟩ => ⟨S2x8x1024x1024, .f32⟩
  | .hbm, ⟨10, _⟩ => ⟨S_, .f32⟩
  | .hbm, ⟨11, _⟩ => ⟨S2x8x1024, .f32⟩
  | .hbm, ⟨12, _⟩ => ⟨S2x8x1024x1, .f32⟩
  | .hbm, ⟨13, _⟩ => ⟨S2x8x1024x1024, .f32⟩
  | .hbm, ⟨14, _⟩ => ⟨S2x8x1024x1024, .f32⟩
  | .hbm, ⟨15, _⟩ => ⟨S2x8x1024x1024, .f32⟩
  | .hbm, ⟨16, _⟩ => ⟨S_, .f32⟩
  | .hbm, ⟨17, _⟩ => ⟨S2x8x1024, .f32⟩
  | .hbm, ⟨18, _⟩ => ⟨S2x8x1024x1, .f32⟩
  | .hbm, ⟨19, _⟩ => ⟨S2x8x1024x1024, .f32⟩
  | .hbm, ⟨20, _⟩ => ⟨S2x8x1024x1024, .f32⟩
  | .hbm, ⟨21, _⟩ => ⟨S2x8x64x1024, .f32⟩
  | .hbm, ⟨22, _⟩ => ⟨S2x1024x8x64, .f32⟩
  | _, _ => ⟨S2x1024x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Setup.lean ====
/-
# The exchange: the mesh, the values each device computes, the cells and the schedule

The 32 devices form a 2 × 4 × 4 mesh; device `c` sits at `x = c / 16`, `y = c / 4 % 4`, `z = c % 4`. Each device
selects one head of its own block of keys and values, the four devices of a `z` ring exchange those, every device
computes that head's attention for its rows, and the eight devices of one `z` exchange the results over `y` and `x`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Rounds.Family
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The mesh -/

def cx (c : Dev nD) : ℕ := c.val / 16
def cy (c : Dev nD) : ℕ := c.val / 4 % 4
def cz (c : Dev nD) : ℕ := c.val % 4

set_option backward.proofsInPublic true in
/-- The device at place `(x, y, z)`. -/
def dv (x y z : ℕ) : Dev nD := ⟨(16 * x + 4 * y + z) % 32, Nat.mod_lt _ (by decide)⟩

theorem cx_lt (c : Dev nD) : cx c < 2 := by have : c.val < 32 := c.isLt; unfold cx; omega
theorem cy_lt (c : Dev nD) : cy c < 4 := by unfold cy; omega
theorem cz_lt (c : Dev nD) : cz c < 4 := by unfold cz; omega
theorem dv_self (c : Dev nD) : dv (cx c) (cy c) (cz c) = c := by revert c; decide +kernel

/-- The five neighbours a device signals, in the order of the handshake: before and after it on the `z` ring, before
    and after it on the `y` ring, across `x`. -/
def nb : Fin 5 → Dev nD → Dev nD
  | 0, c => dv (cx c) (cy c) ((cz c + 3) % 4)
  | 1, c => dv (cx c) (cy c) ((cz c + 1) % 4)
  | 2, c => dv (cx c) ((cy c + 3) % 4) (cz c)
  | 3, c => dv (cx c) ((cy c + 1) % 4) (cz c)
  | 4, c => dv (1 - cx c) (cy c) (cz c)

/-- The opposite direction. -/
def opp : Fin 5 → Fin 5 := ![1, 0, 3, 2, 4]

theorem nb_opp : ∀ (d : Fin 5) (c : Dev nD), nb (opp d) (nb d c) = c := by decide +kernel
theorem nb_opp' : ∀ (d : Fin 5) (c : Dev nD), nb d (nb (opp d) c) = c := by decide +kernel

def nbE (d : Fin 5) : Dev nD ≃ Dev nD := ⟨nb d, nb (opp d), nb_opp d, nb_opp' d⟩

/-- The direction of copy `i`: four copies over the `z` ring, four over the `y` ring, four across `x`. -/
def dirOf : Fin 12 → Fin 5 := ![1, 0, 1, 0, 3, 2, 3, 2, 4, 4, 4, 4]
/-- The device copy `i` of `c` goes to, -/
def peer (i : Fin 12) (c : Dev nD) : Dev nD := nb (dirOf i) c
/-- and the one whose copy `i` comes to `c`. -/
def from' (i : Fin 12) (c : Dev nD) : Dev nD := nb (opp (dirOf i)) c

theorem from_peer (i : Fin 12) (c : Dev nD) : from' i (peer i c) = c := nb_opp _ _
theorem peer_from (i : Fin 12) (c : Dev nD) : peer i (from' i c) = c := nb_opp' _ _
def peerE (i : Fin 12) : Dev nD ≃ Dev nD := ⟨peer i, from' i, from_peer i, peer_from i⟩

/-- The device `k` places after `c` on its `z` ring. -/
def zadd (c : Dev nD) (k : ℕ) : Dev nD := dv (cx c) (cy c) ((cz c + k) % 4)

/-- The `y` coordinate of the result slot copy `i` of `c` carries. -/
def plY : Fin 12 → Dev nD → ℕ
  | 6, c | 9, c => (cy c + 3) % 4
  | 7, c | 10, c => (cy c + 1) % 4
  | 11, c => (cy c + 2) % 4
  | _, c => cy c

/-! ## The values -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s blocks of the queries, the keys and the values. -/
def qB (c : Dev nD) : (cc0_stg0_0 : Ref sig .tc).ty.Contents (Elt F) :=
  (win0_0.blk (0 : Fin 1)).view.read (Elt F) (m ((c : Thread nD τ).loc main_arg0))
def kB (c : Dev nD) : (cc0_stg1_0 : Ref sig .tc).ty.Contents (Elt F) :=
  (win0_1.blk (0 : Fin 1)).view.read (Elt F) (m ((c : Thread nD τ).loc main_arg1))
def vB (c : Dev nD) : (cc0_stg2_0 : Ref sig .tc).ty.Contents (Elt F) :=
  (win0_2.blk (0 : Fin 1)).view.read (Elt F) (m ((c : Thread nD τ).loc main_arg2))

abbrev qM : Memref sig .tc .vmem S2x256x8x64 .bf16 := Memref.whole cc0_stg0_0
abbrev kM : Memref sig .tc .vmem S2x256x8x64 .bf16 := Memref.whole cc0_stg1_0
abbrev vM : Memref sig .tc .vmem S2x256x8x64 .bf16 := Memref.whole cc0_stg2_0
abbrev oM : Memref sig .tc .vmem S2x256x8x64 .f32 := Memref.whole cc0_stg3_0
abbrev kvM : Memref sig .tc .vmem S4x2x2x256x64 .bf16 := Memref.whole cc0_scratch0
abbrev plM : Memref sig .tc .vmem S2x4x2x256x64 .bf16 := Memref.whole cc0_scratch1

abbrev cst0 : FVec F S256x64 .f32 := constant S256x64 .f32 0x00000000#32

def v29 (c : Dev nD) : FVec F S512x64 .f32 := k0_pay1 c
def v32 (c : Dev nD) : FVec F S2x256x512 .bf16 := k0_pay2 (kB m c)
def v34 (c : Dev nD) : FVec F S256x512 .bf16 := k0_pay3 (kB m c)
/-- The selected head of the device's own keys and values, as computed and as stored. -/
def v42 (c : Dev nD) : FVec F S2x256x64 .bf16 := k0_pay4 (v29 c) (v32 m c) (v34 m c) cst0
def v55 (c : Dev nD) : FVec F S2x256x64 .bf16 := k0_pay5 (v29 c) (vB m c)
def v58 (c : Dev nD) : FVec F S1x1x2x256x64 .bf16 := k0_pay6 (v29 c) (v32 m c) (v34 m c) cst0
def v61 (c : Dev nD) : FVec F S1x1x2x256x64 .bf16 := k0_pay7 (v29 c) (vB m c)

abbrev ix5 {n0 n1 n2 n3 n4 : ℕ} (a : Fin n0) (b : Fin n1) (c : Fin n2) (d : Fin n3) (e : Fin n4) : (⟨5, ![n0, n1, n2, n3, n4]⟩ : Shape).Idx :=
  Fin.cons a (Fin.cons b (Fin.cons c (Fin.cons d (Fin.cons e finZeroElim))))
abbrev ix4 {n0 n1 n2 n3 : ℕ} (a : Fin n0) (b : Fin n1) (c : Fin n2) (d : Fin n3) : (⟨4, ![n0, n1, n2, n3]⟩ : Shape).Idx :=
  Fin.cons a (Fin.cons b (Fin.cons c (Fin.cons d finZeroElim)))

/-- What ends up in the exchange buffer of `c`: slot `k` the selected head of the device `k` after it on the ring. -/
def kvF (c : Dev nD) : (cc0_scratch0 : Ref sig .tc).ty.Contents (Elt F) := fun (i : S4x2x2x256x64.Idx) =>
  if (i (1 : Fin 5)).val = 0 then v58 m (zadd c (i (0 : Fin 5)).val) (ix5 0 0 (i (2 : Fin 5)) (i (3 : Fin 5)) (i (4 : Fin 5)))
  else v61 m (zadd c (i (0 : Fin 5)).val) (ix5 0 0 (i (2 : Fin 5)) (i (3 : Fin 5)) (i (4 : Fin 5)))

/-- What a load of the exchange buffer at `off` reads once its slots are filled. -/
abbrev kvLd (c : Dev nD) (off size : Fin 5 → ℕ) (h : ∀ a, off a + size a ≤ S4x2x2x256x64.size a) :
    (⟨5, size⟩ : Shape).Idx → Elt F .bf16 :=
  kvM.view.readAt (Elt F) (Rect.unit (s := S4x2x2x256x64) off size h).toLoadRect (kvF m c)

def v123 (c : Dev nD) : FVec F S2x256x512 .bf16 := k0_pay8 (qB m c)
def v124 (c : Dev nD) : FVec F S1x256x512 .bf16 := k0_pay9 (qB m c)
def v135 (c : Dev nD) : FVec F S2x256x64 .bf16 := k0_pay10 (v29 c) (v123 m c) (v124 m c)
def v145 (c : Dev nD) : FVec F S256x64 .f32 := k0_pay12 (v29 c) (v42 m c) (v55 m c) (v123 m c) (v124 m c)
def v147 (c : Dev nD) : FVec F S256x1 .f32 := k0_pay13 (v29 c) (v42 m c) (v123 m c) (v124 m c)
def v157 (c : Dev nD) : FVec F S256x64 .f32 := k0_pay15 (v29 c) (v42 m c) (v55 m c) (v123 m c) (v124 m c)
def v159 (c : Dev nD) : FVec F S256x1 .f32 := k0_pay16 (v29 c) (v42 m c) (v123 m c) (v124 m c)

def v212 (c : Dev nD) : Vec F S1x1x1x256x64 .bf16 := kvLd m c ![3, 0, 0, 0, 0] S1x1x1x256x64.size inb_S4x2x2x256x64_S1x1x1x256x64_3_0_0_0_0
def v214 (c : Dev nD) : Vec F S1x1x1x256x64 .bf16 := kvLd m c ![3, 1, 0, 0, 0] S1x1x1x256x64.size inb_S4x2x2x256x64_S1x1x1x256x64_3_1_0_0_0
def v226 (c : Dev nD) : Vec F S1x1x1x256x64 .bf16 := kvLd m c ![3, 0, 1, 0, 0] S1x1x1x256x64.size inb_S4x2x2x256x64_S1x1x1x256x64_3_0_1_0_0
def v228 (c : Dev nD) : Vec F S1x1x1x256x64 .bf16 := kvLd m c ![3, 1, 1, 0, 0] S1x1x1x256x64.size inb_S4x2x2x256x64_S1x1x1x256x64_3_1_1_0_0
def v240 (c : Dev nD) : Vec F S1x1x1x256x64 .bf16 := kvLd m c ![1, 0, 0, 0, 0] S1x1x1x256x64.size inb_S4x2x2x256x64_S1x1x1x256x64_1_0_0_0_0
def v242 (c : Dev nD) : Vec F S1x1x1x256x64 .bf16 := kvLd m c ![1, 1, 0, 0, 0] S1x1x1x256x64.size inb_S4x2x2x256x64_S1x1x1x256x64_1_1_0_0_0
def v254 (c : Dev nD) : Vec F S1x1x1x256x64 .bf16 := kvLd m c ![1, 0, 1, 0, 0] S1x1x1x256x64.size inb_S4x2x2x256x64_S1x1x1x256x64_1_0_1_0_0
def v256 (c : Dev nD) : Vec F S1x1x1x256x64 .bf16 := kvLd m c ![1, 1, 1, 0, 0] S1x1x1x256x64.size inb_S4x2x2x256x64_S1x1x1x256x64_1_1_1_0_0
def v280 (c : Dev nD) : Vec F S1x1x1x128x64 .bf16 := kvLd m c ![2, 0, 0, 0, 0] S1x1x1x128x64.size inb_S4x2x2x256x64_S1x1x1x128x64_2_0_0_0_0
def v282 (c : Dev nD) : Vec F S1x1x1x128x64 .bf16 := kvLd m c ![2, 1, 0, 0, 0] S1x1x1x128x64.size inb_S4x2x2x256x64_S1x1x1x128x64_2_1_0_0_0
def v294 (c : Dev nD) : Vec F S1x1x1x128x64 .bf16 := kvLd m c ![2, 0, 1, 0, 0] S1x1x1x128x64.size inb_S4x2x2x256x64_S1x1x1x128x64_2_0_1_0_0
def v296 (c : Dev nD) : Vec F S1x1x1x128x64 .bf16 := kvLd m c ![2, 1, 1, 0, 0] S1x1x1x128x64.size inb_S4x2x2x256x64_S1x1x1x128x64_2_1_1_0_0
def v320 (c : Dev nD) : Vec F S1x1x1x128x64 .bf16 := kvLd m c ![2, 0, 0, 128, 0] S1x1x1x128x64.size inb_S4x2x2x256x64_S1x1x1x128x64_2_0_0_128_0
def v322 (c : Dev nD) : Vec F S1x1x1x128x64 .bf16 := kvLd m c ![2, 1, 0, 128, 0] S1x1x1x128x64.size inb_S4x2x2x256x64_S1x1x1x128x64_2_1_0_128_0
def v334 (c : Dev nD) : Vec F S1x1x1x128x64 .bf16 := kvLd m c ![2, 0, 1, 128, 0] S1x1x1x128x64.size inb_S4x2x2x256x64_S1x1x1x128x64_2_0_1_128_0
def v336 (c : Dev nD) : Vec F S1x1x1x128x64 .bf16 := kvLd m c ![2, 1, 1, 128, 0] S1x1x1x128x64.size inb_S4x2x2x256x64_S1x1x1x128x64_2_1_1_128_0

def v213 (c : Dev nD) : FVec F S256x64 .bf16 := k0_pay17 (v212 m c)
def v215 (c : Dev nD) : FVec F S256x64 .bf16 := k0_pay18 (v214 m c)
def v217 (c : Dev nD) : FVec F S256x64 .bf16 := k0_pay19 (v135 m c)
def v224 (c : Dev nD) : FVec F S256x64 .f32 := k0_pay21 (v145 m c) (v213 m c) (v215 m c) (v217 m c)
def v225 (c : Dev nD) : FVec F S256x1 .f32 := k0_pay22 (v147 m c) (v213 m c) (v217 m c)
def v238 (c : Dev nD) : FVec F S256x64 .f32 := k0_pay24 (v135 m c) (v157 m c) (v226 m c) (v228 m c)
def v239 (c : Dev nD) : FVec F S256x1 .f32 := k0_pay25 (v135 m c) (v159 m c) (v226 m c)
def v247 (c : Dev nD) : FVec F S256x256 .f32 := k0_pay26 (v135 m c) (v240 m c)
def v249 (c : Dev nD) : FVec F S256x64 .f32 := k0_pay27 (v135 m c) (v240 m c) (v242 m c)
def v252 (c : Dev nD) : FVec F S256x64 .f32 := k0_pay28 (v224 m c) (v249 m c)
def v253 (c : Dev nD) : FVec F S256x1 .f32 := k0_pay29 (v225 m c) (v247 m c)
def v266 (c : Dev nD) : FVec F S256x64 .f32 := k0_pay31 (v135 m c) (v238 m c) (v254 m c) (v256 m c)
def v267 (c : Dev nD) : FVec F S256x1 .f32 := k0_pay32 (v135 m c) (v239 m c) (v254 m c)
def v292 (c : Dev nD) : FVec F S256x64 .f32 := k0_pay34 (v135 m c) (v252 m c) (v280 m c) (v282 m c)
def v293 (c : Dev nD) : FVec F S256x1 .f32 := k0_pay35 (v135 m c) (v253 m c) (v280 m c)
def v306 (c : Dev nD) : FVec F S256x64 .f32 := k0_pay37 (v135 m c) (v266 m c) (v294 m c) (v296 m c)
def v307 (c : Dev nD) : FVec F S256x1 .f32 := k0_pay38 (v135 m c) (v267 m c) (v294 m c)
def v332 (c : Dev nD) : FVec F S256x64 .f32 := k0_pay40 (v135 m c) (v292 m c) (v320 m c) (v322 m c)
def v333 (c : Dev nD) : FVec F S256x1 .f32 := k0_pay41 (v135 m c) (v293 m c) (v320 m c)
def v335 (c : Dev nD) : FVec F S128x64 .bf16 := k0_pay42 (v334 m c)
/-- The attention result of the device's head for its rows. -/
def v356 (c : Dev nD) : FVec F S2x256x64 .bf16 := k0_pay43 (v135 m c) (v306 m c) (v307 m c) (v332 m c) (v333 m c) (v335 m c) (v336 m c)
def myO (c : Dev nD) : FVec F S1x1x2x256x64 .bf16 := k0_pay47 (v356 m c)

/-- What ends up in the result plane of `c`: slot `(x, y)` the result of the device at `(x, y)` on its `z`. -/
def plF (c : Dev nD) : (cc0_scratch1 : Ref sig .tc).ty.Contents (Elt F) := fun (i : S2x4x2x256x64.Idx) =>
  myO m (dv (i (0 : Fin 5)).val (i (1 : Fin 5)).val (cz c)) (ix5 0 0 (i (2 : Fin 5)) (i (3 : Fin 5)) (i (4 : Fin 5)))

abbrev plLd (c : Dev nD) (off : Fin 5 → ℕ) (h : ∀ a, off a + S1x1x2x256x64.size a ≤ S2x4x2x256x64.size a) :
    Vec F S1x1x2x256x64 .bf16 :=
  plM.view.readAt (Elt F) (Rect.unit (s := S2x4x2x256x64) off S1x1x2x256x64.size h).toLoadRect (plF m c)

/-- The two halves of the output block: heads `0..3` and heads `4..7`. -/
def outLo (c : Dev nD) : FVec F S2x256x4x64 .f32 := k0_pay52
  (plLd m c ![0, 0, 0, 0, 0] inb_S2x4x2x256x64_S1x1x2x256x64_0_0_0_0_0) (plLd m c ![0, 1, 0, 0, 0] inb_S2x4x2x256x64_S1x1x2x256x64_0_1_0_0_0)
  (plLd m c ![0, 2, 0, 0, 0] inb_S2x4x2x256x64_S1x1x2x256x64_0_2_0_0_0) (plLd m c ![0, 3, 0, 0, 0] inb_S2x4x2x256x64_S1x1x2x256x64_0_3_0_0_0)
def outHi (c : Dev nD) : FVec F S2x256x4x64 .f32 := k0_pay53
  (plLd m c ![1, 0, 0, 0, 0] inb_S2x4x2x256x64_S1x1x2x256x64_1_0_0_0_0) (plLd m c ![1, 1, 0, 0, 0] inb_S2x4x2x256x64_S1x1x2x256x64_1_1_0_0_0)
  (plLd m c ![1, 2, 0, 0, 0] inb_S2x4x2x256x64_S1x1x2x256x64_1_2_0_0_0) (plLd m c ![1, 3, 0, 0, 0] inb_S2x4x2x256x64_S1x1x2x256x64_1_3_0_0_0)

/-- The output block of device `c`. -/
def outF (c : Dev nD) : (cc0_stg3_0 : Ref sig .tc).ty.Contents (Elt F) := fun (i : S2x256x8x64.Idx) =>
  if h : (i (2 : Fin 4)).val < 4 then outLo m c (ix4 (i (0 : Fin 4)) (i (1 : Fin 4)) ⟨(i (2 : Fin 4)).val, h⟩ (i (3 : Fin 4)))
  else outHi m c (ix4 (i (0 : Fin 4)) (i (1 : Fin 4)) ⟨(i (2 : Fin 4)).val - 4, by have : (i (2 : Fin 4)).val < 8 := (i (2 : Fin 4)).isLt; omega⟩ (i (3 : Fin 4)))

end Cert.Exchange

end
-- ==== Proof.Sched.lean ====
/-
# The cells, the schedule of the handshake and of the twelve copies, what each device owes, the levels
-/
module

public import proofs.«01_k».proof.Proof.Setup

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The cells -/

/-- The runtime's barrier semaphore. -/
abbrev barS : Sem sig := (SemArray.scalar (sig.barrier 0 rfl) : Sems sig S_).sem

/-- The send and the receive semaphore of copy `i`. -/
def sendS : Fin 12 → DmaSem sig
  | 0 => (4 : Fin 28) | 1 => (5 : Fin 28) | 2 => (6 : Fin 28) | 3 => (7 : Fin 28)
  | 4 => (12 : Fin 28) | 5 => (13 : Fin 28) | 6 => (14 : Fin 28) | 7 => (15 : Fin 28)
  | 8 => (20 : Fin 28) | 9 => (21 : Fin 28) | 10 => (22 : Fin 28) | 11 => (23 : Fin 28)
def recvS : Fin 12 → DmaSem sig
  | 0 => (8 : Fin 28) | 1 => (9 : Fin 28) | 2 => (10 : Fin 28) | 3 => (11 : Fin 28)
  | 4 => (16 : Fin 28) | 5 => (17 : Fin 28) | 6 => (18 : Fin 28) | 7 => (19 : Fin 28)
  | 8 => (24 : Fin 28) | 9 => (25 : Fin 28) | 10 => (26 : Fin 28) | 11 => (27 : Fin 28)

/-- The kinds of cell: the barrier's, a copy's send side, a copy's receive side. -/
abbrev CK : Type := Option (Fin 12 ⊕ Fin 12)

def csem : CK → SemLoc sig
  | none => .reg barS
  | some (.inl i) => .dma (sendS i)
  | some (.inr i) => .dma (recvS i)

/-- The cell kinds in a list, and the kind of a semaphore. -/
def ckList : List CK := none :: ((List.finRange 12).map fun i => some (.inl i)) ++ (List.finRange 12).map fun i => some (.inr i)
def kof (s : SemLoc sig) : Option CK := ckList.find? fun k => decide (csem k = s)

theorem kof_csem : ∀ k : CK, kof (csem k) = some k := by decide +kernel
theorem csem_injective : Function.Injective csem := fun a b h => by
  have := kof_csem a; rw [h, kof_csem b] at this; exact (Option.some.inj this).symm

abbrev kcell (ck : Dev nD × CK) : GSem nD τ sig := ((ck.1 : Thread nD τ), csem ck.2)
abbrev barC (c : Dev nD) : GSem nD τ sig := kcell (c, none)
abbrev sendC (c : Dev nD) (i : Fin 12) : GSem nD τ sig := kcell (c, some (.inl i))
abbrev recvC (c : Dev nD) (i : Fin 12) : GSem nD τ sig := kcell (c, some (.inr i))

/-- The credit of copy `i`. -/
def amt : Fin 12 → ℕ
  | 0 | 1 => (cc0_scratch0 : Ref sig .tc).dmaCredit S2x2x256x64 .bf16
  | 2 | 3 => (cc0_scratch0 : Ref sig .tc).dmaCredit S2x2x128x64 .bf16
  | 6 | 7 => (cc0_scratch1 : Ref sig .tc).dmaCredit S2x128x64 .bf16
  | _ => (cc0_scratch1 : Ref sig .tc).dmaCredit S2x256x64 .bf16
theorem amt_pos (i : Fin 12) : 0 < amt i := by
  unfold amt; split <;> exact sig.dmaCredit_pos _ _ _ _ _ (by decide)

/-! ## Regions of the two scratch buffers -/

def kvReg (k lo hi : ℕ) : Finset S4x2x2x256x64.Idx :=
  Finset.univ.filter fun i => (i (0 : Fin 5)).val = k ∧ lo ≤ (i (3 : Fin 5)).val ∧ (i (3 : Fin 5)).val < hi
def plReg (x y lo hi : ℕ) : Finset S2x4x2x256x64.Idx :=
  Finset.univ.filter fun i => (i (0 : Fin 5)).val = x ∧ (i (1 : Fin 5)).val = y ∧ lo ≤ (i (3 : Fin 5)).val ∧ (i (3 : Fin 5)).val < hi
def rowReg (x : ℕ) : Finset S2x4x2x256x64.Idx := Finset.univ.filter fun i => (i (0 : Fin 5)).val = x

abbrev kvP (c : Dev nD) (S : Finset S4x2x2x256x64.Idx) (q : PosShare TreeShare) (f : Buf (Elt F) ((c : Thread nD τ).loc cc0_scratch0)) : sProp 𝕄 :=
  (c : Thread nD τ).loc cc0_scratch0 ↦[S]{q} f
abbrev plP (c : Dev nD) (S : Finset S2x4x2x256x64.Idx) (q : PosShare TreeShare) (f : Buf (Elt F) ((c : Thread nD τ).loc cc0_scratch1)) : sProp 𝕄 :=
  (c : Thread nD τ).loc cc0_scratch1 ↦[S]{q} f

abbrev yl (c : Dev nD) : ℕ := (cy c + 3) % 4
abbrev yr (c : Dev nD) : ℕ := (cy c + 1) % 4
abbrev yo (c : Dev nD) : ℕ := (cy c + 2) % 4

/-- What device `n` hands over with its signal in direction `d`: the pieces of its buffers that the device it signals
    will fill. -/
def give (d : Fin 5) (n : Dev nD) : sProp 𝕄 := match d with
  | 0 => iprop((∃ f, kvP n (kvReg 3 0 256) fullShare f) ∗ (∃ f, kvP n (kvReg 2 0 128) fullShare f))
  | 1 => iprop((∃ f, kvP n (kvReg 1 0 256) fullShare f) ∗ (∃ f, kvP n (kvReg 2 128 256) fullShare f))
  | 2 => iprop((∃ f, plP n (plReg (cx n) (yl n) 0 256) fullShare f) ∗ (∃ f, plP n (plReg (cx n) (yo n) 0 128) fullShare f))
  | 3 => iprop((∃ f, plP n (plReg (cx n) (yr n) 0 256) fullShare f) ∗ (∃ f, plP n (plReg (cx n) (yo n) 128 256) fullShare f))
  | 4 => iprop(∃ f, plP n (rowReg (1 - cx n)) fullShare f)

/-- What the send cell of copy `i` gives back: the share of the source that was lent. -/
def sendPay (i : Fin 12) (c : Dev nD) : sProp 𝕄 := match i with
  | 0 => kvP c (kvReg 0 0 256) fullShare.left (kvF m c)
  | 1 => kvP c (kvReg 0 0 256) fullShare.right (kvF m c)
  | 2 => kvP c (kvReg 3 0 128) fullShare.left (kvF m c)
  | 3 => kvP c (kvReg 1 128 256) fullShare.left (kvF m c)
  | 4 => plP c (plReg (cx c) (cy c) 0 256) fullShare.left.left (plF m c)
  | 5 => plP c (plReg (cx c) (cy c) 0 256) fullShare.left.right (plF m c)
  | 6 => plP c (plReg (cx c) (yl c) 0 128) fullShare.left (plF m c)
  | 7 => plP c (plReg (cx c) (yr c) 128 256) fullShare.left (plF m c)
  | 8 => plP c (plReg (cx c) (cy c) 0 256) fullShare.right.left (plF m c)
  | 9 => plP c (plReg (cx c) (yl c) 0 256) fullShare.right.left (plF m c)
  | 10 => plP c (plReg (cx c) (yr c) 0 256) fullShare.right.left (plF m c)
  | 11 => plP c (plReg (cx c) (yo c) 0 256) fullShare.left (plF m c)

/-- What the receive cell of copy `i` hands over: the piece that has come in. -/
def recvPay (i : Fin 12) (c : Dev nD) : sProp 𝕄 := match i with
  | 0 => kvP c (kvReg 3 0 256) fullShare (kvF m c)
  | 1 => kvP c (kvReg 1 0 256) fullShare (kvF m c)
  | 2 => kvP c (kvReg 2 0 128) fullShare (kvF m c)
  | 3 => kvP c (kvReg 2 128 256) fullShare (kvF m c)
  | 4 => plP c (plReg (cx c) (yl c) 0 256) fullShare (plF m c)
  | 5 => plP c (plReg (cx c) (yr c) 0 256) fullShare (plF m c)
  | 6 => plP c (plReg (cx c) (yo c) 0 128) fullShare (plF m c)
  | 7 => plP c (plReg (cx c) (yo c) 128 256) fullShare (plF m c)
  | 8 => plP c (plReg (1 - cx c) (cy c) 0 256) fullShare (plF m c)
  | 9 => plP c (plReg (1 - cx c) (yl c) 0 256) fullShare (plF m c)
  | 10 => plP c (plReg (1 - cx c) (yr c) 0 256) fullShare (plF m c)
  | 11 => plP c (plReg (1 - cx c) (yo c) 0 256) fullShare (plF m c)

def pay (k : CK) (c : Dev nD) (d : Fin 5) : sProp 𝕄 := match k with
  | none => give d (nb (opp d) c)
  | some (.inl i) => sendPay m i c
  | some (.inr i) => recvPay m i c

omit [FloatOps F] in
instance give_storable (d : Fin 5) (n : Dev nD) : BI.Storable (upEmb : UEmb _ 𝕄) (give (F := F) d n) := by
  unfold give; split <;> infer_instance
instance sendPay_storable (i : Fin 12) (c : Dev nD) : BI.Storable (upEmb : UEmb _ 𝕄) (sendPay m i c) := by
  unfold sendPay; split <;> infer_instance
instance recvPay_storable (i : Fin 12) (c : Dev nD) : BI.Storable (upEmb : UEmb _ 𝕄) (recvPay m i c) := by
  unfold recvPay; split <;> infer_instance
instance pay_storable (k : CK) (c : Dev nD) (d : Fin 5) : BI.Storable (upEmb : UEmb _ 𝕄) (pay m k c d) := by
  unfold pay; split <;> infer_instance

/-! ## The schedule -/

def kdut (k : CK) : Finset (Fin 5) := match k with | none => Finset.univ | some _ => {0}
def kamt (k : CK) : ℕ := match k with | none => 1 | some (.inl i) => amt i | some (.inr i) => amt i
theorem kamt_pos (k : CK) : 0 < kamt k := by unfold kamt; split <;> first | exact Nat.one_pos | exact amt_pos _

/-- One round, round 0: a barrier cell has one duty of one unit per direction, a send or receive cell the duty `0` of
    its copy's credit. -/
def Rd : Rounds.Schedule (GSem nD τ sig) (Fin 5) 𝕄 where
  duties g r := if r = 0 ∧ g.1.2 = .tc then (match kof g.2 with | some k => kdut k | none => ∅) else ∅
  unitless _ := False
  amount g _ _ := match kof g.2 with | some k => kamt k | none => 1
  payload g _ d := match kof g.2 with | some k => pay m k g.1.1 d | none => iprop(emp)
  amount_pos g _ _ _ := by split; exacts [kamt_pos _, Nat.one_pos]

instance Rd_payload_storable (g : GSem nD τ sig) (r : ℕ) (d : Fin 5) :
    BI.Storable (upEmb : UEmb _ 𝕄) ((Rd m).payload g r d) := by
  show BI.Storable upEmb (match kof g.2 with | some k => pay m k g.1.1 d | none => iprop(emp))
  split <;> infer_instance

section Sched
variable (c : Dev nD) (k : CK)

theorem duties_k : (Rd m).duties (kcell (c, k)) 0 = kdut k := by
  dsimp only [Rd]; rw [if_pos ⟨rfl, rfl⟩, kof_csem]
theorem duties_later (g : GSem nD τ sig) : ∀ r, 1 ≤ r → (Rd m).duties g r = ∅ :=
  fun r hr => by dsimp only [Rd]; rw [if_neg fun h => by omega]
theorem amount_k (d : Fin 5) : (Rd m).amount (kcell (c, k)) 0 d = kamt k := by dsimp only [Rd]; rw [kof_csem]
theorem payload_k (d : Fin 5) : (Rd m).payload (kcell (c, k)) 0 d = pay m k c d := by dsimp only [Rd]; rw [kof_csem]
theorem expect_bar : (Rd m).expect (barC c) 0 = 5 := by
  unfold Schedule.expect Schedule.amountOf
  rw [duties_k, Finset.sum_congr rfl fun d _ => amount_k m c none d]; rfl
theorem expect_some (j : Fin 12 ⊕ Fin 12) : (Rd m).expect (kcell (c, some j)) 0 = kamt (some j) := by
  unfold Schedule.expect Schedule.amountOf
  rw [duties_k]; exact (Finset.sum_singleton _ _).trans (amount_k m c _ _)
theorem rest_some (j : Fin 12 ⊕ Fin 12) :
    bigSep ((Rd m).duties (kcell (c, some j)) 0 \ ∅) (fun d => (Rd m).payload (kcell (c, some j)) 0 d) = pay m (some j) c 0 := by
  rw [Finset.sdiff_empty, duties_k]; exact (bigSep_singleton).trans (payload_k m c _ _)
theorem rest_bar :
    bigSep ((Rd m).duties (barC c) 0 \ ∅) (fun d => (Rd m).payload (barC c) 0 d)
      = iprop(give 0 (nb 1 c) ∗ give 1 (nb 0 c) ∗ give 2 (nb 3 c) ∗ give 3 (nb 2 c) ∗ give 4 (nb 4 c)) := by
  rw [Finset.sdiff_empty, duties_k]
  show bigSep Finset.univ _ = _
  rw [bigSep_univ_eq_bigSepL [0, 1, 2, 3, 4] (by decide) (by decide), bigSepL_cons_cons, bigSepL_cons_cons, bigSepL_cons_cons, bigSepL_cons_cons,
    bigSepL_singleton, payload_k, payload_k, payload_k, payload_k, payload_k]
  rfl

end Sched

/-! ## What each device owes at launch; the levels -/

/-- The copies in the order they are started. -/
def ord : Fin 12 → Fin 12 := ![0, 1, 2, 3, 4, 5, 8, 6, 7, 9, 10, 11]

/-- The seventeen things a device owes, in program order: five signals, twelve arrivals. -/
def oblK (j : ℕ) : CK := if j < 5 then none else some (.inr (ord (Fin.ofNat 12 (j - 5))))
def oblD (j : ℕ) : Fin 5 := if j < 5 then Fin.ofNat 5 j else dirOf (ord (Fin.ofNat 12 (j - 5)))
def obl (c : Dev nD) (j : ℕ) : CellTallies nD τ sig Unit := tallyAt (kcell (nb (oblD j) c, oblK j)) () (kamt (oblK j))

/-- What is still owed when `n` of them are left. -/
def Or (c : Dev nD) : ℕ → CellTallies nD τ sig Unit
  | 0 => 0
  | n + 1 => Or c n + obl c (16 - n)

def klev : CK → ℕ
  | none => 1
  | some (.inl _) => 0
  | some (.inr i) => ![2, 2, 3, 3, 4, 4, 5, 5, 6, 6, 6, 6] i

def L (g : GSem nD τ sig) : Finset Unit := if g.1.2 = .tc then {()} else ∅
def lv (g : GSem nD τ sig) (_ : Unit) : ℕ := match kof g.2 with | some k => klev k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : CK) (u : Unit) : lv (kcell (c, k)) u = klev k := by unfold lv; rw [kof_csem]

theorem Or_pos {c : Dev nD} {g : GSem nD τ sig} {u : Unit} : ∀ {n : ℕ}, n ≤ 17 → 0 < Or c n g u →
    ∃ j, 17 - n ≤ j ∧ j < 17 ∧ g = kcell (nb (oblD j) c, oblK j)
  | 0, _, h => absurd h (by simp [Or])
  | n + 1, hn, h => by
      unfold Or at h
      rw [Pi.add_apply, Finsupp.add_apply] at h
      by_cases h' : 0 < Or c n g u
      · obtain ⟨j, h1, h2, h3⟩ := Or_pos (by omega) h'
        exact ⟨j, by omega, h2, h3⟩
      · refine ⟨16 - n, by omega, by omega, ?_⟩
        unfold obl at h
        rw [tallyAt_apply] at h
        by_contra hg
        rw [if_neg fun h'' => hg h''.1] at h
        omega

omit [FloatOps F] in
/-- A wait at a cell of level `ℓ` is allowed while everything still owed is above it. -/
theorem mayWait_of (c : Dev nD) (sm : SemLoc sig) (ℓ n : ℕ) (hn : n ≤ 17) (hsm : lv ((c : Thread nD τ), sm) () = ℓ)
    (h : ∀ j < 17, 17 - n ≤ j → ℓ < klev (oblK j)) :
    (levAts L lv : sProp 𝕄) ⊢ MayWait (c : Thread nD τ) sm () (Or c n) :=
  MayOwe.of_cut (L := L) (lev := lv) ℓ (fun p hp => by rw [Finset.mem_singleton.mp hp, L_tc]; exact Finset.mem_singleton_self _)
    (fun g u hg => by obtain ⟨j, _, _, rfl⟩ := Or_pos hn hg; exact Finset.mem_singleton_self _)
    (fun p hp => by rw [Finset.mem_singleton.mp hp, hsm])
    (fun g u hg => by
      obtain ⟨j, h1, h2, rfl⟩ := Or_pos hn hg
      rw [lv_k]; exact h j h2 h1)

end Cert.Exchange

end
-- ==== Proof.Regions.lean ====
/-
# The regions of the two scratch buffers: which elements a slice covers, how regions split, what a copy leaves
-/
module

public import proofs.«01_k».proof.Proof.Sched

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## Slices as regions -/

theorem kv_unit_set (k lo h : ℕ) (off size : Fin 5 → ℕ) (inb : ∀ a, off a + size a ≤ S4x2x2x256x64.size a)
    (hoff : off = ![k, 0, 0, lo, 0]) (hs : size = ![1, 2, 2, h, 64]) :
    (Rect.unit (s := S4x2x2x256x64) off size inb).set = kvReg k lo (lo + h) := by
  subst hoff hs
  ext i
  rw [Rect.mem_set_unit, kvReg, Finset.mem_filter]
  constructor
  · intro H
    have h0 := H (0 : Fin 5); have h3 := H (3 : Fin 5)
    simp at h0 h3
    exact ⟨Finset.mem_univ _, by omega, by omega, by omega⟩
  · rintro ⟨-, a, b, d⟩ q
    have hq := (i q).isLt
    fin_cases q <;> simp at hq ⊢ <;> omega

theorem pl_unit_set (x y lo h : ℕ) (off size : Fin 5 → ℕ) (inb : ∀ a, off a + size a ≤ S2x4x2x256x64.size a)
    (hoff : off = ![x, y, 0, lo, 0]) (hs : size = ![1, 1, 2, h, 64]) :
    (Rect.unit (s := S2x4x2x256x64) off size inb).set = plReg x y lo (lo + h) := by
  subst hoff hs
  ext i
  rw [Rect.mem_set_unit, plReg, Finset.mem_filter]
  constructor
  · intro H
    have h0 := H (0 : Fin 5); have h1 := H (1 : Fin 5); have h3 := H (3 : Fin 5)
    simp at h0 h1 h3
    exact ⟨Finset.mem_univ _, by omega, by omega, by omega, by omega⟩
  · rintro ⟨-, a, a', b, d⟩ q
    have hq := (i q).isLt
    fin_cases q <;> simp at hq ⊢ <;> omega

theorem kv_unit_sub (k lo hi : ℕ) (off size : Fin 5 → ℕ) (inb : ∀ a, off a + size a ≤ S4x2x2x256x64.size a)
    (h0 : off 0 = k ∧ size 0 = 1) (h3 : lo ≤ off 3 ∧ off 3 + size 3 ≤ hi) :
    (Rect.unit (s := S4x2x2x256x64) off size inb).set ⊆ kvReg k lo hi := by
  intro i hi'
  rw [Rect.mem_set_unit] at hi'
  have a := hi' (0 : Fin 5); have b := hi' (3 : Fin 5)
  rw [kvReg, Finset.mem_filter]
  exact ⟨Finset.mem_univ _, by omega, by omega, by omega⟩

theorem pl_unit_sub_row (x : ℕ) (off size : Fin 5 → ℕ) (inb : ∀ a, off a + size a ≤ S2x4x2x256x64.size a)
    (h0 : off 0 = x ∧ size 0 = 1) : (Rect.unit (s := S2x4x2x256x64) off size inb).set ⊆ rowReg x := by
  intro i hi'
  rw [Rect.mem_set_unit] at hi'
  have a := hi' (0 : Fin 5)
  rw [rowReg, Finset.mem_filter]
  exact ⟨Finset.mem_univ _, by omega⟩

/-! ## Splitting and joining -/

section Split
variable {ℓ : Loc nD τ sig} {S A B : Finset (Idx ℓ)} {q : PosShare TreeShare} {f : Buf (Elt F) ℓ}

omit [FloatOps F] in
theorem pts_split (h : S = A ∪ B) (hd : Disjoint A B) : (ℓ ↦[S]{q} f : sProp 𝕄) ⊢ iprop((ℓ ↦[A]{q} f) ∗ ℓ ↦[B]{q} f) := by
  subst h; exact (pointsTo_union hd).1
omit [FloatOps F] in
theorem pts_join (h : S = A ∪ B) (hd : Disjoint A B) : iprop((ℓ ↦[A]{q} f) ∗ ℓ ↦[B]{q} f) ⊢ (ℓ ↦[S]{q} f : sProp 𝕄) := by
  subst h; exact (pointsTo_union hd).2
omit [FloatOps F] in
theorem pts_halve : (ℓ ↦[S]{q} f : sProp 𝕄) ⊢ iprop((ℓ ↦[S]{q.left} f) ∗ ℓ ↦[S]{q.right} f) :=
  (pointsTo_share (PosShare.mem_left_op_right q)).1
omit [FloatOps F] in
theorem pts_unhalve : iprop((ℓ ↦[S]{q.left} f) ∗ ℓ ↦[S]{q.right} f) ⊢ (ℓ ↦[S]{q} f : sProp 𝕄) :=
  (pointsTo_share (PosShare.mem_left_op_right q)).2
end Split

theorem kvReg_cut (k lo mid hi : ℕ) (h1 : lo ≤ mid) (h2 : mid ≤ hi) : kvReg k lo hi = kvReg k lo mid ∪ kvReg k mid hi := by
  ext i; simp only [kvReg, Finset.mem_union, Finset.mem_filter, Finset.mem_univ, true_and]; omega
theorem kvReg_cut_disj (k lo mid hi : ℕ) : Disjoint (kvReg k lo mid) (kvReg k mid hi) := by
  rw [Finset.disjoint_left]; intro i; simp only [kvReg, Finset.mem_filter, Finset.mem_univ, true_and]; omega
theorem plReg_cut (x y lo mid hi : ℕ) (h1 : lo ≤ mid) (h2 : mid ≤ hi) : plReg x y lo hi = plReg x y lo mid ∪ plReg x y mid hi := by
  ext i; simp only [plReg, Finset.mem_union, Finset.mem_filter, Finset.mem_univ, true_and]; omega
theorem plReg_cut_disj (x y lo mid hi : ℕ) : Disjoint (plReg x y lo mid) (plReg x y mid hi) := by
  rw [Finset.disjoint_left]; intro i; simp only [plReg, Finset.mem_filter, Finset.mem_univ, true_and]; omega

def kvFrom (k : ℕ) : Finset S4x2x2x256x64.Idx := Finset.univ.filter fun i => k ≤ (i (0 : Fin 5)).val
theorem kvFrom_zero : (Finset.univ : Finset S4x2x2x256x64.Idx) = kvFrom 0 := by
  ext i; simp [kvFrom]
theorem kvFrom_cut (k : ℕ) : kvFrom k = kvReg k 0 256 ∪ kvFrom (k + 1) := by
  ext i
  have h : (i (3 : Fin 5)).val < 256 := (i (3 : Fin 5)).isLt
  simp only [kvReg, kvFrom, Finset.mem_union, Finset.mem_filter, Finset.mem_univ, true_and]; omega
theorem kvFrom_cut_disj (k : ℕ) : Disjoint (kvReg k 0 256) (kvFrom (k + 1)) := by
  rw [Finset.disjoint_left]; intro i; simp only [kvReg, kvFrom, Finset.mem_filter, Finset.mem_univ, true_and]; omega
theorem kvFrom_three : kvFrom 3 = kvReg 3 0 256 := by
  ext i
  have h : (i (3 : Fin 5)).val < 256 := (i (3 : Fin 5)).isLt
  have h' : (i (0 : Fin 5)).val < 4 := (i (0 : Fin 5)).isLt
  simp only [kvReg, kvFrom, Finset.mem_filter, Finset.mem_univ, true_and]; omega

theorem rows_cut (x : ℕ) (hx : x < 2) : (Finset.univ : Finset S2x4x2x256x64.Idx) = rowReg x ∪ rowReg (1 - x) := by
  ext i
  have h' : (i (0 : Fin 5)).val < 2 := (i (0 : Fin 5)).isLt
  rw [Finset.mem_union, rowReg, rowReg, Finset.mem_filter, Finset.mem_filter]
  refine ⟨fun _ => ?_, fun _ => Finset.mem_univ _⟩
  rcases Nat.lt_or_ge (i (0 : Fin 5)).val x with h | h
  · exact Or.inr ⟨Finset.mem_univ _, by omega⟩
  · by_cases e : (i (0 : Fin 5)).val = x
    · exact Or.inl ⟨Finset.mem_univ _, e⟩
    · exact Or.inr ⟨Finset.mem_univ _, by omega⟩
theorem rows_cut_disj (x : ℕ) (hx : x < 2) : Disjoint (rowReg x) (rowReg (1 - x)) := by
  rw [Finset.disjoint_left]; intro i; simp only [rowReg, Finset.mem_filter, Finset.mem_univ, true_and]; omega

/-- The slots of row `x` at distance `k` and more after `y`. -/
def rowFrom (x y k : ℕ) : Finset S2x4x2x256x64.Idx :=
  Finset.univ.filter fun i => (i (0 : Fin 5)).val = x ∧ k ≤ ((i (1 : Fin 5)).val + 4 - y) % 4
theorem rowFrom_zero (x y : ℕ) : rowReg x = rowFrom x y 0 := by
  ext i; simp [rowReg, rowFrom]
theorem rowFrom_cut (x y k : ℕ) (hy : y < 4) (hk : k < 4) : rowFrom x y k = plReg x ((y + k) % 4) 0 256 ∪ rowFrom x y (k + 1) := by
  ext i
  have h : (i (3 : Fin 5)).val < 256 := (i (3 : Fin 5)).isLt
  have h' : (i (1 : Fin 5)).val < 4 := (i (1 : Fin 5)).isLt
  simp only [plReg, rowFrom, Finset.mem_union, Finset.mem_filter, Finset.mem_univ, true_and]; omega
theorem rowFrom_cut_disj (x y k : ℕ) (hy : y < 4) (hk : k < 4) : Disjoint (plReg x ((y + k) % 4) 0 256) (rowFrom x y (k + 1)) := by
  rw [Finset.disjoint_left]; intro i
  have h' : (i (1 : Fin 5)).val < 4 := (i (1 : Fin 5)).isLt
  simp only [plReg, rowFrom, Finset.mem_filter, Finset.mem_univ, true_and]; omega
theorem rowFrom_three (x y : ℕ) (hy : y < 4) : rowFrom x y 3 = plReg x ((y + 3) % 4) 0 256 := by
  ext i
  have h : (i (3 : Fin 5)).val < 256 := (i (3 : Fin 5)).isLt
  have h' : (i (1 : Fin 5)).val < 4 := (i (1 : Fin 5)).isLt
  simp only [plReg, rowFrom, Finset.mem_filter, Finset.mem_univ, true_and]; omega

omit [FloatOps F] in
/-- The whole exchange buffer as its pieces. -/
theorem kv_pieces (c : Dev nD) (q : PosShare TreeShare) (f) :
    (kvP c Finset.univ q f : sProp 𝕄)
      ⊢ iprop(kvP c (kvReg 0 0 256) q f ∗ kvP c (kvReg 1 0 256) q f ∗ kvP c (kvReg 2 0 128) q f ∗ kvP c (kvReg 2 128 256) q f ∗ kvP c (kvReg 3 0 256) q f) := by
  iintro H
  ihave H := (pts_split (kvFrom_zero.trans (kvFrom_cut 0)) (kvFrom_cut_disj 0)) $$ H; icases H with ⟨H0, H⟩
  ihave H := (pts_split (kvFrom_cut 1) (kvFrom_cut_disj 1)) $$ H; icases H with ⟨H1, H⟩
  ihave H := (pts_split (kvFrom_cut 2) (kvFrom_cut_disj 2)) $$ H; icases H with ⟨H2, H⟩
  ihave H2 := (pts_split (kvReg_cut 2 0 128 256 (by decide) (by decide)) (kvReg_cut_disj 2 0 128 256)) $$ H2; icases H2 with ⟨Ha, Hb⟩
  isplitl [H0]; · iexact H0
  isplitl [H1]; · iexact H1
  isplitl [Ha]; · iexact Ha
  isplitl [Hb]; · iexact Hb
  iapply (Entails.of_eq (show (kvP c (kvFrom (2 + 1)) q f : sProp 𝕄) = kvP c (kvReg 3 0 256) q f by rw [← kvFrom_three]))
  iexact H

omit [FloatOps F] in
theorem kv_unpieces (c : Dev nD) (q : PosShare TreeShare) (f) :
    iprop(kvP c (kvReg 0 0 256) q f ∗ kvP c (kvReg 1 0 256) q f ∗ kvP c (kvReg 2 0 128) q f ∗ kvP c (kvReg 2 128 256) q f ∗ kvP c (kvReg 3 0 256) q f)
      ⊢ (kvP c Finset.univ q f : sProp 𝕄) := by
  iintro ⟨H0, H1, Ha, Hb, H3⟩
  iapply (pts_join (kvFrom_zero.trans (kvFrom_cut 0)) (kvFrom_cut_disj 0))
  isplitl [H0]; · iexact H0
  iapply (pts_join (kvFrom_cut 1) (kvFrom_cut_disj 1))
  isplitl [H1]; · iexact H1
  iapply (pts_join (kvFrom_cut 2) (kvFrom_cut_disj 2))
  isplitl [Ha Hb]
  · iapply (pts_join (kvReg_cut 2 0 128 256 (by decide) (by decide)) (kvReg_cut_disj 2 0 128 256))
    isplitl [Ha]; · iexact Ha
    iexact Hb
  iapply (Entails.of_eq (show (kvP c (kvReg 3 0 256) q f : sProp 𝕄) = kvP c (kvFrom (2 + 1)) q f by rw [← kvFrom_three]))
  iexact H3

omit [FloatOps F] in
/-- One row of the result plane as its four slots, counted from `y`. -/
theorem row_pieces (c : Dev nD) (x y : ℕ) (hy : y < 4) (q : PosShare TreeShare) (f) :
    (plP c (rowReg x) q f : sProp 𝕄)
      ⊢ iprop(plP c (plReg x y 0 256) q f ∗ plP c (plReg x ((y + 1) % 4) 0 256) q f ∗ plP c (plReg x ((y + 2) % 4) 0 256) q f ∗ plP c (plReg x ((y + 3) % 4) 0 256) q f) := by
  have e : plReg x y 0 256 = plReg x ((y + 0) % 4) 0 256 := by rw [Nat.add_zero, Nat.mod_eq_of_lt hy]
  have e' := rowFrom_three x y hy
  iintro H
  ihave H := (pts_split ((rowFrom_zero x y).trans (rowFrom_cut x y 0 hy (by decide))) (rowFrom_cut_disj x y 0 hy (by decide))) $$ H; icases H with ⟨H0, H⟩
  ihave H := (pts_split (rowFrom_cut x y 1 hy (by decide)) (rowFrom_cut_disj x y 1 hy (by decide))) $$ H; icases H with ⟨H1, H⟩
  ihave H := (pts_split (rowFrom_cut x y 2 hy (by decide)) (rowFrom_cut_disj x y 2 hy (by decide))) $$ H; icases H with ⟨H2, H⟩
  rw [e, ← e']
  isplitl [H0]; · iexact H0
  isplitl [H1]; · iexact H1
  isplitl [H2]; · iexact H2
  iexact H

omit [FloatOps F] in
theorem row_unpieces (c : Dev nD) (x y : ℕ) (hy : y < 4) (q : PosShare TreeShare) (f) :
    iprop(plP c (plReg x y 0 256) q f ∗ plP c (plReg x ((y + 1) % 4) 0 256) q f ∗ plP c (plReg x ((y + 2) % 4) 0 256) q f ∗ plP c (plReg x ((y + 3) % 4) 0 256) q f)
      ⊢ (plP c (rowReg x) q f : sProp 𝕄) := by
  have e : plReg x y 0 256 = plReg x ((y + 0) % 4) 0 256 := by rw [Nat.add_zero, Nat.mod_eq_of_lt hy]
  have e' := rowFrom_three x y hy
  rw [e, ← e']
  iintro ⟨H0, H1, H2, H3⟩
  iapply (pts_join ((rowFrom_zero x y).trans (rowFrom_cut x y 0 hy (by decide))) (rowFrom_cut_disj x y 0 hy (by decide)))
  isplitl [H0]; · iexact H0
  iapply (pts_join (rowFrom_cut x y 1 hy (by decide)) (rowFrom_cut_disj x y 1 hy (by decide)))
  isplitl [H1]; · iexact H1
  iapply (pts_join (rowFrom_cut x y 2 hy (by decide)) (rowFrom_cut_disj x y 2 hy (by decide)))
  isplitl [H2]; · iexact H2
  iexact H3

/-! ## The sliced memrefs of the copies -/

abbrev kvW (off : Fin 5 → ℕ) (inb : ∀ a, off a + S1x2x2x256x64.size a ≤ S4x2x2x256x64.size a) : Memref sig .tc .vmem S2x2x256x64 .bf16 :=
  (kvM.slice (Rect.unit (s := S4x2x2x256x64) off S1x2x2x256x64.size inb) (fun _ => rfl)).squeeze S2x2x256x64 squeezes_S1x2x2x256x64_S2x2x256x64
abbrev kvH (off : Fin 5 → ℕ) (inb : ∀ a, off a + S1x2x2x128x64.size a ≤ S4x2x2x256x64.size a) : Memref sig .tc .vmem S2x2x128x64 .bf16 :=
  (kvM.slice (Rect.unit (s := S4x2x2x256x64) off S1x2x2x128x64.size inb) (fun _ => rfl)).squeeze S2x2x128x64 squeezes_S1x2x2x128x64_S2x2x128x64
abbrev plW (off : Fin 5 → ℕ) (inb : ∀ a, off a + S1x1x2x256x64.size a ≤ S2x4x2x256x64.size a) : Memref sig .tc .vmem S2x256x64 .bf16 :=
  (plM.slice (Rect.unit (s := S2x4x2x256x64) off S1x1x2x256x64.size inb) (fun _ => rfl)).squeeze S2x256x64 squeezes_S1x1x2x256x64_S2x256x64
abbrev plH (off : Fin 5 → ℕ) (inb : ∀ a, off a + S1x1x2x128x64.size a ≤ S2x4x2x256x64.size a) : Memref sig .tc .vmem S2x128x64 .bf16 :=
  (plM.slice (Rect.unit (s := S2x4x2x256x64) off S1x1x2x128x64.size inb) (fun _ => rfl)).squeeze S2x128x64 squeezes_S1x1x2x128x64_S2x128x64

theorem kvW_set (k lo : ℕ) (off inb) (h : off = ![k, 0, 0, lo, 0]) : (kvW off inb).view.set = kvReg k lo (lo + 256) :=
  ((View.set_reshape _ _).trans (View.set_slice_whole _ _)).trans (kv_unit_set k lo 256 _ _ _ h rfl)
theorem kvH_set (k lo : ℕ) (off inb) (h : off = ![k, 0, 0, lo, 0]) : (kvH off inb).view.set = kvReg k lo (lo + 128) :=
  ((View.set_reshape _ _).trans (View.set_slice_whole _ _)).trans (kv_unit_set k lo 128 _ _ _ h rfl)
theorem plW_set (x y lo : ℕ) (off inb) (h : off = ![x, y, 0, lo, 0]) : (plW off inb).view.set = plReg x y lo (lo + 256) :=
  ((View.set_reshape _ _).trans (View.set_slice_whole _ _)).trans (pl_unit_set x y lo 256 _ _ _ h rfl)
theorem plH_set (x y lo : ℕ) (off inb) (h : off = ![x, y, 0, lo, 0]) : (plH off inb).view.set = plReg x y lo (lo + 128) :=
  ((View.set_reshape _ _).trans (View.set_slice_whole _ _)).trans (pl_unit_set x y lo 128 _ _ _ h rfl)

/-! ## What a copy leaves -/

omit [FloatOps F] in
/-- Copying between two slices of the exchange buffer of one size: the target holds `g` where its elements are the
    source's. -/
theorem kvW_land {offS offD : Fin 5 → ℕ} {inbS inbD} (fd fs g : (cc0_scratch0 : Ref sig .tc).ty.Contents (Elt F))
    (h : ∀ x : S1x2x2x256x64.Idx, fs ((Rect.unit (s := S4x2x2x256x64) offS S1x2x2x256x64.size inbS).emb x)
      = g ((Rect.unit (s := S4x2x2x256x64) offD S1x2x2x256x64.size inbD).emb x)) :
    ∀ j ∈ (kvW offD inbD).view.set, (kvW offD inbD).view.write (Elt F) fd ((kvW offS inbS).view.read (Elt F) fs) Finset.univ j = g j := by
  intro j hj
  obtain ⟨x, -, rfl⟩ := Finset.mem_map.mp hj
  refine (View.write_emb_of_mem _ _ (Finset.mem_univ x)).trans ?_
  exact h _

omit [FloatOps F] in
theorem kvH_land {offS offD : Fin 5 → ℕ} {inbS inbD} (fd fs g : (cc0_scratch0 : Ref sig .tc).ty.Contents (Elt F))
    (h : ∀ x : S1x2x2x128x64.Idx, fs ((Rect.unit (s := S4x2x2x256x64) offS S1x2x2x128x64.size inbS).emb x)
      = g ((Rect.unit (s := S4x2x2x256x64) offD S1x2x2x128x64.size inbD).emb x)) :
    ∀ j ∈ (kvH offD inbD).view.set, (kvH offD inbD).view.write (Elt F) fd ((kvH offS inbS).view.read (Elt F) fs) Finset.univ j = g j := by
  intro j hj
  obtain ⟨x, -, rfl⟩ := Finset.mem_map.mp hj
  refine (View.write_emb_of_mem _ _ (Finset.mem_univ x)).trans ?_
  exact h _

omit [FloatOps F] in
/-- Copying a slot of the result plane into the same slot leaves the source's contents there. -/
theorem plW_land {off : Fin 5 → ℕ} {inb} (fd fs : (cc0_scratch1 : Ref sig .tc).ty.Contents (Elt F)) :
    ∀ j ∈ (plW off inb).view.set, (plW off inb).view.write (Elt F) fd ((plW off inb).view.read (Elt F) fs) Finset.univ j = fs j := by
  intro j hj
  obtain ⟨x, -, rfl⟩ := Finset.mem_map.mp hj
  refine (View.write_emb_of_mem _ _ (Finset.mem_univ x)).trans ?_
  rfl

omit [FloatOps F] in
theorem plH_land {off : Fin 5 → ℕ} {inb} (fd fs : (cc0_scratch1 : Ref sig .tc).ty.Contents (Elt F)) :
    ∀ j ∈ (plH off inb).view.set, (plH off inb).view.write (Elt F) fd ((plH off inb).view.read (Elt F) fs) Finset.univ j = fs j := by
  intro j hj
  obtain ⟨x, -, rfl⟩ := Finset.mem_map.mp hj
  refine (View.write_emb_of_mem _ _ (Finset.mem_univ x)).trans ?_
  rfl

/-! ## The contents along the mesh -/

theorem zadd_next (c : Dev nD) : zadd (nb 0 c) 1 = zadd c 0 ∧ zadd (nb 0 c) 2 = zadd c 1 ∧ zadd (nb 1 c) 3 = zadd c 0 ∧ zadd (nb 1 c) 2 = zadd c 3 := by
  revert c; decide +kernel
theorem zadd_zero (c : Dev nD) : zadd c 0 = c := by revert c; decide +kernel

/-- Equal ring neighbours and equal places within the slot: equal contents. -/
theorem kvF_eq (c c' : Dev nD) (i j : S4x2x2x256x64.Idx) (h0 : zadd c (i (0 : Fin 5)).val = zadd c' (j (0 : Fin 5)).val)
    (h1 : (i (1 : Fin 5)).val = (j (1 : Fin 5)).val) (h2 : i (2 : Fin 5) = j (2 : Fin 5)) (h3 : i (3 : Fin 5) = j (3 : Fin 5))
    (h4 : i (4 : Fin 5) = j (4 : Fin 5)) : kvF m c i = kvF m c' j := by
  unfold kvF; rw [h0, h1, h2, h3, h4]

/-- Every device of one `z` ends with the same result plane. -/
theorem plF_eq (c c' : Dev nD) (h : cz c = cz c') : plF m c = plF m c' := by unfold plF; rw [h]

theorem cx_nb (c : Dev nD) : cx (nb 0 c) = cx c ∧ cx (nb 1 c) = cx c ∧ cx (nb 2 c) = cx c ∧ cx (nb 3 c) = cx c ∧ cx (nb 4 c) = 1 - cx c := by
  revert c; decide +kernel
theorem cy_nb (c : Dev nD) : cy (nb 0 c) = cy c ∧ cy (nb 1 c) = cy c ∧ cy (nb 2 c) = (cy c + 3) % 4 ∧ cy (nb 3 c) = (cy c + 1) % 4 ∧ cy (nb 4 c) = cy c := by
  revert c; decide +kernel
theorem cz_nb (c : Dev nD) : cz (nb 2 c) = cz c ∧ cz (nb 3 c) = cz c ∧ cz (nb 4 c) = cz c := by
  revert c; decide +kernel

end Cert.Exchange

end
-- ==== Proof.Steps.lean ====
/-
# One rule per effect of the exchange: a signal, the handshake's wait, a copy's start, a copy's two waits
-/
module

public import proofs.«01_k».proof.Proof.Regions

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The level facts. -/
def levs : sProp 𝕄 := levAts L lv
omit [FloatOps F] in
instance levs_persistent : BI.Persistent (levs (F := F)) := by unfold levs; infer_instance
omit [FloatOps F] in
theorem levs_may (c : Dev nD) (k : CK) (n : ℕ) (hn : n ≤ 17) (hl : ∀ j < 17, 17 - n ≤ j → klev k < klev (oblK j)) :
    (levs : sProp 𝕄) ⊢ MayWait (c : Thread nD τ) (csem k) () (Or c n) := by
  unfold levs; exact mayWait_of c (csem k) (klev k) n hn (lv_k c k ()) hl

/-- Every cell's invariant, that every cell has reached round 0, and the level facts. -/
def records (K : Dev nD × CK → ℕ) : sProp 𝕄 :=
  iprop((bigSep Finset.univ fun ck : Dev nD × CK => cellInv ER (Rd m) (K ck) (kcell ck))
    ∗ (bigSep Finset.univ fun ck : Dev nD × CK => reached ER (kcell ck) 0) ∗ levs)

instance records_persistent (K : Dev nD × CK → ℕ) : BI.Persistent (records m K) := by unfold records; infer_instance

theorem inv_of (K : Dev nD × CK → ℕ) (ck : Dev nD × CK) : records m K ⊢ cellInv ER (Rd m) (K ck) (kcell ck) := by
  unfold records; iintro ⟨#H, -, -⟩
  iapply ((show (bigSep Finset.univ fun ck : Dev nD × CK => (cellInv ER (Rd m) (K ck) (kcell ck) : sProp 𝕄)) ⊢ cellInv ER (Rd m) (K ck) (kcell ck)
    from bigSep_elim (Finset.mem_univ ck))); iexact H
theorem reached_of (K : Dev nD × CK → ℕ) (ck : Dev nD × CK) : records m K ⊢ reached ER (kcell ck) 0 := by
  unfold records; iintro ⟨-, #H, -⟩
  iapply ((show (bigSep Finset.univ fun ck : Dev nD × CK => (reached ER (kcell ck) 0 : sProp 𝕄)) ⊢ reached ER (kcell ck) 0
    from bigSep_elim (Finset.mem_univ ck))); iexact H
theorem levs_of (K : Dev nD × CK → ℕ) : (records m K : sProp 𝕄) ⊢ levs := by
  unfold records; iintro ⟨-, -, #H⟩; iexact H

/-- Device `c` with `n` of its obligations left, whatever it has waited for. -/
def owesX (c : Dev nD) (n : ℕ) : sProp 𝕄 := iprop(∃ W, owes (c : Thread nD τ) (Or c n) W)

/-- What copy `i` is started with: the duties of its two cells, and the position at its send cell; -/
def sTok (i : Fin 12) (c : Dev nD) : sProp 𝕄 :=
  iprop(dutyTok ER (sendC c i) 0 0 ∗ dutyTok ER (recvC (peer i c) i) 0 0 ∗ atPos ER (sendC c i) 0 ∅ 0)
/-- what its send cell is waited for with, -/
def sFl (i : Fin 12) (c : Dev nD) : sProp 𝕄 := iprop(cred (tallyAt (sendC c i) () (amt i)) ∗ atPos ER (sendC c i) 0 ∅ 0)
/-- and what the receive cell is. -/
def rTok (i : Fin 12) (c : Dev nD) : sProp 𝕄 := iprop(cred (tallyAt (recvC c i) () (amt i)) ∗ atPos ER (recvC c i) 0 ∅ 0)

omit [FloatOps F] in
theorem Or_step {c : Dev nD} {k : ℕ} {t : CellTallies nD τ sig Unit} (h : obl c (16 - k) = t) : Or c (k + 1) = Or c k + t := by rw [Or, h]

theorem mem_dut (c : Dev nD) (j : Fin 12 ⊕ Fin 12) : (0 : Fin 5) ∈ (Rd m).duties (kcell (c, some j)) 0 := by
  rw [duties_k]; exact Finset.mem_singleton_self _
theorem mem_dutB (c : Dev nD) (d : Fin 5) : d ∈ (Rd m).duties (kcell (c, none)) 0 := by
  rw [duties_k]; exact Finset.mem_univ _

theorem may_of (K : Dev nD × CK → ℕ) (c : Dev nD) (k : CK) (n : ℕ) (hn : n ≤ 17) (hl : ∀ j < 17, 17 - n ≤ j → klev k < klev (oblK j)) :
    records m K ⊢ MayWait (c : Thread nD τ) (csem k) () (Or c n) :=
  (@levs_of F _ m K).trans (levs_may c k n hn hl)

variable (K : Dev nD × CK → ℕ)

abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A signal: the barrier duty of direction `d` paid with the pieces handed over. -/
theorem signal_step (c n : Dev nD) (d : Fin 5) (hn : n = nb d c) (k : ℕ) (hk : obl c (16 - k) = tallyAt (barC (nb d c)) () 1)
    {α : Type} {Q : α → sProp 𝕄} {kk : PUnit → Prog (TpuEff nD τ sig (Elt F) Λ₀ .tc) α} :
    iprop(records m K ∗ owesX c (k + 1) ∗ dutyTok ER (barC (nb d c)) 0 d ∗ give d c)
      ⊢ iprop((owesX c k -∗ WP c (kk ⟨⟩) Q) -∗ WP c (.op (.semSignal (Dev.tc n : Thread nD τ) barS 1) kk) Q) := by
  subst hn
  unfold owesX
  iintro ⟨#HR, ⟨%W, HO⟩, Ht, Hg⟩ Hk
  iapply (Rounds.wp_signal 𝒱₀ ER (Rd m) (c : Thread nD τ) none (dst := (nb d c : Thread nD τ)) (κ := K (nb d c, none)) (r := 0)
      (d := d) (mem_dutB m (nb d c) d)
      (amount_k m (nb d c) none d) () (Or c k) (Or_step hk)) $$ [HO Ht Hg]
  · isplitr; · iapply (@inv_of F _ m K (nb d c, none)); iexact HR
    isplitl [HO]; · iexact HO
    isplitl [Ht]; · iexact Ht
    isplitl [Hg]
    · iapply (Entails.of_eq (show (give d c : sProp 𝕄) = (Rd m).payload ((nb d c : Thread nD τ), SemLoc.reg barS) 0 d from
        ((payload_k m (nb d c) none d).trans (by unfold pay; dsimp only; rw [nb_opp])).symm))
      iexact Hg
    iapply (@reached_of F _ m K (nb d c, none)); iexact HR
  iintro HO
  iapply Hk
  iexists W; iexact HO

/-- The handshake's wait: all five neighbours' pieces, and the barrier cell closed. -/
theorem bar_step (c : Dev nD) (n : ℕ) (hn : n ≤ 17) (hl : ∀ j < 17, 17 - n ≤ j → 1 < klev (oblK j))
    {α : Type} {Q : α → sProp 𝕄} {kk : PUnit → Prog (TpuEff nD τ sig (Elt F) Λ₀ .tc) α} :
    iprop(records m K ∗ owesX c n ∗ cred (tallyAt (barC c) () 5) ∗ atPos ER (barC c) 0 ∅ 0)
      ⊢ iprop(((owesX c n ∗ semVal (barC c) 0 ∗ give 0 (nb 1 c) ∗ give 1 (nb 0 c) ∗ give 2 (nb 3 c) ∗ give 3 (nb 2 c) ∗ give 4 (nb 4 c)) -∗ WP c (kk ⟨⟩) Q)
          -∗ WP c (.op (.semWait barS 5) kk) Q) := by
  unfold owesX
  iintro ⟨#HR, ⟨%W, HO⟩, Hc, Hat⟩ Hk
  iapply (Rounds.wp_wait_rest_token 𝒱₀ ER (Rd m) (c : Thread nD τ) none (κ := K (c, none))
      (wpE_semWait_eq 𝒱₀ (c : Thread nD τ) none Set.univ) (Set.mem_univ _) () (O := Or c n) (W := W) (R := 0) (m := 0) (T := ∅)
      ((Nat.zero_add 5).trans (expect_bar m c).symm)) $$ [Hc HO Hat]
  · isplitr; · iapply (@inv_of F _ m K (c, none)); iexact HR
    isplitl [Hc]; · iexact Hc
    isplitl [HO]; · iexact HO
    isplitr
    · iapply (show records m K ⊢ MayWait (c : Thread nD τ) (SemLoc.reg barS) () (Or c n) from @may_of F _ m K c none n hn hl); iexact HR
    iexact Hat
  iintro ⟨HO, Hat, -, Hpay⟩
  ihave Hp := (Entails.of_eq (show bigSep ((Rd m).duties ((c : Thread nD τ), SemLoc.reg barS) 0 \ ∅)
    (fun d => (Rd m).payload ((c : Thread nD τ), SemLoc.reg barS) 0 d) = _ from rest_bar m c)) $$ Hpay
  imod (Rounds.cell_close ER (Rd m) (Set.mem_univ (K (c, none))) (fun h => h) (R := 0 + 1) (duties_later m (barC c))) $$ [Hat] with Hz
  · isplitr; · iapply (@inv_of F _ m K (c, none)); iexact HR
    iexact Hat
  iapply Hk
  isplitl [HO]; · iexists _; iexact HO
  isplitl [Hz]; · iexact Hz
  iexact Hp

/-- The start of copy `i`. -/
theorem send_step (c n : Dev nD) (i : Fin 12) (hn : n = peer i c) (k : ℕ) (hk : obl c (16 - k) = tallyAt (recvC (peer i c) i) () (amt i))
    {s : Shape} {e : EltTy} {src : Memref sig .tc .vmem s e} {dst : Memref sig (Dev.tc n : Thread nD τ).2.kind .vmem s e}
    {hsc : dst.view.ref.isScScratch = false} {hsrc : src.view.WordExact} {hdst : dst.view.WordExact}
    {hsem : DmaTarget.Typed .vmem (.dma (recvS i)) (.remote (Dev.tc n : Thread nD τ) dst (.dma (sendS i)) hsc)}
    {α : Type} {Q : α → sProp 𝕄} {kk : PUnit → Prog (TpuEff nD τ sig (Elt F) Λ₀ .tc) α} {q : PosShare TreeShare}
    {fs : Buf (Elt F) (src.view.loc (c : Thread nD τ))} {fd : Buf (Elt F) (dst.view.loc (Dev.tc n : Thread nD τ))}
    (hN : dst.view.amount (.dma (recvS i)) = amt i) {A B : sProp 𝕄}
    (hA : A ⊢ (src.view.loc (c : Thread nD τ) ↦[src.view.set]{q} fs)) (hB : B ⊢ (dst.view.loc (Dev.tc n : Thread nD τ) ↦[dst.view.set]{fullShare} fd))
    (hpay₁ : (src.view.loc (c : Thread nD τ) ↦[src.view.set]{q} fs) ⊢ sendPay m i c)
    (hpay₂ : (dst.view.loc (Dev.tc n : Thread nD τ) ↦[dst.view.set]{fullShare} (dst.view.write (Elt F) fd (src.view.read (Elt F) fs) Finset.univ))
      ⊢ recvPay m i n) :
    iprop(records m K ∗ owesX c (k + 1) ∗ sTok i c ∗ A ∗ B)
      ⊢ iprop(((owesX c k ∗ sFl i c) -∗ WP c (kk ⟨⟩) Q)
          -∗ WP c (.op (.enqueueDma src (.remote (Dev.tc n : Thread nD τ) dst (.dma (sendS i)) hsc) (.dma (recvS i)) hsrc hdst hsem) kk) Q) := by
  subst hn
  unfold owesX sTok sFl
  iintro ⟨#HR, ⟨%W, HO⟩, ⟨Ht₁, Ht₂, Hat⟩, HA, HB⟩ Hk
  iapply (Rounds.wp_send_pointsTo 𝒱₀ ER (Rd m) (c : Thread nD τ) none (κ₁ := K (c, some (.inl i))) (κ₂ := K (peer i c, some (.inr i)))
    (r₁ := 0) (r₂ := 0) (d₁ := 0) (d₂ := 0) (fs := fs) (fd := fd) (q := q)
    (mem_dut m c (.inl i))
    (mem_dut m (peer i c) (.inr i))
    () () (amt i) hN (amount_k m c (some (.inl i)) 0) (amount_k m (peer i c) (some (.inr i)) 0) (Or c k) (Or_step hk) (W := W)
    (hpay₁.trans (Entails.of_eq (payload_k m c (some (.inl i)) 0).symm)) (hpay₂.trans (Entails.of_eq (payload_k m (peer i c) (some (.inr i)) 0).symm)))
    $$ [HO Ht₁ Ht₂ HA HB]
  · isplitr; · iapply (@inv_of F _ m K (c, some (.inl i))); iexact HR
    isplitr; · iapply (@inv_of F _ m K (peer i c, some (.inr i))); iexact HR
    isplitl [HA]; · iapply hA; iexact HA
    isplitl [HB]; · iapply hB; iexact HB
    isplitl [HO]; · iexact HO
    isplitl [Ht₁]; · iexact Ht₁
    isplitr; · iapply (@reached_of F _ m K (c, some (.inl i))); iexact HR
    isplitl [Ht₂]; · iexact Ht₂
    iapply (@reached_of F _ m K (peer i c, some (.inr i))); iexact HR
  iintro ⟨Hc, HO⟩
  iapply Hk
  isplitl [HO]; · iexists W; iexact HO
  isplitl [Hc] <;> iassumption

/-- The wait for what copy `i` brings. -/
theorem recv_step (c : Dev nD) (i : Fin 12) (n : ℕ) (hn : n ≤ 17) (hl : ∀ j < 17, 17 - n ≤ j → klev (some (.inr i)) < klev (oblK j))
    {sp' : Space} {s s' : Shape} {e e' : EltTy} {src : Memref sig .tc sp' s' e'} {dst : Memref sig .tc .vmem s e}
    {hsrc : src.view.WordExact} {hdst : dst.view.WordExact} (hN : dst.view.dmaCredit = amt i)
    {α : Type} {Q : α → sProp 𝕄} {kk : PUnit → Prog (TpuEff nD τ sig (Elt F) Λ₀ .tc) α} :
    iprop(records m K ∗ owesX c n ∗ rTok i c)
      ⊢ iprop(((owesX c n ∗ semVal (recvC c i) 0 ∗ recvPay m i c) -∗ WP c (kk ⟨⟩) Q)
          -∗ WP c (.op (.waitDma2 (recvS i) src dst hsrc hdst) kk) Q) := by
  unfold owesX rTok
  iintro ⟨#HR, ⟨%W, HO⟩, Hc, Hat⟩ Hk
  rw [← hN]
  iapply (Rounds.wp_wait_rest_token 𝒱₀ ER (Rd m) (c : Thread nD τ) none (κ := K (c, some (.inr i)))
      (wpE_waitDma2_eq 𝒱₀ (c : Thread nD τ) none Set.univ) (Set.mem_univ _) () (O := Or c n) (W := W) (R := 0) (m := 0) (T := ∅)
      ((Nat.zero_add _).trans (hN.trans (expect_some m c (.inr i)).symm))) $$ [Hc HO Hat]
  · isplitr; · iapply (@inv_of F _ m K (c, some (.inr i))); iexact HR
    isplitl [Hc]; · iexact Hc
    isplitl [HO]; · iexact HO
    isplitr
    · iapply (show records m K ⊢ MayWait (c : Thread nD τ) (SemLoc.dma (recvS i)) () (Or c n) from @may_of F _ m K c (some (.inr i)) n hn hl); iexact HR
    iexact Hat
  iintro ⟨HO, Hat, -, Hpay⟩
  ihave Hp := (Entails.of_eq (show bigSep ((Rd m).duties ((c : Thread nD τ), SemLoc.dma (recvS i)) 0 \ ∅)
    (fun d => (Rd m).payload ((c : Thread nD τ), SemLoc.dma (recvS i)) 0 d) = recvPay m i c from rest_some m c (.inr i))) $$ Hpay
  imod (Rounds.cell_close ER (Rd m) (Set.mem_univ (K (c, some (.inr i)))) (fun h => h) (R := 0 + 1) (duties_later m (recvC c i))) $$ [Hat] with Hz
  · isplitr; · iapply (@inv_of F _ m K (c, some (.inr i))); iexact HR
    iexact Hat
  iapply Hk
  isplitl [HO]; · iexists _; iexact HO
  isplitl [Hz]; · iexact Hz
  iexact Hp

/-- The wait for copy `i` to have left: the lent share of its source comes back. -/
theorem sent_step (c : Dev nD) (i : Fin 12)
    {sp' : Space} {s s' : Shape} {e e' : EltTy} {src : Memref sig .tc sp' s' e'} {dst : Memref sig .tc .vmem s e}
    {hsrc : src.view.WordExact} {hdst : dst.view.WordExact} (hN : dst.view.dmaCredit = amt i)
    {α : Type} {Q : α → sProp 𝕄} {kk : PUnit → Prog (TpuEff nD τ sig (Elt F) Λ₀ .tc) α} :
    iprop(records m K ∗ owesX c 0 ∗ sFl i c)
      ⊢ iprop(((owesX c 0 ∗ semVal (sendC c i) 0 ∗ sendPay m i c) -∗ WP c (kk ⟨⟩) Q)
          -∗ WP c (.op (.waitDma2 (sendS i) src dst hsrc hdst) kk) Q) := by
  unfold owesX sFl
  iintro ⟨#HR, ⟨%W, HO⟩, Hc, Hat⟩ Hk
  rw [← hN]
  iapply (Rounds.wp_wait_rest_token 𝒱₀ ER (Rd m) (c : Thread nD τ) none (κ := K (c, some (.inl i)))
      (wpE_waitDma2_eq 𝒱₀ (c : Thread nD τ) none Set.univ) (Set.mem_univ _) () (O := Or c 0) (W := W) (R := 0) (m := 0) (T := ∅)
      ((Nat.zero_add _).trans (hN.trans (expect_some m c (.inl i)).symm))) $$ [Hc HO Hat]
  · isplitr; · iapply (@inv_of F _ m K (c, some (.inl i))); iexact HR
    isplitl [Hc]; · iexact Hc
    isplitl [HO]; · iexact HO
    isplitr
    · iapply (show records m K ⊢ MayWait (c : Thread nD τ) (SemLoc.dma (sendS i)) () (Or c 0) from @may_of F _ m K c (some (.inl i)) 0 (by decide) (fun j h1 h2 => by omega)); iexact HR
    iexact Hat
  iintro ⟨HO, Hat, -, Hpay⟩
  ihave Hp := (Entails.of_eq (show bigSep ((Rd m).duties ((c : Thread nD τ), SemLoc.dma (sendS i)) 0 \ ∅)
    (fun d => (Rd m).payload ((c : Thread nD τ), SemLoc.dma (sendS i)) 0 d) = sendPay m i c from rest_some m c (.inl i))) $$ Hpay
  imod (Rounds.cell_close ER (Rd m) (Set.mem_univ (K (c, some (.inl i)))) (fun h => h) (R := 0 + 1) (duties_later m (sendC c i))) $$ [Hat] with Hz
  · isplitr; · iapply (@inv_of F _ m K (c, some (.inl i))); iexact HR
    iexact Hat
  iapply Hk
  isplitl [HO]; · iexists _; iexact HO
  isplitl [Hz]; · iexact Hz
  iexact Hp

end Cert.Exchange

end
-- ==== Proof.Copies.lean ====
/-
# The twelve copies, each as one step on the regions it moves
-/
module

public import Idealize.ShloMosaic.Lib.Pipeline.ValueKit.Geometry
public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CK → ℕ)

/-- Two boxes of the exchange buffer over ring neighbours that name one device hold the same contents. -/
theorem kv_box_eq (c c' : Dev nD) (off off' size : Fin 5 → ℕ) (inb : ∀ a, off a + size a ≤ S4x2x2x256x64.size a)
    (inb' : ∀ a, off' a + size a ≤ S4x2x2x256x64.size a) (h0 : zadd c (off 0) = zadd c' (off' 0)) (hs : size 0 = 1)
    (h1 : off 1 = off' 1) (h2 : off 2 = off' 2) (h3 : off 3 = off' 3) (h4 : off 4 = off' 4) (x : (⟨5, size⟩ : Shape).Idx) :
    kvF m c ((Rect.unit (s := S4x2x2x256x64) off size inb).emb x) = kvF m c' ((Rect.unit (s := S4x2x2x256x64) off' size inb').emb x) := by
  have hx : (x (0 : Fin 5)).val < 1 := hs ▸ (x (0 : Fin 5)).isLt
  have hx0 : (x (0 : Fin 5)).val = 0 := by omega
  refine kvF_eq m c c' _ _ ?_ ?_ ?_ ?_ ?_
  · rw [ValueKit.rect_emb_unit_val, ValueKit.rect_emb_unit_val, hx0]; exact h0
  · rw [ValueKit.rect_emb_unit_val, ValueKit.rect_emb_unit_val, h1]
  · exact Fin.ext (by rw [ValueKit.rect_emb_unit_val, ValueKit.rect_emb_unit_val, h2])
  · exact Fin.ext (by rw [ValueKit.rect_emb_unit_val, ValueKit.rect_emb_unit_val, h3])
  · exact Fin.ext (by rw [ValueKit.rect_emb_unit_val, ValueKit.rect_emb_unit_val, h4])

theorem send_kvW (c n : Dev nD) (i : Fin 12) (hn : n = peer i c) (k : ℕ) (hk : obl c (16 - k) = tallyAt (recvC (peer i c) i) () (amt i))
    {kS loS kD loD : ℕ} {offS offD : Fin 5 → ℕ} {inbS inbD} (hS : offS = ![kS, 0, 0, loS, 0]) (hD : offD = ![kD, 0, 0, loD, 0])
    (hz : zadd c kS = zadd n kD) (hlo : loS = loD) (q : PosShare TreeShare)
    (hN : (kvW offD inbD).view.amount (.dma (recvS i)) = amt i)
    (hpayS : kvP c (kvReg kS loS (loS + 256)) q (kvF m c) ⊢ sendPay m i c) (hpayD : kvP n (kvReg kD loD (loD + 256)) fullShare (kvF m n) ⊢ recvPay m i n)
    {hsc : (kvW offD inbD).view.ref.isScScratch = false} {hsrc : (kvW offS inbS).view.WordExact} {hdst : (kvW offD inbD).view.WordExact}
    {hsem : DmaTarget.Typed .vmem (.dma (recvS i)) (.remote (Dev.tc n : Thread nD τ) (kvW offD inbD) (.dma (sendS i)) hsc)}
    {α : Type} {Q : α → sProp 𝕄} {kk : PUnit → Prog (TpuEff nD τ sig (Elt F) Λ₀ .tc) α} :
    iprop(records m K ∗ owesX c (k + 1) ∗ sTok i c ∗ kvP c (kvReg kS loS (loS + 256)) q (kvF m c) ∗ (∃ f, kvP n (kvReg kD loD (loD + 256)) fullShare f))
      ⊢ iprop(((owesX c k ∗ sFl i c) -∗ WP c (kk ⟨⟩) Q)
          -∗ WP c (.op (.enqueueDma (kvW offS inbS) (.remote (Dev.tc n : Thread nD τ) (kvW offD inbD) (.dma (sendS i)) hsc) (.dma (recvS i)) hsrc hdst hsem) kk) Q) := by
  iintro ⟨#HR, HO, Ht, HA, ⟨%fd, HB⟩⟩
  iapply (send_step m K c n i hn k hk (src := kvW offS inbS) (dst := kvW offD inbD) (fs := kvF m c) (fd := fd) (q := q) hN
    (A := kvP c (kvReg kS loS (loS + 256)) q (kvF m c)) (B := kvP n (kvReg kD loD (loD + 256)) fullShare fd)
    (Entails.of_eq (by rw [kvW_set kS loS offS inbS hS])) (Entails.of_eq (by rw [kvW_set kD loD offD inbD hD]))
    ((Entails.of_eq (by rw [kvW_set kS loS offS inbS hS])).trans hpayS)
    ((Entails.of_eq ((pointsTo_congr (kvW_land fd (kvF m c) (kvF m n) fun x => kv_box_eq m c n offS offD _ _ _
      (by subst hS hD; exact hz) rfl (by subst hS hD; rfl) (by subst hS hD; rfl) (by subst hS hD; exact hlo) (by subst hS hD; rfl) x)).trans
        (by rw [kvW_set kD loD offD inbD hD]))).trans hpayD))
  isplitr; · iexact HR
  isplitl [HO]; · iexact HO
  isplitl [Ht]; · iexact Ht
  isplitl [HA]; · iexact HA
  iexact HB

theorem send_kvH (c n : Dev nD) (i : Fin 12) (hn : n = peer i c) (k : ℕ) (hk : obl c (16 - k) = tallyAt (recvC (peer i c) i) () (amt i))
    {kS loS kD loD : ℕ} {offS offD : Fin 5 → ℕ} {inbS inbD} (hS : offS = ![kS, 0, 0, loS, 0]) (hD : offD = ![kD, 0, 0, loD, 0])
    (hz : zadd c kS = zadd n kD) (hlo : loS = loD) (q : PosShare TreeShare)
    (hN : (kvH offD inbD).view.amount (.dma (recvS i)) = amt i)
    (hpayS : kvP c (kvReg kS loS (loS + 128)) q (kvF m c) ⊢ sendPay m i c) (hpayD : kvP n (kvReg kD loD (loD + 128)) fullShare (kvF m n) ⊢ recvPay m i n)
    {hsc : (kvH offD inbD).view.ref.isScScratch = false} {hsrc : (kvH offS inbS).view.WordExact} {hdst : (kvH offD inbD).view.WordExact}
    {hsem : DmaTarget.Typed .vmem (.dma (recvS i)) (.remote (Dev.tc n : Thread nD τ) (kvH offD inbD) (.dma (sendS i)) hsc)}
    {α : Type} {Q : α → sProp 𝕄} {kk : PUnit → Prog (TpuEff nD τ sig (Elt F) Λ₀ .tc) α} :
    iprop(records m K ∗ owesX c (k + 1) ∗ sTok i c ∗ kvP c (kvReg kS loS (loS + 128)) q (kvF m c) ∗ (∃ f, kvP n (kvReg kD loD (loD + 128)) fullShare f))
      ⊢ iprop(((owesX c k ∗ sFl i c) -∗ WP c (kk ⟨⟩) Q)
          -∗ WP c (.op (.enqueueDma (kvH offS inbS) (.remote (Dev.tc n : Thread nD τ) (kvH offD inbD) (.dma (sendS i)) hsc) (.dma (recvS i)) hsrc hdst hsem) kk) Q) := by
  iintro ⟨#HR, HO, Ht, HA, ⟨%fd, HB⟩⟩
  iapply (send_step m K c n i hn k hk (src := kvH offS inbS) (dst := kvH offD inbD) (fs := kvF m c) (fd := fd) (q := q) hN
    (A := kvP c (kvReg kS loS (loS + 128)) q (kvF m c)) (B := kvP n (kvReg kD loD (loD + 128)) fullShare fd)
    (Entails.of_eq (by rw [kvH_set kS loS offS inbS hS])) (Entails.of_eq (by rw [kvH_set kD loD offD inbD hD]))
    ((Entails.of_eq (by rw [kvH_set kS loS offS inbS hS])).trans hpayS)
    ((Entails.of_eq ((pointsTo_congr (kvH_land fd (kvF m c) (kvF m n) fun x => kv_box_eq m c n offS offD _ _ _
      (by subst hS hD; exact hz) rfl (by subst hS hD; rfl) (by subst hS hD; rfl) (by subst hS hD; exact hlo) (by subst hS hD; rfl) x)).trans
        (by rw [kvH_set kD loD offD inbD hD]))).trans hpayD))
  isplitr; · iexact HR
  isplitl [HO]; · iexact HO
  isplitl [Ht]; · iexact Ht
  isplitl [HA]; · iexact HA
  iexact HB

theorem send_plW (c n : Dev nD) (i : Fin 12) (hn : n = peer i c) (k : ℕ) (hk : obl c (16 - k) = tallyAt (recvC (peer i c) i) () (amt i))
    {x y lo : ℕ} {off : Fin 5 → ℕ} {inb inb'} (ho : off = ![x, y, 0, lo, 0]) (hz : cz c = cz n) (q : PosShare TreeShare)
    (hN : (plW off inb').view.amount (.dma (recvS i)) = amt i)
    (hpayS : plP c (plReg x y lo (lo + 256)) q (plF m c) ⊢ sendPay m i c) (hpayD : plP n (plReg x y lo (lo + 256)) fullShare (plF m n) ⊢ recvPay m i n)
    {hsc : (plW off inb').view.ref.isScScratch = false} {hsrc : (plW off inb).view.WordExact} {hdst : (plW off inb').view.WordExact}
    {hsem : DmaTarget.Typed .vmem (.dma (recvS i)) (.remote (Dev.tc n : Thread nD τ) (plW off inb') (.dma (sendS i)) hsc)}
    {α : Type} {Q : α → sProp 𝕄} {kk : PUnit → Prog (TpuEff nD τ sig (Elt F) Λ₀ .tc) α} :
    iprop(records m K ∗ owesX c (k + 1) ∗ sTok i c ∗ plP c (plReg x y lo (lo + 256)) q (plF m c) ∗ (∃ f, plP n (plReg x y lo (lo + 256)) fullShare f))
      ⊢ iprop(((owesX c k ∗ sFl i c) -∗ WP c (kk ⟨⟩) Q)
          -∗ WP c (.op (.enqueueDma (plW off inb) (.remote (Dev.tc n : Thread nD τ) (plW off inb') (.dma (sendS i)) hsc) (.dma (recvS i)) hsrc hdst hsem) kk) Q) := by
  iintro ⟨#HR, HO, Ht, HA, ⟨%fd, HB⟩⟩
  iapply (send_step m K c n i hn k hk (src := plW off inb) (dst := plW off inb') (fs := plF m c) (fd := fd) (q := q) hN
    (A := plP c (plReg x y lo (lo + 256)) q (plF m c)) (B := plP n (plReg x y lo (lo + 256)) fullShare fd)
    (Entails.of_eq (by rw [plW_set x y lo off inb ho])) (Entails.of_eq (by rw [plW_set x y lo off inb' ho]))
    ((Entails.of_eq (by rw [plW_set x y lo off inb ho])).trans hpayS)
    ((Entails.of_eq ((pointsTo_congr (fun j hj => (plW_land fd (plF m c) j hj).trans (congrFun (plF_eq m c n hz) j))).trans
        (by rw [plW_set x y lo off inb' ho]))).trans hpayD))
  isplitr; · iexact HR
  isplitl [HO]; · iexact HO
  isplitl [Ht]; · iexact Ht
  isplitl [HA]; · iexact HA
  iexact HB

theorem send_plH (c n : Dev nD) (i : Fin 12) (hn : n = peer i c) (k : ℕ) (hk : obl c (16 - k) = tallyAt (recvC (peer i c) i) () (amt i))
    {x y lo : ℕ} {off : Fin 5 → ℕ} {inb inb'} (ho : off = ![x, y, 0, lo, 0]) (hz : cz c = cz n) (q : PosShare TreeShare)
    (hN : (plH off inb').view.amount (.dma (recvS i)) = amt i)
    (hpayS : plP c (plReg x y lo (lo + 128)) q (plF m c) ⊢ sendPay m i c) (hpayD : plP n (plReg x y lo (lo + 128)) fullShare (plF m n) ⊢ recvPay m i n)
    {hsc : (plH off inb').view.ref.isScScratch = false} {hsrc : (plH off inb).view.WordExact} {hdst : (plH off inb').view.WordExact}
    {hsem : DmaTarget.Typed .vmem (.dma (recvS i)) (.remote (Dev.tc n : Thread nD τ) (plH off inb') (.dma (sendS i)) hsc)}
    {α : Type} {Q : α → sProp 𝕄} {kk : PUnit → Prog (TpuEff nD τ sig (Elt F) Λ₀ .tc) α} :
    iprop(records m K ∗ owesX c (k + 1) ∗ sTok i c ∗ plP c (plReg x y lo (lo + 128)) q (plF m c) ∗ (∃ f, plP n (plReg x y lo (lo + 128)) fullShare f))
      ⊢ iprop(((owesX c k ∗ sFl i c) -∗ WP c (kk ⟨⟩) Q)
          -∗ WP c (.op (.enqueueDma (plH off inb) (.remote (Dev.tc n : Thread nD τ) (plH off inb') (.dma (sendS i)) hsc) (.dma (recvS i)) hsrc hdst hsem) kk) Q) := by
  iintro ⟨#HR, HO, Ht, HA, ⟨%fd, HB⟩⟩
  iapply (send_step m K c n i hn k hk (src := plH off inb) (dst := plH off inb') (fs := plF m c) (fd := fd) (q := q) hN
    (A := plP c (plReg x y lo (lo + 128)) q (plF m c)) (B := plP n (plReg x y lo (lo + 128)) fullShare fd)
    (Entails.of_eq (by rw [plH_set x y lo off inb ho])) (Entails.of_eq (by rw [plH_set x y lo off inb' ho]))
    ((Entails.of_eq (by rw [plH_set x y lo off inb ho])).trans hpayS)
    ((Entails.of_eq ((pointsTo_congr (fun j hj => (plH_land fd (plF m c) j hj).trans (congrFun (plF_eq m c n hz) j))).trans
        (by rw [plH_set x y lo off inb' ho]))).trans hpayD))
  isplitr; · iexact HR
  isplitl [HO]; · iexact HO
  isplitl [Ht]; · iexact Ht
  isplitl [HA]; · iexact HA
  iexact HB

/-! ## The printed devices, semaphores and offsets -/

theorem dev1 (c : Dev nD) : (⟨k0_dev1 c, k0_dev1_lt c⟩ : Dev nD) = nb 0 c :=
  Fin.ext ((k0_dev1_eq c).trans (by revert c; decide +kernel))
theorem dev2 (c : Dev nD) : (⟨k0_dev2 c, k0_dev2_lt c⟩ : Dev nD) = nb 1 c :=
  Fin.ext ((k0_dev2_eq c).trans (by revert c; decide +kernel))
theorem dev3 (c : Dev nD) : (⟨k0_dev3 c, k0_dev3_lt c⟩ : Dev nD) = nb 2 c :=
  Fin.ext ((k0_dev3_eq c).trans (by revert c; decide +kernel))
theorem dev4 (c : Dev nD) : (⟨k0_dev4 c, k0_dev4_lt c⟩ : Dev nD) = nb 3 c :=
  Fin.ext ((k0_dev4_eq c).trans (by revert c; decide +kernel))
theorem dev5 (c : Dev nD) : (⟨k0_dev5 c, k0_dev5_lt c⟩ : Dev nD) = nb 4 c :=
  Fin.ext ((k0_dev5_eq c).trans (by revert c; decide +kernel))
theorem dev6 (c : Dev nD) : (⟨k0_dev6 c, k0_dev6_lt c⟩ : Dev nD) = peer 0 c :=
  Fin.ext ((k0_dev6_eq c).trans (by revert c; decide +kernel))
theorem dev7 (c : Dev nD) : (⟨k0_dev7 c, k0_dev7_lt c⟩ : Dev nD) = peer 1 c :=
  Fin.ext ((k0_dev7_eq c).trans (by revert c; decide +kernel))
theorem dev8 (c : Dev nD) : (⟨k0_dev8 c, k0_dev8_lt c⟩ : Dev nD) = peer 2 c :=
  Fin.ext ((k0_dev8_eq c).trans (by revert c; decide +kernel))
theorem dev9 (c : Dev nD) : (⟨k0_dev9 c, k0_dev9_lt c⟩ : Dev nD) = peer 3 c :=
  Fin.ext ((k0_dev9_eq c).trans (by revert c; decide +kernel))
theorem dev10 (c : Dev nD) : (⟨k0_dev10 c, k0_dev10_lt c⟩ : Dev nD) = peer 4 c :=
  Fin.ext ((k0_dev10_eq c).trans (by revert c; decide +kernel))
theorem dev11 (c : Dev nD) : (⟨k0_dev11 c, k0_dev11_lt c⟩ : Dev nD) = peer 5 c :=
  Fin.ext ((k0_dev11_eq c).trans (by revert c; decide +kernel))
theorem dev12 (c : Dev nD) : (⟨k0_dev12 c, k0_dev12_lt c⟩ : Dev nD) = peer 8 c :=
  Fin.ext ((k0_dev12_eq c).trans (by revert c; decide +kernel))
theorem dev13 (c : Dev nD) : (⟨k0_dev13 c, k0_dev13_lt c⟩ : Dev nD) = peer 6 c :=
  Fin.ext ((k0_dev13_eq c).trans (by revert c; decide +kernel))
theorem dev14 (c : Dev nD) : (⟨k0_dev14 c, k0_dev14_lt c⟩ : Dev nD) = peer 7 c :=
  Fin.ext ((k0_dev14_eq c).trans (by revert c; decide +kernel))
theorem dev15 (c : Dev nD) : (⟨k0_dev15 c, k0_dev15_lt c⟩ : Dev nD) = peer 9 c :=
  Fin.ext ((k0_dev15_eq c).trans (by revert c; decide +kernel))
theorem dev16 (c : Dev nD) : (⟨k0_dev16 c, k0_dev16_lt c⟩ : Dev nD) = peer 10 c :=
  Fin.ext ((k0_dev16_eq c).trans (by revert c; decide +kernel))
theorem dev17 (c : Dev nD) : (⟨k0_dev17 c, k0_dev17_lt c⟩ : Dev nD) = peer 11 c :=
  Fin.ext ((k0_dev17_eq c).trans (by revert c; decide +kernel))

abbrev semAt (a : DmaSems sig S4) (j : ℕ) (inb : ∀ d, (![j] : Fin 1 → ℕ) d + S1.size d ≤ S4.size d) : DmaSem sig :=
  ((a.slice (Rect.unit (s := S4) ![j] S1.size inb)).squeeze S_ squeezes_S1_S_).sem

theorem off1 (c : Dev nD) : k0_off1 c = ![cx c, cy c, 0, 0, 0] := k0_off1_eq c
theorem off2 (c : Dev nD) : k0_off2 c = ![cx c, yl c, 0, 0, 0] := k0_off2_eq c
theorem off3 (c : Dev nD) : k0_off3 c = ![cx c, yr c, 0, 128, 0] := k0_off3_eq c
theorem off4 (c : Dev nD) : k0_off4 c = ![cx c, yl c, 0, 0, 0] := k0_off4_eq c
theorem off5a (c : Dev nD) : k0_off5 c 1#32 = ![cx c, yr c, 0, 0, 0] := k0_off5_eq c 0
theorem off5b (c : Dev nD) : k0_off5 c 2#32 = ![cx c, yo c, 0, 0, 0] := k0_off5_eq c 1

theorem cz_peer : ∀ (c : Dev nD) (i : Fin 12), 4 ≤ i.val → cz c = cz (peer i c) := by decide +kernel

/-! ## The twelve starts, in program order -/

theorem copy0 (c : Dev nD) {α : Type} {Q : α → sProp 𝕄} {kk : PUnit → Prog (TpuEff nD τ sig (Elt F) Λ₀ .tc) α} {hsc hsrc hdst hsem} :
    iprop(records m K ∗ owesX c 12 ∗ sTok 0 c ∗ kvP c (kvReg 0 0 256) fullShare.left (kvF m c) ∗ (∃ f, kvP (peer 0 c) (kvReg 3 0 256) fullShare f))
      ⊢ iprop(((owesX c 11 ∗ sFl 0 c) -∗ WP c (kk ⟨⟩) Q)
          -∗ WP c (.op (.enqueueDma (kvW ![0, 0, 0, 0, 0] inb_S4x2x2x256x64_S1x2x2x256x64_0_0_0_0_0) (.remote (Dev.tc (⟨k0_dev6 c, k0_dev6_lt c⟩ : Dev nD)) (kvW ![3, 0, 0, 0, 0] inb_S4x2x2x256x64_S1x2x2x256x64_3_0_0_0_0) (.dma (semAt cc0_scratch2 0 inb_S4_S1_0)) hsc)
            (.dma (semAt cc0_scratch3 0 inb_S4_S1_0)) hsrc hdst hsem) kk) Q) := by
  have hn := dev6 c
  rw [← hn]
  exact send_kvW m K c ⟨k0_dev6 c, k0_dev6_lt c⟩ 0 hn 11 rfl (kS := 0) (loS := 0) (kD := 3) (loD := 0) rfl rfl (by rw [hn]; exact (zadd_next c).2.2.1.symm) rfl fullShare.left rfl Entails.rfl Entails.rfl
theorem copy1 (c : Dev nD) {α : Type} {Q : α → sProp 𝕄} {kk : PUnit → Prog (TpuEff nD τ sig (Elt F) Λ₀ .tc) α} {hsc hsrc hdst hsem} :
    iprop(records m K ∗ owesX c 11 ∗ sTok 1 c ∗ kvP c (kvReg 0 0 256) fullShare.right (kvF m c) ∗ (∃ f, kvP (peer 1 c) (kvReg 1 0 256) fullShare f))
      ⊢ iprop(((owesX c 10 ∗ sFl 1 c) -∗ WP c (kk ⟨⟩) Q)
          -∗ WP c (.op (.enqueueDma (kvW ![0, 0, 0, 0, 0] inb_S4x2x2x256x64_S1x2x2x256x64_0_0_0_0_0) (.remote (Dev.tc (⟨k0_dev7 c, k0_dev7_lt c⟩ : Dev nD)) (kvW ![1, 0, 0, 0, 0] inb_S4x2x2x256x64_S1x2x2x256x64_1_0_0_0_0) (.dma (semAt cc0_scratch2 1 inb_S4_S1_1)) hsc)
            (.dma (semAt cc0_scratch3 1 inb_S4_S1_1)) hsrc hdst hsem) kk) Q) := by
  have hn := dev7 c
  rw [← hn]
  exact send_kvW m K c ⟨k0_dev7 c, k0_dev7_lt c⟩ 1 hn 10 rfl (kS := 0) (loS := 0) (kD := 1) (loD := 0) rfl rfl (by rw [hn]; exact (zadd_next c).1.symm) rfl fullShare.right rfl Entails.rfl Entails.rfl
theorem copy2 (c : Dev nD) {α : Type} {Q : α → sProp 𝕄} {kk : PUnit → Prog (TpuEff nD τ sig (Elt F) Λ₀ .tc) α} {hsc hsrc hdst hsem} :
    iprop(records m K ∗ owesX c 10 ∗ sTok 2 c ∗ kvP c (kvReg 3 0 128) fullShare.left (kvF m c) ∗ (∃ f, kvP (peer 2 c) (kvReg 2 0 128) fullShare f))
      ⊢ iprop(((owesX c 9 ∗ sFl 2 c) -∗ WP c (kk ⟨⟩) Q)
          -∗ WP c (.op (.enqueueDma (kvH ![3, 0, 0, 0, 0] inb_S4x2x2x256x64_S1x2x2x128x64_3_0_0_0_0) (.remote (Dev.tc (⟨k0_dev8 c, k0_dev8_lt c⟩ : Dev nD)) (kvH ![2, 0, 0, 0, 0] inb_S4x2x2x256x64_S1x2x2x128x64_2_0_0_0_0) (.dma (semAt cc0_scratch2 2 inb_S4_S1_2)) hsc)
            (.dma (semAt cc0_scratch3 2 inb_S4_S1_2)) hsrc hdst hsem) kk) Q) := by
  have hn := dev8 c
  rw [← hn]
  exact send_kvH m K c ⟨k0_dev8 c, k0_dev8_lt c⟩ 2 hn 9 rfl (kS := 3) (loS := 0) (kD := 2) (loD := 0) rfl rfl (by rw [hn]; exact (zadd_next c).2.2.2.symm) rfl fullShare.left rfl Entails.rfl Entails.rfl
theorem copy3 (c : Dev nD) {α : Type} {Q : α → sProp 𝕄} {kk : PUnit → Prog (TpuEff nD τ sig (Elt F) Λ₀ .tc) α} {hsc hsrc hdst hsem} :
    iprop(records m K ∗ owesX c 9 ∗ sTok 3 c ∗ kvP c (kvReg 1 128 256) fullShare.left (kvF m c) ∗ (∃ f, kvP (peer 3 c) (kvReg 2 128 256) fullShare f))
      ⊢ iprop(((owesX c 8 ∗ sFl 3 c) -∗ WP c (kk ⟨⟩) Q)
          -∗ WP c (.op (.enqueueDma (kvH ![1, 0, 0, 128, 0] inb_S4x2x2x256x64_S1x2x2x128x64_1_0_0_128_0) (.remote (Dev.tc (⟨k0_dev9 c, k0_dev9_lt c⟩ : Dev nD)) (kvH ![2, 0, 0, 128, 0] inb_S4x2x2x256x64_S1x2x2x128x64_2_0_0_128_0) (.dma (semAt cc0_scratch2 3 inb_S4_S1_3)) hsc)
            (.dma (semAt cc0_scratch3 3 inb_S4_S1_3)) hsrc hdst hsem) kk) Q) := by
  have hn := dev9 c
  rw [← hn]
  exact send_kvH m K c ⟨k0_dev9 c, k0_dev9_lt c⟩ 3 hn 8 rfl (kS := 1) (loS := 128) (kD := 2) (loD := 128) rfl rfl (by rw [hn]; exact (zadd_next c).2.1.symm) rfl fullShare.left rfl Entails.rfl Entails.rfl
theorem arr4 (c : Dev nD) : (plP (peer 4 c) (plReg (cx c) (cy c) 0 256) fullShare (plF m (peer 4 c)) : sProp 𝕄) = recvPay m 4 (peer 4 c) := by
  rw [show plReg (cx c) (cy c) 0 256 = plReg (cx (peer 4 c)) (yl (peer 4 c)) 0 256 from
    congrArg₂ (plReg · · 0 256) (by revert c; decide +kernel) (by revert c; decide +kernel)]
  rfl
theorem copy4 (c : Dev nD) {α : Type} {Q : α → sProp 𝕄} {kk : PUnit → Prog (TpuEff nD τ sig (Elt F) Λ₀ .tc) α} {hsc hsrc hdst hsem} :
    iprop(records m K ∗ owesX c 8 ∗ sTok 4 c ∗ plP c (plReg (cx c) (cy c) 0 256) fullShare.left.left (plF m c) ∗ (∃ f, plP (peer 4 c) (plReg (cx c) (cy c) 0 256) fullShare f))
      ⊢ iprop(((owesX c 7 ∗ sFl 4 c) -∗ WP c (kk ⟨⟩) Q)
          -∗ WP c (.op (.enqueueDma (plW (k0_off1 c) (k0_off1_inb c)) (.remote (Dev.tc (⟨k0_dev10 c, k0_dev10_lt c⟩ : Dev nD)) (plW (k0_off1 c) (k0_off1_inb c)) (.dma (semAt cc0_scratch4 0 inb_S4_S1_0)) hsc)
            (.dma (semAt cc0_scratch5 0 inb_S4_S1_0)) hsrc hdst hsem) kk) Q) := by
  have hn := dev10 c
  rw [← hn]
  refine send_plW m K c ⟨k0_dev10 c, k0_dev10_lt c⟩ 4 hn 7 rfl (x := cx c) (y := cy c) (lo := 0) (off1 c) (by rw [hn]; exact cz_peer c 4 (by decide)) fullShare.left.left rfl Entails.rfl ?_
  rw [hn]
  exact Entails.of_eq (arr4 m c)
theorem arr5 (c : Dev nD) : (plP (peer 5 c) (plReg (cx c) (cy c) 0 256) fullShare (plF m (peer 5 c)) : sProp 𝕄) = recvPay m 5 (peer 5 c) := by
  rw [show plReg (cx c) (cy c) 0 256 = plReg (cx (peer 5 c)) (yr (peer 5 c)) 0 256 from
    congrArg₂ (plReg · · 0 256) (by revert c; decide +kernel) (by revert c; decide +kernel)]
  rfl
theorem copy5 (c : Dev nD) {α : Type} {Q : α → sProp 𝕄} {kk : PUnit → Prog (TpuEff nD τ sig (Elt F) Λ₀ .tc) α} {hsc hsrc hdst hsem} :
    iprop(records m K ∗ owesX c 7 ∗ sTok 5 c ∗ plP c (plReg (cx c) (cy c) 0 256) fullShare.left.right (plF m c) ∗ (∃ f, plP (peer 5 c) (plReg (cx c) (cy c) 0 256) fullShare f))
      ⊢ iprop(((owesX c 6 ∗ sFl 5 c) -∗ WP c (kk ⟨⟩) Q)
          -∗ WP c (.op (.enqueueDma (plW (k0_off1 c) (k0_off1_inb c)) (.remote (Dev.tc (⟨k0_dev11 c, k0_dev11_lt c⟩ : Dev nD)) (plW (k0_off1 c) (k0_off1_inb c)) (.dma (semAt cc0_scratch4 1 inb_S4_S1_1)) hsc)
            (.dma (semAt cc0_scratch5 1 inb_S4_S1_1)) hsrc hdst hsem) kk) Q) := by
  have hn := dev11 c
  rw [← hn]
  refine send_plW m K c ⟨k0_dev11 c, k0_dev11_lt c⟩ 5 hn 6 rfl (x := cx c) (y := cy c) (lo := 0) (off1 c) (by rw [hn]; exact cz_peer c 5 (by decide)) fullShare.left.right rfl Entails.rfl ?_
  rw [hn]
  exact Entails.of_eq (arr5 m c)
theorem arr8 (c : Dev nD) : (plP (peer 8 c) (plReg (cx c) (cy c) 0 256) fullShare (plF m (peer 8 c)) : sProp 𝕄) = recvPay m 8 (peer 8 c) := by
  rw [show plReg (cx c) (cy c) 0 256 = plReg (1 - cx (peer 8 c)) (cy (peer 8 c)) 0 256 from
    congrArg₂ (plReg · · 0 256) (by revert c; decide +kernel) (by revert c; decide +kernel)]
  rfl
theorem copy8 (c : Dev nD) {α : Type} {Q : α → sProp 𝕄} {kk : PUnit → Prog (TpuEff nD τ sig (Elt F) Λ₀ .tc) α} {hsc hsrc hdst hsem} :
    iprop(records m K ∗ owesX c 6 ∗ sTok 8 c ∗ plP c (plReg (cx c) (cy c) 0 256) fullShare.right.left (plF m c) ∗ (∃ f, plP (peer 8 c) (plReg (cx c) (cy c) 0 256) fullShare f))
      ⊢ iprop(((owesX c 5 ∗ sFl 8 c) -∗ WP c (kk ⟨⟩) Q)
          -∗ WP c (.op (.enqueueDma (plW (k0_off1 c) (k0_off1_inb c)) (.remote (Dev.tc (⟨k0_dev12 c, k0_dev12_lt c⟩ : Dev nD)) (plW (k0_off1 c) (k0_off1_inb c)) (.dma (semAt cc0_scratch6 0 inb_S4_S1_0)) hsc)
            (.dma (semAt cc0_scratch7 0 inb_S4_S1_0)) hsrc hdst hsem) kk) Q) := by
  have hn := dev12 c
  rw [← hn]
  refine send_plW m K c ⟨k0_dev12 c, k0_dev12_lt c⟩ 8 hn 5 rfl (x := cx c) (y := cy c) (lo := 0) (off1 c) (by rw [hn]; exact cz_peer c 8 (by decide)) fullShare.right.left rfl Entails.rfl ?_
  rw [hn]
  exact Entails.of_eq (arr8 m c)
theorem arr6 (c : Dev nD) : (plP (peer 6 c) (plReg (cx c) (yl c) 0 128) fullShare (plF m (peer 6 c)) : sProp 𝕄) = recvPay m 6 (peer 6 c) := by
  rw [show plReg (cx c) (yl c) 0 128 = plReg (cx (peer 6 c)) (yo (peer 6 c)) 0 128 from
    congrArg₂ (plReg · · 0 128) (by revert c; decide +kernel) (by revert c; decide +kernel)]
  rfl
theorem copy6 (c : Dev nD) {α : Type} {Q : α → sProp 𝕄} {kk : PUnit → Prog (TpuEff nD τ sig (Elt F) Λ₀ .tc) α} {hsc hsrc hdst hsem} :
    iprop(records m K ∗ owesX c 5 ∗ sTok 6 c ∗ plP c (plReg (cx c) (yl c) 0 128) fullShare.left (plF m c) ∗ (∃ f, plP (peer 6 c) (plReg (cx c) (yl c) 0 128) fullShare f))
      ⊢ iprop(((owesX c 4 ∗ sFl 6 c) -∗ WP c (kk ⟨⟩) Q)
          -∗ WP c (.op (.enqueueDma (plH (k0_off2 c) (k0_off2_inb c)) (.remote (Dev.tc (⟨k0_dev13 c, k0_dev13_lt c⟩ : Dev nD)) (plH (k0_off2 c) (k0_off2_inb c)) (.dma (semAt cc0_scratch4 2 inb_S4_S1_2)) hsc)
            (.dma (semAt cc0_scratch5 2 inb_S4_S1_2)) hsrc hdst hsem) kk) Q) := by
  have hn := dev13 c
  rw [← hn]
  refine send_plH m K c ⟨k0_dev13 c, k0_dev13_lt c⟩ 6 hn 4 rfl (x := cx c) (y := yl c) (lo := 0) (off2 c) (by rw [hn]; exact cz_peer c 6 (by decide)) fullShare.left rfl Entails.rfl ?_
  rw [hn]
  exact Entails.of_eq (arr6 m c)
theorem arr7 (c : Dev nD) : (plP (peer 7 c) (plReg (cx c) (yr c) 128 256) fullShare (plF m (peer 7 c)) : sProp 𝕄) = recvPay m 7 (peer 7 c) := by
  rw [show plReg (cx c) (yr c) 128 256 = plReg (cx (peer 7 c)) (yo (peer 7 c)) 128 256 from
    congrArg₂ (plReg · · 128 256) (by revert c; decide +kernel) (by revert c; decide +kernel)]
  rfl
theorem copy7 (c : Dev nD) {α : Type} {Q : α → sProp 𝕄} {kk : PUnit → Prog (TpuEff nD τ sig (Elt F) Λ₀ .tc) α} {hsc hsrc hdst hsem} :
    iprop(records m K ∗ owesX c 4 ∗ sTok 7 c ∗ plP c (plReg (cx c) (yr c) 128 256) fullShare.left (plF m c) ∗ (∃ f, plP (peer 7 c) (plReg (cx c) (yr c) 128 256) fullShare f))
      ⊢ iprop(((owesX c 3 ∗ sFl 7 c) -∗ WP c (kk ⟨⟩) Q)
          -∗ WP c (.op (.enqueueDma (plH (k0_off3 c) (k0_off3_inb c)) (.remote (Dev.tc (⟨k0_dev14 c, k0_dev14_lt c⟩ : Dev nD)) (plH (k0_off3 c) (k0_off3_inb c)) (.dma (semAt cc0_scratch4 3 inb_S4_S1_3)) hsc)
            (.dma (semAt cc0_scratch5 3 inb_S4_S1_3)) hsrc hdst hsem) kk) Q) := by
  have hn := dev14 c
  rw [← hn]
  refine send_plH m K c ⟨k0_dev14 c, k0_dev14_lt c⟩ 7 hn 3 rfl (x := cx c) (y := yr c) (lo := 128) (off3 c) (by rw [hn]; exact cz_peer c 7 (by decide)) fullShare.left rfl Entails.rfl ?_
  rw [hn]
  exact Entails.of_eq (arr7 m c)
theorem arr9 (c : Dev nD) : (plP (peer 9 c) (plReg (cx c) (yl c) 0 256) fullShare (plF m (peer 9 c)) : sProp 𝕄) = recvPay m 9 (peer 9 c) := by
  rw [show plReg (cx c) (yl c) 0 256 = plReg (1 - cx (peer 9 c)) (yl (peer 9 c)) 0 256 from
    congrArg₂ (plReg · · 0 256) (by revert c; decide +kernel) (by revert c; decide +kernel)]
  rfl
theorem copy9 (c : Dev nD) {α : Type} {Q : α → sProp 𝕄} {kk : PUnit → Prog (TpuEff nD τ sig (Elt F) Λ₀ .tc) α} {hsc hsrc hdst hsem} :
    iprop(records m K ∗ owesX c 3 ∗ sTok 9 c ∗ plP c (plReg (cx c) (yl c) 0 256) fullShare.right.left (plF m c) ∗ (∃ f, plP (peer 9 c) (plReg (cx c) (yl c) 0 256) fullShare f))
      ⊢ iprop(((owesX c 2 ∗ sFl 9 c) -∗ WP c (kk ⟨⟩) Q)
          -∗ WP c (.op (.enqueueDma (plW (k0_off4 c) (k0_off4_inb c)) (.remote (Dev.tc (⟨k0_dev15 c, k0_dev15_lt c⟩ : Dev nD)) (plW (k0_off4 c) (k0_off4_inb c)) (.dma (semAt cc0_scratch6 1 inb_S4_S1_1)) hsc)
            (.dma (semAt cc0_scratch7 1 inb_S4_S1_1)) hsrc hdst hsem) kk) Q) := by
  have hn := dev15 c
  rw [← hn]
  refine send_plW m K c ⟨k0_dev15 c, k0_dev15_lt c⟩ 9 hn 2 rfl (x := cx c) (y := yl c) (lo := 0) (off4 c) (by rw [hn]; exact cz_peer c 9 (by decide)) fullShare.right.left rfl Entails.rfl ?_
  rw [hn]
  exact Entails.of_eq (arr9 m c)
theorem arr10 (c : Dev nD) : (plP (peer 10 c) (plReg (cx c) (yr c) 0 256) fullShare (plF m (peer 10 c)) : sProp 𝕄) = recvPay m 10 (peer 10 c) := by
  rw [show plReg (cx c) (yr c) 0 256 = plReg (1 - cx (peer 10 c)) (yr (peer 10 c)) 0 256 from
    congrArg₂ (plReg · · 0 256) (by revert c; decide +kernel) (by revert c; decide +kernel)]
  rfl
theorem copy10 (c : Dev nD) {α : Type} {Q : α → sProp 𝕄} {kk : PUnit → Prog (TpuEff nD τ sig (Elt F) Λ₀ .tc) α} {hsc hsrc hdst hsem} :
    iprop(records m K ∗ owesX c 2 ∗ sTok 10 c ∗ plP c (plReg (cx c) (yr c) 0 256) fullShare.right.left (plF m c) ∗ (∃ f, plP (peer 10 c) (plReg (cx c) (yr c) 0 256) fullShare f))
      ⊢ iprop(((owesX c 1 ∗ sFl 10 c) -∗ WP c (kk ⟨⟩) Q)
          -∗ WP c (.op (.enqueueDma (plW (k0_off5 c 1#32) (k0_off5_inb c 0)) (.remote (Dev.tc (⟨k0_dev16 c, k0_dev16_lt c⟩ : Dev nD)) (plW (k0_off5 c 1#32) (k0_off5_inb c 0)) (.dma (semAt cc0_scratch6 2 inb_S4_S1_2)) hsc)
            (.dma (semAt cc0_scratch7 2 inb_S4_S1_2)) hsrc hdst hsem) kk) Q) := by
  have hn := dev16 c
  rw [← hn]
  refine send_plW m K c ⟨k0_dev16 c, k0_dev16_lt c⟩ 10 hn 1 rfl (x := cx c) (y := yr c) (lo := 0) (off5a c) (by rw [hn]; exact cz_peer c 10 (by decide)) fullShare.right.left rfl Entails.rfl ?_
  rw [hn]
  exact Entails.of_eq (arr10 m c)
theorem arr11 (c : Dev nD) : (plP (peer 11 c) (plReg (cx c) (yo c) 0 256) fullShare (plF m (peer 11 c)) : sProp 𝕄) = recvPay m 11 (peer 11 c) := by
  rw [show plReg (cx c) (yo c) 0 256 = plReg (1 - cx (peer 11 c)) (yo (peer 11 c)) 0 256 from
    congrArg₂ (plReg · · 0 256) (by revert c; decide +kernel) (by revert c; decide +kernel)]
  rfl
theorem copy11 (c : Dev nD) {α : Type} {Q : α → sProp 𝕄} {kk : PUnit → Prog (TpuEff nD τ sig (Elt F) Λ₀ .tc) α} {hsc hsrc hdst hsem} :
    iprop(records m K ∗ owesX c 1 ∗ sTok 11 c ∗ plP c (plReg (cx c) (yo c) 0 256) fullShare.left (plF m c) ∗ (∃ f, plP (peer 11 c) (plReg (cx c) (yo c) 0 256) fullShare f))
      ⊢ iprop(((owesX c 0 ∗ sFl 11 c) -∗ WP c (kk ⟨⟩) Q)
          -∗ WP c (.op (.enqueueDma (plW (k0_off5 c 2#32) (k0_off5_inb c 1)) (.remote (Dev.tc (⟨k0_dev17 c, k0_dev17_lt c⟩ : Dev nD)) (plW (k0_off5 c 2#32) (k0_off5_inb c 1)) (.dma (semAt cc0_scratch6 3 inb_S4_S1_3)) hsc)
            (.dma (semAt cc0_scratch7 3 inb_S4_S1_3)) hsrc hdst hsem) kk) Q) := by
  have hn := dev17 c
  rw [← hn]
  refine send_plW m K c ⟨k0_dev17 c, k0_dev17_lt c⟩ 11 hn 0 rfl (x := cx c) (y := yo c) (lo := 0) (off5b c) (by rw [hn]; exact cz_peer c 11 (by decide)) fullShare.left rfl Entails.rfl ?_
  rw [hn]
  exact Entails.of_eq (arr11 m c)

end Cert.Exchange

end
-- ==== Proof.Waits.lean ====
/-
# Waits, loads and stores, each as one step on the regions it touches
-/
module

public import proofs.«01_k».proof.Proof.Copies

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CK → ℕ)

/-! ## The waits -/
theorem recv0 (c : Dev nD) {sp' : Space} {s' : Shape} {e' : EltTy} {src : Memref sig .tc sp' s' e'} {off inb hsrc hdst}
    {α : Type} {Q : α → sProp 𝕄} {kk : PUnit → Prog (TpuEff nD τ sig (Elt F) Λ₀ .tc) α} :
    iprop(records m K ∗ owesX c 10 ∗ rTok 0 c)
      ⊢ iprop(((owesX c 10 ∗ semVal (recvC c 0) 0 ∗ recvPay m 0 c) -∗ WP c (kk ⟨⟩) Q)
          -∗ WP c (.op (.waitDma2 (semAt cc0_scratch3 0 inb_S4_S1_0) src (kvW off inb) hsrc hdst) kk) Q) :=
  recv_step m K c 0 10 (by decide) (by decide) (src := src) (dst := kvW off inb) rfl
theorem sent0 (c : Dev nD) {sp' : Space} {s' : Shape} {e' : EltTy} {src : Memref sig .tc sp' s' e'} {off inb hsrc hdst}
    {α : Type} {Q : α → sProp 𝕄} {kk : PUnit → Prog (TpuEff nD τ sig (Elt F) Λ₀ .tc) α} :
    iprop(records m K ∗ owesX c 0 ∗ sFl 0 c)
      ⊢ iprop(((owesX c 0 ∗ semVal (sendC c 0) 0 ∗ sendPay m 0 c) -∗ WP c (kk ⟨⟩) Q)
          -∗ WP c (.op (.waitDma2 (semAt cc0_scratch2 0 inb_S4_S1_0) src (kvW off inb) hsrc hdst) kk) Q) :=
  sent_step m K c 0 (src := src) (dst := kvW off inb) rfl
theorem recv1 (c : Dev nD) {sp' : Space} {s' : Shape} {e' : EltTy} {src : Memref sig .tc sp' s' e'} {off inb hsrc hdst}
    {α : Type} {Q : α → sProp 𝕄} {kk : PUnit → Prog (TpuEff nD τ sig (Elt F) Λ₀ .tc) α} :
    iprop(records m K ∗ owesX c 10 ∗ rTok 1 c)
      ⊢ iprop(((owesX c 10 ∗ semVal (recvC c 1) 0 ∗ recvPay m 1 c) -∗ WP c (kk ⟨⟩) Q)
          -∗ WP c (.op (.waitDma2 (semAt cc0_scratch3 1 inb_S4_S1_1) src (kvW off inb) hsrc hdst) kk) Q) :=
  recv_step m K c 1 10 (by decide) (by decide) (src := src) (dst := kvW off inb) rfl
theorem sent1 (c : Dev nD) {sp' : Space} {s' : Shape} {e' : EltTy} {src : Memref sig .tc sp' s' e'} {off inb hsrc hdst}
    {α : Type} {Q : α → sProp 𝕄} {kk : PUnit → Prog (TpuEff nD τ sig (Elt F) Λ₀ .tc) α} :
    iprop(records m K ∗ owesX c 0 ∗ sFl 1 c)
      ⊢ iprop(((owesX c 0 ∗ semVal (sendC c 1) 0 ∗ sendPay m 1 c) -∗ WP c (kk ⟨⟩) Q)
          -∗ WP c (.op (.waitDma2 (semAt cc0_scratch2 1 inb_S4_S1_1) src (kvW off inb) hsrc hdst) kk) Q) :=
  sent_step m K c 1 (src := src) (dst := kvW off inb) rfl
theorem recv2 (c : Dev nD) {sp' : Space} {s' : Shape} {e' : EltTy} {src : Memref sig .tc sp' s' e'} {off inb hsrc hdst}
    {α : Type} {Q : α → sProp 𝕄} {kk : PUnit → Prog (TpuEff nD τ sig (Elt F) Λ₀ .tc) α} :
    iprop(records m K ∗ owesX c 8 ∗ rTok 2 c)
      ⊢ iprop(((owesX c 8 ∗ semVal (recvC c 2) 0 ∗ recvPay m 2 c) -∗ WP c (kk ⟨⟩) Q)
          -∗ WP c (.op (.waitDma2 (semAt cc0_scratch3 2 inb_S4_S1_2) src (kvH off inb) hsrc hdst) kk) Q) :=
  recv_step m K c 2 8 (by decide) (by decide) (src := src) (dst := kvH off inb) rfl
theorem sent2 (c : Dev nD) {sp' : Space} {s' : Shape} {e' : EltTy} {src : Memref sig .tc sp' s' e'} {off inb hsrc hdst}
    {α : Type} {Q : α → sProp 𝕄} {kk : PUnit → Prog (TpuEff nD τ sig (Elt F) Λ₀ .tc) α} :
    iprop(records m K ∗ owesX c 0 ∗ sFl 2 c)
      ⊢ iprop(((owesX c 0 ∗ semVal (sendC c 2) 0 ∗ sendPay m 2 c) -∗ WP c (kk ⟨⟩) Q)
          -∗ WP c (.op (.waitDma2 (semAt cc0_scratch2 2 inb_S4_S1_2) src (kvH off inb) hsrc hdst) kk) Q) :=
  sent_step m K c 2 (src := src) (dst := kvH off inb) rfl
theorem recv3 (c : Dev nD) {sp' : Space} {s' : Shape} {e' : EltTy} {src : Memref sig .tc sp' s' e'} {off inb hsrc hdst}
    {α : Type} {Q : α → sProp 𝕄} {kk : PUnit → Prog (TpuEff nD τ sig (Elt F) Λ₀ .tc) α} :
    iprop(records m K ∗ owesX c 8 ∗ rTok 3 c)
      ⊢ iprop(((owesX c 8 ∗ semVal (recvC c 3) 0 ∗ recvPay m 3 c) -∗ WP c (kk ⟨⟩) Q)
          -∗ WP c (.op (.waitDma2 (semAt cc0_scratch3 3 inb_S4_S1_3) src (kvH off inb) hsrc hdst) kk) Q) :=
  recv_step m K c 3 8 (by decide) (by decide) (src := src) (dst := kvH off inb) rfl
theorem sent3 (c : Dev nD) {sp' : Space} {s' : Shape} {e' : EltTy} {src : Memref sig .tc sp' s' e'} {off inb hsrc hdst}
    {α : Type} {Q : α → sProp 𝕄} {kk : PUnit → Prog (TpuEff nD τ sig (Elt F) Λ₀ .tc) α} :
    iprop(records m K ∗ owesX c 0 ∗ sFl 3 c)
      ⊢ iprop(((owesX c 0 ∗ semVal (sendC c 3) 0 ∗ sendPay m 3 c) -∗ WP c (kk ⟨⟩) Q)
          -∗ WP c (.op (.waitDma2 (semAt cc0_scratch2 3 inb_S4_S1_3) src (kvH off inb) hsrc hdst) kk) Q) :=
  sent_step m K c 3 (src := src) (dst := kvH off inb) rfl
theorem recv4 (c : Dev nD) {sp' : Space} {s' : Shape} {e' : EltTy} {src : Memref sig .tc sp' s' e'} {off inb hsrc hdst}
    {α : Type} {Q : α → sProp 𝕄} {kk : PUnit → Prog (TpuEff nD τ sig (Elt F) Λ₀ .tc) α} :
    iprop(records m K ∗ owesX c 5 ∗ rTok 4 c)
      ⊢ iprop(((owesX c 5 ∗ semVal (recvC c 4) 0 ∗ recvPay m 4 c) -∗ WP c (kk ⟨⟩) Q)
          -∗ WP c (.op (.waitDma2 (semAt cc0_scratch5 0 inb_S4_S1_0) src (plW off inb) hsrc hdst) kk) Q) :=
  recv_step m K c 4 5 (by decide) (by decide) (src := src) (dst := plW off inb) rfl
theorem sent4 (c : Dev nD) {sp' : Space} {s' : Shape} {e' : EltTy} {src : Memref sig .tc sp' s' e'} {off inb hsrc hdst}
    {α : Type} {Q : α → sProp 𝕄} {kk : PUnit → Prog (TpuEff nD τ sig (Elt F) Λ₀ .tc) α} :
    iprop(records m K ∗ owesX c 0 ∗ sFl 4 c)
      ⊢ iprop(((owesX c 0 ∗ semVal (sendC c 4) 0 ∗ sendPay m 4 c) -∗ WP c (kk ⟨⟩) Q)
          -∗ WP c (.op (.waitDma2 (semAt cc0_scratch4 0 inb_S4_S1_0) src (plW off inb) hsrc hdst) kk) Q) :=
  sent_step m K c 4 (src := src) (dst := plW off inb) rfl
theorem recv5 (c : Dev nD) {sp' : Space} {s' : Shape} {e' : EltTy} {src : Memref sig .tc sp' s' e'} {off inb hsrc hdst}
    {α : Type} {Q : α → sProp 𝕄} {kk : PUnit → Prog (TpuEff nD τ sig (Elt F) Λ₀ .tc) α} :
    iprop(records m K ∗ owesX c 5 ∗ rTok 5 c)
      ⊢ iprop(((owesX c 5 ∗ semVal (recvC c 5) 0 ∗ recvPay m 5 c) -∗ WP c (kk ⟨⟩) Q)
          -∗ WP c (.op (.waitDma2 (semAt cc0_scratch5 1 inb_S4_S1_1) src (plW off inb) hsrc hdst) kk) Q) :=
  recv_step m K c 5 5 (by decide) (by decide) (src := src) (dst := plW off inb) rfl
theorem sent5 (c : Dev nD) {sp' : Space} {s' : Shape} {e' : EltTy} {src : Memref sig .tc sp' s' e'} {off inb hsrc hdst}
    {α : Type} {Q : α → sProp 𝕄} {kk : PUnit → Prog (TpuEff nD τ sig (Elt F) Λ₀ .tc) α} :
    iprop(records m K ∗ owesX c 0 ∗ sFl 5 c)
      ⊢ iprop(((owesX c 0 ∗ semVal (sendC c 5) 0 ∗ sendPay m 5 c) -∗ WP c (kk ⟨⟩) Q)
          -∗ WP c (.op (.waitDma2 (semAt cc0_scratch4 1 inb_S4_S1_1) src (plW off inb) hsrc hdst) kk) Q) :=
  sent_step m K c 5 (src := src) (dst := plW off inb) rfl
theorem recv6 (c : Dev nD) {sp' : Space} {s' : Shape} {e' : EltTy} {src : Memref sig .tc sp' s' e'} {off inb hsrc hdst}
    {α : Type} {Q : α → sProp 𝕄} {kk : PUnit → Prog (TpuEff nD τ sig (Elt F) Λ₀ .tc) α} :
    iprop(records m K ∗ owesX c 1 ∗ rTok 6 c)
      ⊢ iprop(((owesX c 1 ∗ semVal (recvC c 6) 0 ∗ recvPay m 6 c) -∗ WP c (kk ⟨⟩) Q)
          -∗ WP c (.op (.waitDma2 (semAt cc0_scratch5 2 inb_S4_S1_2) src (plH off inb) hsrc hdst) kk) Q) :=
  recv_step m K c 6 1 (by decide) (by decide) (src := src) (dst := plH off inb) rfl
theorem sent6 (c : Dev nD) {sp' : Space} {s' : Shape} {e' : EltTy} {src : Memref sig .tc sp' s' e'} {off inb hsrc hdst}
    {α : Type} {Q : α → sProp 𝕄} {kk : PUnit → Prog (TpuEff nD τ sig (Elt F) Λ₀ .tc) α} :
    iprop(records m K ∗ owesX c 0 ∗ sFl 6 c)
      ⊢ iprop(((owesX c 0 ∗ semVal (sendC c 6) 0 ∗ sendPay m 6 c) -∗ WP c (kk ⟨⟩) Q)
          -∗ WP c (.op (.waitDma2 (semAt cc0_scratch4 2 inb_S4_S1_2) src (plH off inb) hsrc hdst) kk) Q) :=
  sent_step m K c 6 (src := src) (dst := plH off inb) rfl
theorem recv7 (c : Dev nD) {sp' : Space} {s' : Shape} {e' : EltTy} {src : Memref sig .tc sp' s' e'} {off inb hsrc hdst}
    {α : Type} {Q : α → sProp 𝕄} {kk : PUnit → Prog (TpuEff nD τ sig (Elt F) Λ₀ .tc) α} :
    iprop(records m K ∗ owesX c 1 ∗ rTok 7 c)
      ⊢ iprop(((owesX c 1 ∗ semVal (recvC c 7) 0 ∗ recvPay m 7 c) -∗ WP c (kk ⟨⟩) Q)
          -∗ WP c (.op (.waitDma2 (semAt cc0_scratch5 3 inb_S4_S1_3) src (plH off inb) hsrc hdst) kk) Q) :=
  recv_step m K c 7 1 (by decide) (by decide) (src := src) (dst := plH off inb) rfl
theorem sent7 (c : Dev nD) {sp' : Space} {s' : Shape} {e' : EltTy} {src : Memref sig .tc sp' s' e'} {off inb hsrc hdst}
    {α : Type} {Q : α → sProp 𝕄} {kk : PUnit → Prog (TpuEff nD τ sig (Elt F) Λ₀ .tc) α} :
    iprop(records m K ∗ owesX c 0 ∗ sFl 7 c)
      ⊢ iprop(((owesX c 0 ∗ semVal (sendC c 7) 0 ∗ sendPay m 7 c) -∗ WP c (kk ⟨⟩) Q)
          -∗ WP c (.op (.waitDma2 (semAt cc0_scratch4 3 inb_S4_S1_3) src (plH off inb) hsrc hdst) kk) Q) :=
  sent_step m K c 7 (src := src) (dst := plH off inb) rfl
theorem recv8 (c : Dev nD) {sp' : Space} {s' : Shape} {e' : EltTy} {src : Memref sig .tc sp' s' e'} {off inb hsrc hdst}
    {α : Type} {Q : α → sProp 𝕄} {kk : PUnit → Prog (TpuEff nD τ sig (Elt F) Λ₀ .tc) α} :
    iprop(records m K ∗ owesX c 0 ∗ rTok 8 c)
      ⊢ iprop(((owesX c 0 ∗ semVal (recvC c 8) 0 ∗ recvPay m 8 c) -∗ WP c (kk ⟨⟩) Q)
          -∗ WP c (.op (.waitDma2 (semAt cc0_scratch7 0 inb_S4_S1_0) src (plW off inb) hsrc hdst) kk) Q) :=
  recv_step m K c 8 0 (by decide) (by decide) (src := src) (dst := plW off inb) rfl
theorem sent8 (c : Dev nD) {sp' : Space} {s' : Shape} {e' : EltTy} {src : Memref sig .tc sp' s' e'} {off inb hsrc hdst}
    {α : Type} {Q : α → sProp 𝕄} {kk : PUnit → Prog (TpuEff nD τ sig (Elt F) Λ₀ .tc) α} :
    iprop(records m K ∗ owesX c 0 ∗ sFl 8 c)
      ⊢ iprop(((owesX c 0 ∗ semVal (sendC c 8) 0 ∗ sendPay m 8 c) -∗ WP c (kk ⟨⟩) Q)
          -∗ WP c (.op (.waitDma2 (semAt cc0_scratch6 0 inb_S4_S1_0) src (plW off inb) hsrc hdst) kk) Q) :=
  sent_step m K c 8 (src := src) (dst := plW off inb) rfl
theorem recv9 (c : Dev nD) {sp' : Space} {s' : Shape} {e' : EltTy} {src : Memref sig .tc sp' s' e'} {off inb hsrc hdst}
    {α : Type} {Q : α → sProp 𝕄} {kk : PUnit → Prog (TpuEff nD τ sig (Elt F) Λ₀ .tc) α} :
    iprop(records m K ∗ owesX c 0 ∗ rTok 9 c)
      ⊢ iprop(((owesX c 0 ∗ semVal (recvC c 9) 0 ∗ recvPay m 9 c) -∗ WP c (kk ⟨⟩) Q)
          -∗ WP c (.op (.waitDma2 (semAt cc0_scratch7 1 inb_S4_S1_1) src (plW off inb) hsrc hdst) kk) Q) :=
  recv_step m K c 9 0 (by decide) (by decide) (src := src) (dst := plW off inb) rfl
theorem sent9 (c : Dev nD) {sp' : Space} {s' : Shape} {e' : EltTy} {src : Memref sig .tc sp' s' e'} {off inb hsrc hdst}
    {α : Type} {Q : α → sProp 𝕄} {kk : PUnit → Prog (TpuEff nD τ sig (Elt F) Λ₀ .tc) α} :
    iprop(records m K ∗ owesX c 0 ∗ sFl 9 c)
      ⊢ iprop(((owesX c 0 ∗ semVal (sendC c 9) 0 ∗ sendPay m 9 c) -∗ WP c (kk ⟨⟩) Q)
          -∗ WP c (.op (.waitDma2 (semAt cc0_scratch6 1 inb_S4_S1_1) src (plW off inb) hsrc hdst) kk) Q) :=
  sent_step m K c 9 (src := src) (dst := plW off inb) rfl
theorem recv10 (c : Dev nD) {sp' : Space} {s' : Shape} {e' : EltTy} {src : Memref sig .tc sp' s' e'} {off inb hsrc hdst}
    {α : Type} {Q : α → sProp 𝕄} {kk : PUnit → Prog (TpuEff nD τ sig (Elt F) Λ₀ .tc) α} :
    iprop(records m K ∗ owesX c 0 ∗ rTok 10 c)
      ⊢ iprop(((owesX c 0 ∗ semVal (recvC c 10) 0 ∗ recvPay m 10 c) -∗ WP c (kk ⟨⟩) Q)
          -∗ WP c (.op (.waitDma2 (semAt cc0_scratch7 2 inb_S4_S1_2) src (plW off inb) hsrc hdst) kk) Q) :=
  recv_step m K c 10 0 (by decide) (by decide) (src := src) (dst := plW off inb) rfl
theorem sent10 (c : Dev nD) {sp' : Space} {s' : Shape} {e' : EltTy} {src : Memref sig .tc sp' s' e'} {off inb hsrc hdst}
    {α : Type} {Q : α → sProp 𝕄} {kk : PUnit → Prog (TpuEff nD τ sig (Elt F) Λ₀ .tc) α} :
    iprop(records m K ∗ owesX c 0 ∗ sFl 10 c)
      ⊢ iprop(((owesX c 0 ∗ semVal (sendC c 10) 0 ∗ sendPay m 10 c) -∗ WP c (kk ⟨⟩) Q)
          -∗ WP c (.op (.waitDma2 (semAt cc0_scratch6 2 inb_S4_S1_2) src (plW off inb) hsrc hdst) kk) Q) :=
  sent_step m K c 10 (src := src) (dst := plW off inb) rfl
theorem recv11 (c : Dev nD) {sp' : Space} {s' : Shape} {e' : EltTy} {src : Memref sig .tc sp' s' e'} {off inb hsrc hdst}
    {α : Type} {Q : α → sProp 𝕄} {kk : PUnit → Prog (TpuEff nD τ sig (Elt F) Λ₀ .tc) α} :
    iprop(records m K ∗ owesX c 0 ∗ rTok 11 c)
      ⊢ iprop(((owesX c 0 ∗ semVal (recvC c 11) 0 ∗ recvPay m 11 c) -∗ WP c (kk ⟨⟩) Q)
          -∗ WP c (.op (.waitDma2 (semAt cc0_scratch7 3 inb_S4_S1_3) src (plW off inb) hsrc hdst) kk) Q) :=
  recv_step m K c 11 0 (by decide) (by decide) (src := src) (dst := plW off inb) rfl
theorem sent11 (c : Dev nD) {sp' : Space} {s' : Shape} {e' : EltTy} {src : Memref sig .tc sp' s' e'} {off inb hsrc hdst}
    {α : Type} {Q : α → sProp 𝕄} {kk : PUnit → Prog (TpuEff nD τ sig (Elt F) Λ₀ .tc) α} :
    iprop(records m K ∗ owesX c 0 ∗ sFl 11 c)
      ⊢ iprop(((owesX c 0 ∗ semVal (sendC c 11) 0 ∗ sendPay m 11 c) -∗ WP c (kk ⟨⟩) Q)
          -∗ WP c (.op (.waitDma2 (semAt cc0_scratch6 3 inb_S4_S1_3) src (plW off inb) hsrc hdst) kk) Q) :=
  sent_step m K c 11 (src := src) (dst := plW off inb) rfl

/-! ## Loads and stores -/

theorem q_load (c : Dev nD) (q : PosShare TreeShare) (f : Buf (Elt F) ((c : Thread nD τ).loc cc0_stg0_0)) {inb hl} {α : Type} {Q : α → sProp 𝕄}
    {kk : Vec F S2x256x8x64 .bf16 → Prog (TpuEff nD τ sig (Elt F) Λ₀ .tc) α} :
    ((c : Thread nD τ).loc cc0_stg0_0 ↦[Finset.univ]{q} f : sProp 𝕄)
      ⊢ iprop((((c : Thread nD τ).loc cc0_stg0_0 ↦[Finset.univ]{q} f) -∗ WP c (kk f) Q)
          -∗ WP c (.op (.load qM (Rect.unit (s := S2x256x8x64) ![0, 0, 0, 0] S2x256x8x64.size inb).toLoadRect hl) kk) Q) := by
  have h : ((c : Thread nD τ).loc cc0_stg0_0 ↦[Finset.univ]{q} f : sProp 𝕄)
      ⊢ iprop((((c : Thread nD τ).loc cc0_stg0_0 ↦[Finset.univ]{q} f) -∗ WP c (kk (qM.view.readAt (Elt F) (Rect.unit (s := S2x256x8x64) ![0, 0, 0, 0] S2x256x8x64.size inb).toLoadRect f)) Q)
          -∗ WP c (.op (.load qM (Rect.unit (s := S2x256x8x64) ![0, 0, 0, 0] S2x256x8x64.size inb).toLoadRect hl) kk) Q) :=
    wp_load 𝒱₀ (c : Thread nD τ) none Set.univ (m := qM) (Finset.subset_univ _)
  rwa [show qM.view.readAt (Elt F) (Rect.unit (s := S2x256x8x64) ![0, 0, 0, 0] S2x256x8x64.size inb).toLoadRect f = f from
    Memref.readAt_unit_zero (Elt F) cc0_stg0_0 (by decide) _ f] at h
theorem k_load (c : Dev nD) (q : PosShare TreeShare) (f : Buf (Elt F) ((c : Thread nD τ).loc cc0_stg1_0)) {inb hl} {α : Type} {Q : α → sProp 𝕄}
    {kk : Vec F S2x256x8x64 .bf16 → Prog (TpuEff nD τ sig (Elt F) Λ₀ .tc) α} :
    ((c : Thread nD τ).loc cc0_stg1_0 ↦[Finset.univ]{q} f : sProp 𝕄)
      ⊢ iprop((((c : Thread nD τ).loc cc0_stg1_0 ↦[Finset.univ]{q} f) -∗ WP c (kk f) Q)
          -∗ WP c (.op (.load kM (Rect.unit (s := S2x256x8x64) ![0, 0, 0, 0] S2x256x8x64.size inb).toLoadRect hl) kk) Q) := by
  have h : ((c : Thread nD τ).loc cc0_stg1_0 ↦[Finset.univ]{q} f : sProp 𝕄)
      ⊢ iprop((((c : Thread nD τ).loc cc0_stg1_0 ↦[Finset.univ]{q} f) -∗ WP c (kk (kM.view.readAt (Elt F) (Rect.unit (s := S2x256x8x64) ![0, 0, 0, 0] S2x256x8x64.size inb).toLoadRect f)) Q)
          -∗ WP c (.op (.load kM (Rect.unit (s := S2x256x8x64) ![0, 0, 0, 0] S2x256x8x64.size inb).toLoadRect hl) kk) Q) :=
    wp_load 𝒱₀ (c : Thread nD τ) none Set.univ (m := kM) (Finset.subset_univ _)
  rwa [show kM.view.readAt (Elt F) (Rect.unit (s := S2x256x8x64) ![0, 0, 0, 0] S2x256x8x64.size inb).toLoadRect f = f from
    Memref.readAt_unit_zero (Elt F) cc0_stg1_0 (by decide) _ f] at h
theorem v_load (c : Dev nD) (q : PosShare TreeShare) (f : Buf (Elt F) ((c : Thread nD τ).loc cc0_stg2_0)) {inb hl} {α : Type} {Q : α → sProp 𝕄}
    {kk : Vec F S2x256x8x64 .bf16 → Prog (TpuEff nD τ sig (Elt F) Λ₀ .tc) α} :
    ((c : Thread nD τ).loc cc0_stg2_0 ↦[Finset.univ]{q} f : sProp 𝕄)
      ⊢ iprop((((c : Thread nD τ).loc cc0_stg2_0 ↦[Finset.univ]{q} f) -∗ WP c (kk f) Q)
          -∗ WP c (.op (.load vM (Rect.unit (s := S2x256x8x64) ![0, 0, 0, 0] S2x256x8x64.size inb).toLoadRect hl) kk) Q) := by
  have h : ((c : Thread nD τ).loc cc0_stg2_0 ↦[Finset.univ]{q} f : sProp 𝕄)
      ⊢ iprop((((c : Thread nD τ).loc cc0_stg2_0 ↦[Finset.univ]{q} f) -∗ WP c (kk (vM.view.readAt (Elt F) (Rect.unit (s := S2x256x8x64) ![0, 0, 0, 0] S2x256x8x64.size inb).toLoadRect f)) Q)
          -∗ WP c (.op (.load vM (Rect.unit (s := S2x256x8x64) ![0, 0, 0, 0] S2x256x8x64.size inb).toLoadRect hl) kk) Q) :=
    wp_load 𝒱₀ (c : Thread nD τ) none Set.univ (m := vM) (Finset.subset_univ _)
  rwa [show vM.view.readAt (Elt F) (Rect.unit (s := S2x256x8x64) ![0, 0, 0, 0] S2x256x8x64.size inb).toLoadRect f = f from
    Memref.readAt_unit_zero (Elt F) cc0_stg2_0 (by decide) _ f] at h

theorem kv_load (c : Dev nD) {S : Finset S4x2x2x256x64.Idx} {q : PosShare TreeShare} (f : Buf (Elt F) ((c : Thread nD τ).loc cc0_scratch0)) {off size : Fin 5 → ℕ} {inb hl}
    (hS : (Rect.unit (s := S4x2x2x256x64) off size inb).set ⊆ S) {w : Vec F ⟨5, size⟩ .bf16}
    (hw : kvM.view.readAt (Elt F) (Rect.unit (s := S4x2x2x256x64) off size inb).toLoadRect f = w)
    {α : Type} {Q : α → sProp 𝕄} {kk : Vec F ⟨5, size⟩ .bf16 → Prog (TpuEff nD τ sig (Elt F) Λ₀ .tc) α} :
    (kvP c S q f : sProp 𝕄)
      ⊢ iprop((kvP c S q f -∗ WP c (kk w) Q)
          -∗ WP c (.op (.load kvM (Rect.unit (s := S4x2x2x256x64) off size inb).toLoadRect hl) kk) Q) := by
  have h : (kvP c S q f : sProp 𝕄)
      ⊢ iprop((kvP c S q f -∗ WP c (kk (kvM.view.readAt (Elt F) (Rect.unit (s := S4x2x2x256x64) off size inb).toLoadRect f)) Q)
          -∗ WP c (.op (.load kvM (Rect.unit (s := S4x2x2x256x64) off size inb).toLoadRect hl) kk) Q) :=
   wp_load 𝒱₀ (c : Thread nD τ) none Set.univ (m := kvM)
    (by
      intro i hi
      obtain ⟨x, hx, rfl⟩ := Finset.mem_map.mp hi
      exact hS hx)
  rwa [hw] at h
theorem kv_store (c : Dev nD) {S : Finset S4x2x2x256x64.Idx} (f : Buf (Elt F) ((c : Thread nD τ).loc cc0_scratch0)) {off size : Fin 5 → ℕ} {inb hx hm}
    (hS : (Rect.unit (s := S4x2x2x256x64) off size inb).set ⊆ S) {w : Vec F ⟨5, size⟩ .bf16}
    {α : Type} {Q : α → sProp 𝕄} {kk : PUnit → Prog (TpuEff nD τ sig (Elt F) Λ₀ .tc) α} :
    (kvP c S fullShare f : sProp 𝕄)
      ⊢ iprop((kvP c S fullShare ((kvM.access (Rect.unit (s := S4x2x2x256x64) off size inb)).write (Elt F) f w Finset.univ) -∗ WP c (kk ⟨⟩) Q)
          -∗ WP c (.op (.store kvM (Rect.unit (s := S4x2x2x256x64) off size inb) w Finset.univ hx hm) kk) Q) := by
  have hS' : (kvM.access (Rect.unit (s := S4x2x2x256x64) off size inb)).setOn Finset.univ ⊆ S := by
    rw [View.setOn_univ]
    intro i hi
    exact hS ((congrArg (i ∈ ·) (View.set_slice_whole _ _)).mp hi)
  exact wp_store (r := Rect.unit (s := S4x2x2x256x64) off size inb) 𝒱₀ (c : Thread nD τ) none Set.univ (Q := Q) (defs := defs₀ (F := F)) (m := kvM) hS'

theorem pl_load (c : Dev nD) {S : Finset S2x4x2x256x64.Idx} {q : PosShare TreeShare} (f : Buf (Elt F) ((c : Thread nD τ).loc cc0_scratch1)) {off size : Fin 5 → ℕ} {inb hl}
    (hS : (Rect.unit (s := S2x4x2x256x64) off size inb).set ⊆ S) {w : Vec F ⟨5, size⟩ .bf16}
    (hw : plM.view.readAt (Elt F) (Rect.unit (s := S2x4x2x256x64) off size inb).toLoadRect f = w)
    {α : Type} {Q : α → sProp 𝕄} {kk : Vec F ⟨5, size⟩ .bf16 → Prog (TpuEff nD τ sig (Elt F) Λ₀ .tc) α} :
    (plP c S q f : sProp 𝕄)
      ⊢ iprop((plP c S q f -∗ WP c (kk w) Q)
          -∗ WP c (.op (.load plM (Rect.unit (s := S2x4x2x256x64) off size inb).toLoadRect hl) kk) Q) := by
  have h : (plP c S q f : sProp 𝕄)
      ⊢ iprop((plP c S q f -∗ WP c (kk (plM.view.readAt (Elt F) (Rect.unit (s := S2x4x2x256x64) off size inb).toLoadRect f)) Q)
          -∗ WP c (.op (.load plM (Rect.unit (s := S2x4x2x256x64) off size inb).toLoadRect hl) kk) Q) :=
   wp_load 𝒱₀ (c : Thread nD τ) none Set.univ (m := plM)
    (by
      intro i hi
      obtain ⟨x, hx, rfl⟩ := Finset.mem_map.mp hi
      exact hS hx)
  rwa [hw] at h
theorem pl_store (c : Dev nD) {S : Finset S2x4x2x256x64.Idx} (f : Buf (Elt F) ((c : Thread nD τ).loc cc0_scratch1)) {off size : Fin 5 → ℕ} {inb hx hm}
    (hS : (Rect.unit (s := S2x4x2x256x64) off size inb).set ⊆ S) {w : Vec F ⟨5, size⟩ .bf16}
    {α : Type} {Q : α → sProp 𝕄} {kk : PUnit → Prog (TpuEff nD τ sig (Elt F) Λ₀ .tc) α} :
    (plP c S fullShare f : sProp 𝕄)
      ⊢ iprop((plP c S fullShare ((plM.access (Rect.unit (s := S2x4x2x256x64) off size inb)).write (Elt F) f w Finset.univ) -∗ WP c (kk ⟨⟩) Q)
          -∗ WP c (.op (.store plM (Rect.unit (s := S2x4x2x256x64) off size inb) w Finset.univ hx hm) kk) Q) := by
  have hS' : (plM.access (Rect.unit (s := S2x4x2x256x64) off size inb)).setOn Finset.univ ⊆ S := by
    rw [View.setOn_univ]
    intro i hi
    exact hS ((congrArg (i ∈ ·) (View.set_slice_whole _ _)).mp hi)
  exact wp_store (r := Rect.unit (s := S2x4x2x256x64) off size inb) 𝒱₀ (c : Thread nD τ) none Set.univ (Q := Q) (defs := defs₀ (F := F)) (m := plM) hS'

end Cert.Exchange

end
-- ==== Proof.Blocks.lean ====
/-
# The guarded stores of the result plane and of the output block, and the stores of the exchange buffer's own slot
-/
module

public import proofs.«01_k».proof.Proof.Waits

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CK → ℕ)

/-! ## The device's place as the program computes it -/

/-- The words the program tests: the device's `x` and its `y`. -/
def w2 (c : Dev nD) : BitVec 32 := Scalar.remsi (Scalar.divsi (Dev.word c) 16#32) 2#32
def w5 (c : Dev nD) : BitVec 32 := Scalar.remsi (Scalar.divsi (Dev.word c) 4#32) 4#32

theorem cond_xy' : ∀ (c : Dev nD) (a : Fin 2) (b : Fin 4),
    (Scalar.cmpi .ne ((Scalar.extui (Scalar.andi (Scalar.cmpi .eq (w2 c) (BitVec.ofNat 32 a.val)) (Scalar.cmpi .eq (w5 c) (BitVec.ofNat 32 b.val)))) : BitVec 32) 0#32 = 1#1)
      ↔ (cx c = a.val ∧ cy c = b.val) := by decide +kernel
theorem cond_xy (c : Dev nD) (a b : ℕ) (ha : a < 2) (hb : b < 4) :
    (Scalar.cmpi .ne ((Scalar.extui (Scalar.andi (Scalar.cmpi .eq (w2 c) (BitVec.ofNat 32 a)) (Scalar.cmpi .eq (w5 c) (BitVec.ofNat 32 b)))) : BitVec 32) 0#32 = 1#1)
      ↔ (cx c = a ∧ cy c = b) := cond_xy' c ⟨a, ha⟩ ⟨b, hb⟩
theorem cond_x' : ∀ (c : Dev nD) (a : Fin 2),
    (Scalar.cmpi .ne ((Scalar.extui (Scalar.cmpi .eq (w2 c) (BitVec.ofNat 32 a.val))) : BitVec 32) 0#32 = 1#1) ↔ cx c = a.val := by decide +kernel
theorem cond_x (c : Dev nD) (a : ℕ) (ha : a < 2) :
    (Scalar.cmpi .ne ((Scalar.extui (Scalar.cmpi .eq (w2 c) (BitVec.ofNat 32 a))) : BitVec 32) 0#32 = 1#1) ↔ cx c = a := cond_x' c ⟨a, ha⟩

/-! ## The own slot of the exchange buffer -/

theorem kv_own_half (c : Dev nD) (f : Buf (Elt F) ((c : Thread nD τ).loc cc0_scratch0)) (n : ℕ) (hn : n < 2) (off : Fin 5 → ℕ) (inb)
    (ho : off = ![0, n, 0, 0, 0]) (w : Vec F S1x1x2x256x64 .bf16)
    (hw : ∀ x : S1x1x2x256x64.Idx, w x = kvF m c ((Rect.unit (s := S4x2x2x256x64) off S1x1x2x256x64.size inb).emb x))
    (i : S4x2x2x256x64.Idx) (hi : i ∈ kvReg 0 0 256) :
    (kvM.access (Rect.unit (s := S4x2x2x256x64) off S1x1x2x256x64.size inb)).write (Elt F) f w Finset.univ i
      = if (i (1 : Fin 5)).val = n then kvF m c i else f i := by
  have hset : (kvM.access (Rect.unit (s := S4x2x2x256x64) off S1x1x2x256x64.size inb)).set = (Rect.unit (s := S4x2x2x256x64) off S1x1x2x256x64.size inb).set :=
    View.set_slice_whole _ _
  simp only [kvReg, Finset.mem_filter, Finset.mem_univ, true_and] at hi
  by_cases h : (i (1 : Fin 5)).val = n
  · rw [if_pos h]
    have hm : i ∈ (kvM.access (Rect.unit (s := S4x2x2x256x64) off S1x1x2x256x64.size inb)).set := by
      rw [hset, Rect.mem_set_unit, ho]
      intro a
      have h2 : (i (2 : Fin 5)).val < 2 := (i (2 : Fin 5)).isLt
      have h4 : (i (4 : Fin 5)).val < 64 := (i (4 : Fin 5)).isLt
      fin_cases a
      · show 0 ≤ (i (0 : Fin 5)).val ∧ (i (0 : Fin 5)).val < 0 + 1; omega
      · show n ≤ (i (1 : Fin 5)).val ∧ (i (1 : Fin 5)).val < n + 1; omega
      · show 0 ≤ (i (2 : Fin 5)).val ∧ (i (2 : Fin 5)).val < 0 + 2; omega
      · show 0 ≤ (i (3 : Fin 5)).val ∧ (i (3 : Fin 5)).val < 0 + 256; omega
      · show 0 ≤ (i (4 : Fin 5)).val ∧ (i (4 : Fin 5)).val < 0 + 64; omega
    obtain ⟨x, -, rfl⟩ := Finset.mem_map.mp hm
    exact (View.write_emb_of_mem _ _ (Finset.mem_univ x)).trans (hw x)
  · rw [if_neg h]
    refine View.write_of_not_mem _ _ _ ?_
    rw [View.setOn_univ, hset, Rect.mem_set_unit, ho]
    intro hh
    have := hh (1 : Fin 5)
    change n ≤ (i (1 : Fin 5)).val ∧ (i (1 : Fin 5)).val < n + 1 at this
    omega

theorem kv_own (c : Dev nD) (f : Buf (Elt F) ((c : Thread nD τ).loc cc0_scratch0)) (inb inb') (u w : Vec F S1x1x2x256x64 .bf16) (hu : u = v58 m c) (hw : w = v61 m c) :
    (kvP c (kvReg 0 0 256) fullShare ((kvM.access (Rect.unit (s := S4x2x2x256x64) ![0, 1, 0, 0, 0] S1x1x2x256x64.size inb')).write (Elt F)
      ((kvM.access (Rect.unit (s := S4x2x2x256x64) ![0, 0, 0, 0, 0] S1x1x2x256x64.size inb)).write (Elt F) f u Finset.univ) w Finset.univ) : sProp 𝕄)
      ⊢ kvP c (kvReg 0 0 256) fullShare (kvF m c) := by
  subst hu hw
  refine Entails.of_eq (pointsTo_congr fun i hi => ?_)
  have key : ∀ (n : ℕ) (inb) (x : S1x1x2x256x64.Idx),
      kvF m c ((Rect.unit (s := S4x2x2x256x64) ![0, n, 0, 0, 0] S1x1x2x256x64.size inb).emb x) = if n = 0 then v58 m c x else v61 m c x := by
    intro n inb x
    have x0 : (x (0 : Fin 5)).val < 1 := (x (0 : Fin 5)).isLt
    have x1 : (x (1 : Fin 5)).val < 1 := (x (1 : Fin 5)).isLt
    have e0 : (((Rect.unit (s := S4x2x2x256x64) ![0, n, 0, 0, 0] S1x1x2x256x64.size inb).emb x) (0 : Fin 5)).val = 0 := by
      rw [ValueKit.rect_emb_unit_val]; show 0 + (x (0 : Fin 5)).val = 0; omega
    have e1 : (((Rect.unit (s := S4x2x2x256x64) ![0, n, 0, 0, 0] S1x1x2x256x64.size inb).emb x) (1 : Fin 5)).val = n := by
      rw [ValueKit.rect_emb_unit_val]; show n + (x (1 : Fin 5)).val = n; omega
    have e2 : ((Rect.unit (s := S4x2x2x256x64) ![0, n, 0, 0, 0] S1x1x2x256x64.size inb).emb x) (2 : Fin 5) = x (2 : Fin 5) :=
      Fin.ext (by rw [ValueKit.rect_emb_unit_val]; exact Nat.zero_add _)
    have e3 : ((Rect.unit (s := S4x2x2x256x64) ![0, n, 0, 0, 0] S1x1x2x256x64.size inb).emb x) (3 : Fin 5) = x (3 : Fin 5) :=
      Fin.ext (by rw [ValueKit.rect_emb_unit_val]; exact Nat.zero_add _)
    have e4 : ((Rect.unit (s := S4x2x2x256x64) ![0, n, 0, 0, 0] S1x1x2x256x64.size inb).emb x) (4 : Fin 5) = x (4 : Fin 5) :=
      Fin.ext (by rw [ValueKit.rect_emb_unit_val]; exact Nat.zero_add _)
    have ex : (ix5 0 0 (x (2 : Fin 5)) (x (3 : Fin 5)) (x (4 : Fin 5)) : S1x1x2x256x64.Idx) = x := by
      funext a
      fin_cases a
      · exact Fin.ext (show 0 = (x (0 : Fin 5)).val by omega)
      · exact Fin.ext (show 0 = (x (1 : Fin 5)).val by omega)
      · rfl
      · rfl
      · rfl
    unfold kvF
    dsimp only
    rw [e0, e1, e2, e3, e4, zadd_zero]
    by_cases hn : n = 0
    · rw [if_pos hn, if_pos hn]; exact congrArg (v58 m c) ex
    · rw [if_neg hn, if_neg hn]; exact congrArg (v61 m c) ex
  rw [kv_own_half m c _ 1 (by decide) ![0, 1, 0, 0, 0] inb' rfl (v61 m c) (fun x => ((key 1 inb' x).trans (if_neg (by decide))).symm) i hi,
    kv_own_half m c f 0 (by decide) ![0, 0, 0, 0, 0] inb rfl (v58 m c) (fun x => ((key 0 inb x).trans (if_pos rfl)).symm) i hi]
  have h1 : (i (1 : Fin 5)).val < 2 := (i (1 : Fin 5)).isLt
  by_cases h : (i (1 : Fin 5)).val = 1
  · rw [if_pos h]
  · rw [if_neg h, if_pos (by omega)]

/-! ## The own slot of the result plane -/

theorem pl_own (c : Dev nD) (f : Buf (Elt F) ((c : Thread nD τ).loc cc0_scratch1)) (off : Fin 5 → ℕ) (inb) (ho : off = ![cx c, cy c, 0, 0, 0]) :
    (plP c (plReg (cx c) (cy c) 0 256) fullShare ((plM.access (Rect.unit (s := S2x4x2x256x64) off S1x1x2x256x64.size inb)).write (Elt F) f (myO m c) Finset.univ) : sProp 𝕄)
      ⊢ plP c (plReg (cx c) (cy c) 0 256) fullShare (plF m c) := by
  refine Entails.of_eq (pointsTo_congr fun i hi => ?_)
  have hset : (plM.access (Rect.unit (s := S2x4x2x256x64) off S1x1x2x256x64.size inb)).set = plReg (cx c) (cy c) 0 (0 + 256) :=
    (View.set_slice_whole _ _).trans (pl_unit_set (cx c) (cy c) 0 256 off _ inb ho rfl)
  have hm : i ∈ (plM.access (Rect.unit (s := S2x4x2x256x64) off S1x1x2x256x64.size inb)).set := by rw [hset]; exact hi
  obtain ⟨x, -, rfl⟩ := Finset.mem_map.mp hm
  refine (View.write_emb_of_mem _ _ (Finset.mem_univ x)).trans ?_
  show myO m c x = plF m c ((Rect.unit (s := S2x4x2x256x64) off S1x1x2x256x64.size inb).emb x)
  subst ho
  have x0 : (x (0 : Fin 5)).val < 1 := (x (0 : Fin 5)).isLt
  have x1 : (x (1 : Fin 5)).val < 1 := (x (1 : Fin 5)).isLt
  have e0 : (((Rect.unit (s := S2x4x2x256x64) ![cx c, cy c, 0, 0, 0] S1x1x2x256x64.size inb).emb x) (0 : Fin 5)).val = cx c := by
    rw [ValueKit.rect_emb_unit_val]; show cx c + (x (0 : Fin 5)).val = cx c; omega
  have e1 : (((Rect.unit (s := S2x4x2x256x64) ![cx c, cy c, 0, 0, 0] S1x1x2x256x64.size inb).emb x) (1 : Fin 5)).val = cy c := by
    rw [ValueKit.rect_emb_unit_val]; show cy c + (x (1 : Fin 5)).val = cy c; omega
  have e2 : ((Rect.unit (s := S2x4x2x256x64) ![cx c, cy c, 0, 0, 0] S1x1x2x256x64.size inb).emb x) (2 : Fin 5) = x (2 : Fin 5) :=
    Fin.ext (by rw [ValueKit.rect_emb_unit_val]; exact Nat.zero_add _)
  have e3 : ((Rect.unit (s := S2x4x2x256x64) ![cx c, cy c, 0, 0, 0] S1x1x2x256x64.size inb).emb x) (3 : Fin 5) = x (3 : Fin 5) :=
    Fin.ext (by rw [ValueKit.rect_emb_unit_val]; exact Nat.zero_add _)
  have e4 : ((Rect.unit (s := S2x4x2x256x64) ![cx c, cy c, 0, 0, 0] S1x1x2x256x64.size inb).emb x) (4 : Fin 5) = x (4 : Fin 5) :=
    Fin.ext (by rw [ValueKit.rect_emb_unit_val]; exact Nat.zero_add _)
  have ex : (ix5 0 0 (x (2 : Fin 5)) (x (3 : Fin 5)) (x (4 : Fin 5)) : S1x1x2x256x64.Idx) = x := by
    funext a
    fin_cases a
    · exact Fin.ext (show 0 = (x (0 : Fin 5)).val by omega)
    · exact Fin.ext (show 0 = (x (1 : Fin 5)).val by omega)
    · rfl
    · rfl
    · rfl
  unfold plF
  dsimp only
  rw [e0, e1, e2, e3, e4, dv_self]
  exact (congrArg (myO m c) ex).symm

/-- The own slot of the result plane once the first `k` of the eight guarded stores are past. -/
def slotK (c : Dev nD) (k : ℕ) : sProp 𝕄 :=
  if 4 * cx c + cy c < k then plP c (plReg (cx c) (cy c) 0 256) fullShare (plF m c) else iprop(∃ f, plP c (plReg (cx c) (cy c) 0 256) fullShare f)

theorem slot_block (c : Dev nD) (a b k : ℕ) (ha : a < 2) (hb : b < 4) (hk : 4 * a + b = k) {cond : Prop} [d : Decidable cond] (hc : cond ↔ cx c = a ∧ cy c = b) {inb} {w : Vec F S1x1x2x256x64 .bf16}
    (hw : w = myO m c) {hl hx hm} {α : Type} {Q : α → sProp 𝕄} {P : Prog (TpuEff nD τ sig (Elt F) Λ₀ .tc) α} :
    (slotK m c k : sProp 𝕄) ⊢ iprop((slotK m c (k + 1) -∗ WP c P Q)
      -∗ WP c (@dite _ cond d (fun _ => .op (.load plM (Rect.unit (s := S2x4x2x256x64) ![a, b, 0, 0, 0] S1x1x2x256x64.size inb).toLoadRect hl)
          fun _ => .op (.store plM (Rect.unit (s := S2x4x2x256x64) ![a, b, 0, 0, 0] S1x1x2x256x64.size inb) w Finset.univ hx hm) fun _ => P) (fun _ => P)) Q) := by
  subst hk hw
  have hcy := cy_lt c
  unfold slotK
  by_cases h : cond
  · rw [dif_pos h]
    obtain ⟨h1, h2⟩ := hc.mp h
    rw [if_neg (by omega), if_pos (by omega)]
    have hS : (Rect.unit (s := S2x4x2x256x64) ![a, b, 0, 0, 0] S1x1x2x256x64.size inb).set ⊆ plReg (cx c) (cy c) 0 256 := by
      rw [pl_unit_set a b 0 256 _ _ inb rfl rfl, h1, h2]
    iintro ⟨%f, H⟩ Hk
    iapply (pl_load c f hS rfl) $$ H
    iintro H
    iapply (pl_store c f hS) $$ H
    iintro H
    iapply Hk
    iapply (pl_own m c f _ inb (by rw [h1, h2]))
    iexact H
  · rw [dif_neg h]
    have hne : ¬ (4 * cx c + cy c = 4 * a + b) := fun he => h (hc.mpr ⟨by omega, by omega⟩)
    by_cases hlt : 4 * cx c + cy c < 4 * a + b
    · rw [if_pos hlt, if_pos (by omega)]
      iintro H Hk
      iapply Hk
      iexact H
    · rw [if_neg hlt, if_neg (by omega)]
      iintro H Hk
      iapply Hk
      iexact H

/-! ## The output block -/

abbrev oP (c : Dev nD) (f : Buf (Elt F) ((c : Thread nD τ).loc cc0_stg3_0)) : sProp 𝕄 := (c : Thread nD τ).loc cc0_stg3_0 ↦[Finset.univ]{fullShare} f

theorem o_load (c : Dev nD) (f : Buf (Elt F) ((c : Thread nD τ).loc cc0_stg3_0)) {r hl} {α : Type} {Q : α → sProp 𝕄} {kk} :
    (oP c f : sProp 𝕄) ⊢ iprop((oP c f -∗ WP c (kk (oM.view.readAt (Elt F) r f)) Q) -∗ WP c (.op (.load oM r hl) kk) Q) :=
  wp_load 𝒱₀ (c : Thread nD τ) none Set.univ (m := oM) (Finset.subset_univ _)
theorem o_store (c : Dev nD) (f : Buf (Elt F) ((c : Thread nD τ).loc cc0_stg3_0)) {off : Fin 4 → ℕ} {inb w hx hm} {α : Type} {Q : α → sProp 𝕄} {kk} :
    (oP c f : sProp 𝕄) ⊢ iprop((oP c ((oM.access (Rect.unit (s := S2x256x8x64) off S2x256x4x64.size inb)).write (Elt F) f w Finset.univ) -∗ WP c (kk ⟨⟩) Q)
      -∗ WP c (.op (.store oM (Rect.unit (s := S2x256x8x64) off S2x256x4x64.size inb) w Finset.univ hx hm) kk) Q) :=
  wp_store (r := Rect.unit (s := S2x256x8x64) off S2x256x4x64.size inb) 𝒱₀ (c : Thread nD τ) none Set.univ (Q := Q) (defs := defs₀ (F := F)) (m := oM) (Finset.subset_univ _)

theorem o_write (f : (cc0_stg3_0 : Ref sig .tc).ty.Contents (Elt F)) (h : ℕ) (hh : h = 0 ∨ h = 4) (inb) (w : FVec F S2x256x4x64 .f32) (i : S2x256x8x64.Idx) :
    (∀ hi : h ≤ (i (2 : Fin 4)).val ∧ (i (2 : Fin 4)).val < h + 4,
      (oM.access (Rect.unit (s := S2x256x8x64) ![0, 0, h, 0] S2x256x4x64.size inb)).write (Elt F) f w Finset.univ i
        = w (ix4 (i (0 : Fin 4)) (i (1 : Fin 4)) ⟨(i (2 : Fin 4)).val - h, by omega⟩ (i (3 : Fin 4))))
    ∧ (¬ (h ≤ (i (2 : Fin 4)).val ∧ (i (2 : Fin 4)).val < h + 4) →
      (oM.access (Rect.unit (s := S2x256x8x64) ![0, 0, h, 0] S2x256x4x64.size inb)).write (Elt F) f w Finset.univ i = f i) := by
  have hset : (oM.access (Rect.unit (s := S2x256x8x64) ![0, 0, h, 0] S2x256x4x64.size inb)).set = (Rect.unit (s := S2x256x8x64) ![0, 0, h, 0] S2x256x4x64.size inb).set :=
    View.set_slice_whole _ _
  constructor
  · intro hi
    have hm : i ∈ (oM.access (Rect.unit (s := S2x256x8x64) ![0, 0, h, 0] S2x256x4x64.size inb)).set := by
      rw [hset, Rect.mem_set_unit]
      intro a
      have h0 : (i (0 : Fin 4)).val < 2 := (i (0 : Fin 4)).isLt
      have h1 : (i (1 : Fin 4)).val < 256 := (i (1 : Fin 4)).isLt
      have h3 : (i (3 : Fin 4)).val < 64 := (i (3 : Fin 4)).isLt
      fin_cases a
      · show 0 ≤ (i (0 : Fin 4)).val ∧ (i (0 : Fin 4)).val < 0 + 2; omega
      · show 0 ≤ (i (1 : Fin 4)).val ∧ (i (1 : Fin 4)).val < 0 + 256; omega
      · exact hi
      · show 0 ≤ (i (3 : Fin 4)).val ∧ (i (3 : Fin 4)).val < 0 + 64; omega
    obtain ⟨x, -, hx⟩ := Finset.mem_map.mp hm
    have hx' : (Rect.unit (s := S2x256x8x64) ![0, 0, h, 0] S2x256x4x64.size inb).emb x = i := hx
    have hv : ∀ a, (i a).val = (![0, 0, h, 0] : Fin 4 → ℕ) a + (x a).val := fun a => by rw [← hx', ValueKit.rect_emb_unit_val]
    have e : (ix4 (i (0 : Fin 4)) (i (1 : Fin 4)) ⟨(i (2 : Fin 4)).val - h, by omega⟩ (i (3 : Fin 4)) : S2x256x4x64.Idx) = x := by
      have a0 := hv (0 : Fin 4); have a1 := hv (1 : Fin 4); have a2 := hv (2 : Fin 4); have a3 := hv (3 : Fin 4)
      change (i (0 : Fin 4)).val = 0 + (x (0 : Fin 4)).val at a0
      change (i (1 : Fin 4)).val = 0 + (x (1 : Fin 4)).val at a1
      change (i (2 : Fin 4)).val = h + (x (2 : Fin 4)).val at a2
      change (i (3 : Fin 4)).val = 0 + (x (3 : Fin 4)).val at a3
      funext a
      fin_cases a
      · exact Fin.ext (show (i (0 : Fin 4)).val = (x (0 : Fin 4)).val by omega)
      · exact Fin.ext (show (i (1 : Fin 4)).val = (x (1 : Fin 4)).val by omega)
      · exact Fin.ext (show (i (2 : Fin 4)).val - h = (x (2 : Fin 4)).val by omega)
      · exact Fin.ext (show (i (3 : Fin 4)).val = (x (3 : Fin 4)).val by omega)
    rw [e]
    rw [← hx]
    exact View.write_emb_of_mem _ _ (Finset.mem_univ x)
  · intro hi
    refine View.write_of_not_mem _ _ _ ?_
    rw [View.setOn_univ, hset, Rect.mem_set_unit]
    intro hh
    exact hi (hh (2 : Fin 4))

/-- The output block with its first half written: the half of the device's own `x`. -/
def oHalf (c : Dev nD) : sProp 𝕄 := iprop(∃ f, oP c f ∗ ⌜∀ i : S2x256x8x64.Idx, ((i (2 : Fin 4)).val < 4 ↔ cx c = 0) → f i = outF m c i⌝)
/-- The output block after the second guarded pair's first store. -/
def oMid (c : Dev nD) : sProp 𝕄 := if cx c = 0 then oP c (outF m c) else oHalf m c

theorem outF_lo (c : Dev nD) (i : S2x256x8x64.Idx) (h : (i (2 : Fin 4)).val < 4) :
    outF m c i = outLo m c (ix4 (i (0 : Fin 4)) (i (1 : Fin 4)) ⟨(i (2 : Fin 4)).val, h⟩ (i (3 : Fin 4))) := dif_pos h
theorem outF_hi (c : Dev nD) (i : S2x256x8x64.Idx) (h : ¬ (i (2 : Fin 4)).val < 4) :
    outF m c i = outHi m c (ix4 (i (0 : Fin 4)) (i (1 : Fin 4)) ⟨(i (2 : Fin 4)).val - 4, by have : (i (2 : Fin 4)).val < 8 := (i (2 : Fin 4)).isLt; omega⟩ (i (3 : Fin 4))) := dif_neg h

theorem lo_write (c : Dev nD) (f : (cc0_stg3_0 : Ref sig .tc).ty.Contents (Elt F)) (inb) (i : S2x256x8x64.Idx) :
    (oM.access (Rect.unit (s := S2x256x8x64) ![0, 0, 0, 0] S2x256x4x64.size inb)).write (Elt F) f (outLo m c) Finset.univ i
      = if (i (2 : Fin 4)).val < 4 then outF m c i else f i := by
  have h := o_write f 0 (Or.inl rfl) inb (outLo m c) i
  by_cases hi : (i (2 : Fin 4)).val < 4
  · rw [if_pos hi, h.1 (by omega), outF_lo m c i hi]; rfl
  · rw [if_neg hi, h.2 (by omega)]
theorem hi_write (c : Dev nD) (f : (cc0_stg3_0 : Ref sig .tc).ty.Contents (Elt F)) (inb) (i : S2x256x8x64.Idx) :
    (oM.access (Rect.unit (s := S2x256x8x64) ![0, 0, 4, 0] S2x256x4x64.size inb)).write (Elt F) f (outHi m c) Finset.univ i
      = if (i (2 : Fin 4)).val < 4 then f i else outF m c i := by
  have h8 : (i (2 : Fin 4)).val < 8 := (i (2 : Fin 4)).isLt
  have h := o_write f 4 (Or.inr rfl) inb (outHi m c) i
  by_cases hi : (i (2 : Fin 4)).val < 4
  · rw [if_pos hi, h.2 (by omega)]
  · rw [if_neg hi, h.1 (by omega), outF_hi m c i hi]

/-- One guarded pair's body: row `0` of the plane read, half of the output written. -/
theorem lo_block (c : Dev nD) (q : PosShare TreeShare) (f : Buf (Elt F) ((c : Thread nD τ).loc cc0_stg3_0)) {pay : Vec F S1x1x2x256x64 .bf16 → Vec F S1x1x2x256x64 .bf16 → Vec F S1x1x2x256x64 .bf16 → Vec F S1x1x2x256x64 .bf16 → FVec F S2x256x4x64 .f32} (hp : pay = k0_pay52)
    {hl0 hl1 hl2 hl3 inb} {hl : oM.view.LoadsAt (Rect.unit (s := S2x256x8x64) ![0, 0, 0, 0] S2x256x4x64.size inb).toLoadRect} {hx hm} {α : Type} {Q : α → sProp 𝕄} {P : Prog (TpuEff nD τ sig (Elt F) Λ₀ .tc) α} :
    iprop(plP c (rowReg 0) q (plF m c) ∗ oP c f) ⊢ iprop((plP c (rowReg 0) q (plF m c)
        ∗ oP c ((oM.access (Rect.unit (s := S2x256x8x64) ![0, 0, 0, 0] S2x256x4x64.size inb)).write (Elt F) f (outLo m c) Finset.univ) -∗ WP c P Q)
      -∗ WP c (.op (.load plM (Rect.unit (s := S2x4x2x256x64) ![0, 0, 0, 0, 0] S1x1x2x256x64.size inb_S2x4x2x256x64_S1x1x2x256x64_0_0_0_0_0).toLoadRect hl0) fun a0 =>
        .op (.load plM (Rect.unit (s := S2x4x2x256x64) ![0, 1, 0, 0, 0] S1x1x2x256x64.size inb_S2x4x2x256x64_S1x1x2x256x64_0_1_0_0_0).toLoadRect hl1) fun a1 =>
        .op (.load plM (Rect.unit (s := S2x4x2x256x64) ![0, 2, 0, 0, 0] S1x1x2x256x64.size inb_S2x4x2x256x64_S1x1x2x256x64_0_2_0_0_0).toLoadRect hl2) fun a2 =>
        .op (.load plM (Rect.unit (s := S2x4x2x256x64) ![0, 3, 0, 0, 0] S1x1x2x256x64.size inb_S2x4x2x256x64_S1x1x2x256x64_0_3_0_0_0).toLoadRect hl3) fun a3 =>
        .op (.load oM (Rect.unit (s := S2x256x8x64) ![0, 0, 0, 0] S2x256x4x64.size inb).toLoadRect hl) fun _ =>
        .op (.store oM (Rect.unit (s := S2x256x8x64) ![0, 0, 0, 0] S2x256x4x64.size inb) (pay a0 a1 a2 a3) Finset.univ hx hm) fun _ => P) Q) := by
  subst hp
  iintro ⟨Hr, Ho⟩ Hk
  iapply (pl_load c (plF m c) (pl_unit_sub_row 0 _ _ _ ⟨rfl, rfl⟩) rfl) $$ Hr
  iintro Hr
  iapply (pl_load c (plF m c) (pl_unit_sub_row 0 _ _ _ ⟨rfl, rfl⟩) rfl) $$ Hr
  iintro Hr
  iapply (pl_load c (plF m c) (pl_unit_sub_row 0 _ _ _ ⟨rfl, rfl⟩) rfl) $$ Hr
  iintro Hr
  iapply (pl_load c (plF m c) (pl_unit_sub_row 0 _ _ _ ⟨rfl, rfl⟩) rfl) $$ Hr
  iintro Hr
  iapply (o_load c f) $$ Ho
  iintro Ho
  iapply (o_store c f) $$ Ho
  iintro Ho
  iapply Hk
  isplitl [Hr]; · iexact Hr
  iexact Ho

/-- One guarded pair's body: row `1` of the plane read, half of the output written. -/
theorem hi_block (c : Dev nD) (q : PosShare TreeShare) (f : Buf (Elt F) ((c : Thread nD τ).loc cc0_stg3_0)) {pay : Vec F S1x1x2x256x64 .bf16 → Vec F S1x1x2x256x64 .bf16 → Vec F S1x1x2x256x64 .bf16 → Vec F S1x1x2x256x64 .bf16 → FVec F S2x256x4x64 .f32} (hp : pay = k0_pay53)
    {hl0 hl1 hl2 hl3 inb} {hl : oM.view.LoadsAt (Rect.unit (s := S2x256x8x64) ![0, 0, 4, 0] S2x256x4x64.size inb).toLoadRect} {hx hm} {α : Type} {Q : α → sProp 𝕄} {P : Prog (TpuEff nD τ sig (Elt F) Λ₀ .tc) α} :
    iprop(plP c (rowReg 1) q (plF m c) ∗ oP c f) ⊢ iprop((plP c (rowReg 1) q (plF m c)
        ∗ oP c ((oM.access (Rect.unit (s := S2x256x8x64) ![0, 0, 4, 0] S2x256x4x64.size inb)).write (Elt F) f (outHi m c) Finset.univ) -∗ WP c P Q)
      -∗ WP c (.op (.load plM (Rect.unit (s := S2x4x2x256x64) ![1, 0, 0, 0, 0] S1x1x2x256x64.size inb_S2x4x2x256x64_S1x1x2x256x64_1_0_0_0_0).toLoadRect hl0) fun a0 =>
        .op (.load plM (Rect.unit (s := S2x4x2x256x64) ![1, 1, 0, 0, 0] S1x1x2x256x64.size inb_S2x4x2x256x64_S1x1x2x256x64_1_1_0_0_0).toLoadRect hl1) fun a1 =>
        .op (.load plM (Rect.unit (s := S2x4x2x256x64) ![1, 2, 0, 0, 0] S1x1x2x256x64.size inb_S2x4x2x256x64_S1x1x2x256x64_1_2_0_0_0).toLoadRect hl2) fun a2 =>
        .op (.load plM (Rect.unit (s := S2x4x2x256x64) ![1, 3, 0, 0, 0] S1x1x2x256x64.size inb_S2x4x2x256x64_S1x1x2x256x64_1_3_0_0_0).toLoadRect hl3) fun a3 =>
        .op (.load oM (Rect.unit (s := S2x256x8x64) ![0, 0, 4, 0] S2x256x4x64.size inb).toLoadRect hl) fun _ =>
        .op (.store oM (Rect.unit (s := S2x256x8x64) ![0, 0, 4, 0] S2x256x4x64.size inb) (pay a0 a1 a2 a3) Finset.univ hx hm) fun _ => P) Q) := by
  subst hp
  iintro ⟨Hr, Ho⟩ Hk
  iapply (pl_load c (plF m c) (pl_unit_sub_row 1 _ _ _ ⟨rfl, rfl⟩) rfl) $$ Hr
  iintro Hr
  iapply (pl_load c (plF m c) (pl_unit_sub_row 1 _ _ _ ⟨rfl, rfl⟩) rfl) $$ Hr
  iintro Hr
  iapply (pl_load c (plF m c) (pl_unit_sub_row 1 _ _ _ ⟨rfl, rfl⟩) rfl) $$ Hr
  iintro Hr
  iapply (pl_load c (plF m c) (pl_unit_sub_row 1 _ _ _ ⟨rfl, rfl⟩) rfl) $$ Hr
  iintro Hr
  iapply (o_load c f) $$ Ho
  iintro Ho
  iapply (o_store c f) $$ Ho
  iintro Ho
  iapply Hk
  isplitl [Hr]; · iexact Hr
  iexact Ho

end Cert.Exchange

end
-- ==== Proof.Parts1.lean ====
/-
# The body part by part: the handshake and the ring of keys and values
-/
module

public import proofs.«01_k».proof.Proof.Blocks

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CK → ℕ)

/-- A guarded piece of program followed by another: the other moves into both branches. -/
theorem bind_cond.{v} {E : Type → Type v} {α β : Type} {cond : Prop} [d : Decidable cond] (t : cond → Prog E α) (e : ¬ cond → Prog E α) (k : α → Prog E β) :
    (@dite _ cond d t e >>= k) = @dite _ cond d (fun h => t h >>= k) (fun h => e h >>= k) := by
  cases d <;> rfl
theorem e1 : (1#32 : BitVec 32).toInt = 1 := rfl
theorem e5 : (5#32 : BitVec 32).toInt = 5 := rfl

/-- The other half on top of the first is the whole output block. -/
theorem out_hi (c : Dev nD) (f : Buf (Elt F) ((c : Thread nD τ).loc cc0_stg3_0)) (inb) (hx : cx c = 0)
    (hf : ∀ i : S2x256x8x64.Idx, ((i (2 : Fin 4)).val < 4 ↔ cx c = 0) → f i = outF m c i) :
    (oP c ((oM.access (Rect.unit (s := S2x256x8x64) ![0, 0, 4, 0] S2x256x4x64.size inb)).write (Elt F) f (outHi m c) Finset.univ) : sProp 𝕄) ⊢ oP c (outF m c) := by
  refine Entails.of_eq (pointsTo_congr fun i _ => (hi_write m c f inb i).trans ?_)
  by_cases hi : ((i : S2x256x8x64.Idx) (2 : Fin 4)).val < 4
  · rw [if_pos hi]; exact hf i ⟨fun _ => hx, fun _ => hi⟩
  · rw [if_neg hi]
theorem out_lo (c : Dev nD) (f : Buf (Elt F) ((c : Thread nD τ).loc cc0_stg3_0)) (inb) (hx : ¬ cx c = 0)
    (hf : ∀ i : S2x256x8x64.Idx, ((i (2 : Fin 4)).val < 4 ↔ cx c = 0) → f i = outF m c i) :
    (oP c ((oM.access (Rect.unit (s := S2x256x8x64) ![0, 0, 0, 0] S2x256x4x64.size inb)).write (Elt F) f (outLo m c) Finset.univ) : sProp 𝕄) ⊢ oP c (outF m c) := by
  refine Entails.of_eq (pointsTo_congr fun i _ => (lo_write m c f inb i).trans ?_)
  by_cases hi : ((i : S2x256x8x64.Idx) (2 : Fin 4)).val < 4
  · rw [if_pos hi]
  · rw [if_neg hi]; exact hf i ⟨fun h => absurd h hi, fun h => absurd h hx⟩

/-- The row across `x`, once its four slots are in. -/
theorem opp_row (c : Dev nD) : iprop(recvPay m 8 c ∗ recvPay m 9 c ∗ recvPay m 10 c ∗ recvPay m 11 c) ⊢ plP c (rowReg (1 - cx c)) fullShare (plF m c) := by
  unfold recvPay
  iintro ⟨H0, H3, H1, H2⟩
  iapply (row_unpieces c (1 - cx c) (cy c) (cy_lt c) fullShare (plF m c))
  isplitl [H0]; · iexact H0
  isplitl [H1]; · iexact H1
  isplitl [H2]; · iexact H2
  iexact H3

theorem part1 (c : Dev nD) {hq hk hv ho h4 h5} {α : Type} {Q : α → sProp 𝕄} {kk} :
    iprop(((c : Thread nD τ).loc cc0_stg1_0 ↦[Finset.univ]{fullShare} kB m c))
      ⊢ iprop((∀ a b d e f g, (((c : Thread nD τ).loc cc0_stg1_0 ↦[Finset.univ]{fullShare} kB m c)) -∗ WP c (kk ⟨c, w2 c, w5 c, a, b, d, e, f, g, v29 c, v32 m c, v34 m c, cst0⟩) Q)
          -∗ WP c (k0_part1 (F := F) qM hq kM hk vM hv oM ho kvM h4 plM h5 cc0_scratch2 cc0_scratch3 cc0_scratch4 cc0_scratch5 cc0_scratch6 cc0_scratch7  >>= kk) Q) := by
  rw [k0_part1_eq_skeleton]; unfold k0_part1_skel
  simp only [semSignalWord, semWaitWord, Prog.lift, Prog.bind_op, Prog.bind_ret, Prog.pure_eq_ret, Prog.bind_assoc, wp_deviceId, e1, e5]
  simp only [w2, w5, v29, v32, v34, cst0]
  iintro HK Hk
  iapply (k_load c _ (kB m c)) $$ HK
  iintro HK
  iapply Hk
  iexact HK

theorem part2 (c : Dev nD) {hq hk hv ho h4 h5} {v2 v5 v11} {α : Type} {Q : α → sProp 𝕄} {kk} :
    iprop(records m K ∗ owesX c 17 ∗ ((c : Thread nD τ).loc cc0_stg2_0 ↦[Finset.univ]{fullShare} vB m c) ∗ (∃ f, kvP c (kvReg 0 0 256) fullShare f) ∗ dutyTok ER (barC (nb 0 c)) 0 0 ∗ give 0 c)
      ⊢ iprop(((owesX c 16 ∗ ((c : Thread nD τ).loc cc0_stg2_0 ↦[Finset.univ]{fullShare} vB m c) ∗ kvP c (kvReg 0 0 256) fullShare (kvF m c)) -∗ WP c (kk ⟨v42 m c, v55 m c, (SemArray.scalar (sig.barrier 0 rfl) : Sems sig S_)⟩) Q)
          -∗ WP c (k0_part2 (F := F) qM hq kM hk vM hv oM ho kvM h4 plM h5 cc0_scratch2 cc0_scratch3 cc0_scratch4 cc0_scratch5 cc0_scratch6 cc0_scratch7 c v2 v5 v11 (v29 c) (v32 m c) (v34 m c) cst0 >>= kk) Q) := by
  rw [k0_part2_eq_skeleton]; unfold k0_part2_skel
  simp only [semSignalWord, semWaitWord, Prog.lift, Prog.bind_op, Prog.bind_ret, Prog.pure_eq_ret, Prog.bind_assoc, wp_deviceId, e1, e5]
  simp only [v42, v55]
  iintro ⟨#HR, HO, HV, H0, t0, G0⟩ Hk
  iapply (v_load c _ (vB m c)) $$ HV
  iintro HV
  icases H0 with ⟨%f, H0⟩
  iapply (kv_load c f (kv_unit_sub 0 0 256 _ _ _ ⟨rfl, rfl⟩ ⟨by decide, by decide⟩) rfl) $$ H0
  iintro H0
  iapply (kv_store c f (kv_unit_sub 0 0 256 _ _ _ ⟨rfl, rfl⟩ ⟨by decide, by decide⟩)) $$ H0
  iintro H0
  iapply (kv_load c _ (kv_unit_sub 0 0 256 _ _ _ ⟨rfl, rfl⟩ ⟨by decide, by decide⟩) rfl) $$ H0
  iintro H0
  iapply (kv_store c _ (kv_unit_sub 0 0 256 _ _ _ ⟨rfl, rfl⟩ ⟨by decide, by decide⟩)) $$ H0
  iintro H0
  ihave H0 := (kv_own m c f _ _ (k0_pay6 (v29 c) (v32 m c) (v34 m c) cst0) (k0_pay7 (v29 c) (vB m c)) rfl rfl) $$ H0
  iapply (signal_step m K c _ 0 (dev1 c) 16 rfl) $$ [HO t0 G0]
  · isplitr; · iexact HR
    isplitl [HO]; · iexact HO
    isplitl [t0]; · iexact t0
    iexact G0
  iintro HO
  iapply Hk
  isplitl [HO]; · iexact HO
  isplitl [HV]; · iexact HV
  iexact H0

theorem part3 (c : Dev nD) {hq hk hv ho h4 h5} {v2 v5 v8 v13 v16 v18 v19} {α : Type} {Q : α → sProp 𝕄} {kk} :
    iprop(records m K ∗ owesX c 16 ∗ dutyTok ER (barC (nb 1 c)) 0 1 ∗ dutyTok ER (barC (nb 2 c)) 0 2 ∗ dutyTok ER (barC (nb 3 c)) 0 3 ∗ dutyTok ER (barC (nb 4 c)) 0 4 ∗ give 1 c ∗ give 2 c ∗ give 3 c ∗ give 4 c ∗ cred (tallyAt (barC c) () 5) ∗ atPos ER (barC c) 0 ∅ 0)
      ⊢ iprop((∀ a b, (owesX c 12 ∗ semVal (barC c) 0 ∗ give 0 (nb 1 c) ∗ give 1 (nb 0 c) ∗ give 2 (nb 3 c) ∗ give 3 (nb 2 c) ∗ give 4 (nb 4 c)) -∗ WP c (kk ⟨a, b⟩) Q)
          -∗ WP c (k0_part3 (F := F) qM hq kM hk vM hv oM ho kvM h4 plM h5 cc0_scratch2 cc0_scratch3 cc0_scratch4 cc0_scratch5 cc0_scratch6 cc0_scratch7 c v2 v5 v8 v13 v16 v18 v19 (SemArray.scalar (sig.barrier 0 rfl) : Sems sig S_) >>= kk) Q) := by
  rw [k0_part3_eq_skeleton]; unfold k0_part3_skel
  simp only [semSignalWord, semWaitWord, Prog.lift, Prog.bind_op, Prog.bind_ret, Prog.pure_eq_ret, Prog.bind_assoc, wp_deviceId, e1, e5]
  iintro ⟨#HR, HO, t1, t2, t3, t4, G1, G2, G3, G4, cb, ab⟩ Hk
  iapply (signal_step m K c _ 1 (dev2 c) 15 rfl) $$ [HO t1 G1]
  · isplitr; · iexact HR
    isplitl [HO]; · iexact HO
    isplitl [t1]; · iexact t1
    iexact G1
  iintro HO
  iapply (signal_step m K c _ 2 (dev3 c) 14 rfl) $$ [HO t2 G2]
  · isplitr; · iexact HR
    isplitl [HO]; · iexact HO
    isplitl [t2]; · iexact t2
    iexact G2
  iintro HO
  iapply (signal_step m K c _ 3 (dev4 c) 13 rfl) $$ [HO t3 G3]
  · isplitr; · iexact HR
    isplitl [HO]; · iexact HO
    isplitl [t3]; · iexact t3
    iexact G3
  iintro HO
  iapply (signal_step m K c _ 4 (dev5 c) 12 rfl) $$ [HO t4 G4]
  · isplitr; · iexact HR
    isplitl [HO]; · iexact HO
    isplitl [t4]; · iexact t4
    iexact G4
  iintro HO
  iapply (bar_step m K c 12 (by decide) (by decide)) $$ [HO cb ab]
  · isplitr; · iexact HR
    isplitl [HO]; · iexact HO
    isplitl [cb]; · iexact cb
    iexact ab
  iintro ⟨HO, Zb, J0, J1, J2, J3, J4⟩
  iapply Hk
  isplitl [HO]; · iexact HO
  isplitl [Zb]; · iexact Zb
  isplitl [J0]; · iexact J0
  isplitl [J1]; · iexact J1
  isplitl [J2]; · iexact J2
  isplitl [J3]; · iexact J3
  iexact J4

theorem part4 (c : Dev nD) {hq hk hv ho h4 h5} {v2 v5 v11 v13 v94 v95} {α : Type} {Q : α → sProp 𝕄} {kk} :
    iprop(records m K ∗ owesX c 12 ∗ sTok 0 c ∗ sTok 1 c ∗ kvP c (kvReg 0 0 256) fullShare (kvF m c) ∗ (∃ f, kvP (peer 0 c) (kvReg 3 0 256) fullShare f) ∗ (∃ f, kvP (peer 1 c) (kvReg 1 0 256) fullShare f) ∗ ((c : Thread nD τ).loc cc0_stg0_0 ↦[Finset.univ]{fullShare} qB m c))
      ⊢ iprop(((owesX c 10 ∗ sFl 0 c ∗ sFl 1 c ∗ ((c : Thread nD τ).loc cc0_stg0_0 ↦[Finset.univ]{fullShare} qB m c)) -∗ WP c (kk ⟨v123 m c, v124 m c⟩) Q)
          -∗ WP c (k0_part4 (F := F) qM hq kM hk vM hv oM ho kvM h4 plM h5 cc0_scratch2 cc0_scratch3 cc0_scratch4 cc0_scratch5 cc0_scratch6 cc0_scratch7 c v2 v5 v11 v13 v94 v95 >>= kk) Q) := by
  rw [k0_part4_eq_skeleton]; unfold k0_part4_skel
  simp only [semSignalWord, semWaitWord, Prog.lift, Prog.bind_op, Prog.bind_ret, Prog.pure_eq_ret, Prog.bind_assoc, wp_deviceId, e1, e5]
  simp only [v123, v124]
  iintro ⟨#HR, HO, T0, T1, H0, D0, D1, HQ⟩ Hk
  ihave H0 := (pts_halve) $$ H0; icases H0 with ⟨Ha, Hb⟩
  iapply (copy0 m K c) $$ [HO T0 Ha D0]
  · isplitr; · iexact HR
    isplitl [HO]; · iexact HO
    isplitl [T0]; · iexact T0
    isplitl [Ha]; · iexact Ha
    iexact D0
  iintro ⟨HO, F0⟩
  iapply (copy1 m K c) $$ [HO T1 Hb D1]
  · isplitr; · iexact HR
    isplitl [HO]; · iexact HO
    isplitl [T1]; · iexact T1
    isplitl [Hb]; · iexact Hb
    iexact D1
  iintro ⟨HO, F1⟩
  iapply (q_load c _ (qB m c)) $$ HQ
  iintro HQ
  iapply Hk
  isplitl [HO]; · iexact HO
  isplitl [F0]; · iexact F0
  isplitl [F1]; · iexact F1
  iexact HQ

theorem part5 (c : Dev nD) {hq hk hv ho h4 h5} {v2 v5 v13} {α : Type} {Q : α → sProp 𝕄} {kk} :
    iprop(owesX c 10)
      ⊢ iprop(((owesX c 10) -∗ WP c (kk ⟨v135 m c, v145 m c, v147 m c, v157 m c, v159 m c⟩) Q)
          -∗ WP c (k0_part5 (F := F) qM hq kM hk vM hv oM ho kvM h4 plM h5 cc0_scratch2 cc0_scratch3 cc0_scratch4 cc0_scratch5 cc0_scratch6 cc0_scratch7 v2 v5 v13 (v29 c) (v42 m c) (v55 m c) (v123 m c) (v124 m c) >>= kk) Q) := by
  rw [k0_part5_eq_skeleton]; unfold k0_part5_skel
  simp only [semSignalWord, semWaitWord, Prog.lift, Prog.bind_op, Prog.bind_ret, Prog.pure_eq_ret, Prog.bind_assoc, wp_deviceId, e1, e5]
  simp only [v135, v145, v147, v157, v159]
  iintro HO Hk
  iapply Hk
  iexact HO

theorem part6 (c : Dev nD) {hq hk hv ho h4 h5} {v2 v5 v11 v13} {α : Type} {Q : α → sProp 𝕄} {kk} :
    iprop(records m K ∗ owesX c 10 ∗ rTok 0 c ∗ rTok 1 c)
      ⊢ iprop(((owesX c 10 ∗ semVal (recvC c 0) 0 ∗ recvPay m 0 c ∗ semVal (recvC c 1) 0 ∗ recvPay m 1 c) -∗ WP c (kk ⟨⟩) Q)
          -∗ WP c (k0_part6 (F := F) qM hq kM hk vM hv oM ho kvM h4 plM h5 cc0_scratch2 cc0_scratch3 cc0_scratch4 cc0_scratch5 cc0_scratch6 cc0_scratch7 v2 v5 v11 v13 >>= kk) Q) := by
  rw [k0_part6_eq_skeleton]; unfold k0_part6_skel
  simp only [semSignalWord, semWaitWord, Prog.lift, Prog.bind_op, Prog.bind_ret, Prog.pure_eq_ret, Prog.bind_assoc, wp_deviceId, e1, e5]
  iintro ⟨#HR, HO, R0, R1⟩ Hk
  iapply (recv0 m K c) $$ [HO R0]
  · isplitr; · iexact HR
    isplitl [HO]; · iexact HO
    iexact R0
  iintro ⟨HO, Z0, P0⟩
  iapply (recv1 m K c) $$ [HO R1]
  · isplitr; · iexact HR
    isplitl [HO]; · iexact HO
    iexact R1
  iintro ⟨HO, Z1, P1⟩
  iapply Hk
  isplitl [HO]; · iexact HO
  isplitl [Z0]; · iexact Z0
  isplitl [P0]; · iexact P0
  isplitl [Z1]; · iexact Z1
  iexact P1

theorem part7 (c : Dev nD) {hq hk hv ho h4 h5} {v2 v5 v11} {α : Type} {Q : α → sProp 𝕄} {kk} :
    iprop(records m K ∗ owesX c 10 ∗ sTok 2 c ∗ sTok 3 c ∗ recvPay m 0 c ∗ recvPay m 1 c ∗ (∃ f, kvP (peer 2 c) (kvReg 2 0 128) fullShare f) ∗ (∃ f, kvP (peer 3 c) (kvReg 2 128 256) fullShare f))
      ⊢ iprop(((owesX c 8 ∗ sFl 2 c ∗ sFl 3 c ∗ kvP c (kvReg 3 128 256) fullShare.left (kvF m c) ∗ kvP c (kvReg 3 0 256) fullShare.right (kvF m c) ∗ kvP c (kvReg 1 0 128) fullShare.left (kvF m c) ∗ kvP c (kvReg 1 0 256) fullShare.right (kvF m c)) -∗ WP c (kk ⟨v213 m c, v215 m c, v217 m c⟩) Q)
          -∗ WP c (k0_part7 (F := F) qM hq kM hk vM hv oM ho kvM h4 plM h5 cc0_scratch2 cc0_scratch3 cc0_scratch4 cc0_scratch5 cc0_scratch6 cc0_scratch7 c v2 v5 v11 (v135 m c) >>= kk) Q) := by
  rw [k0_part7_eq_skeleton]; unfold k0_part7_skel
  simp only [semSignalWord, semWaitWord, Prog.lift, Prog.bind_op, Prog.bind_ret, Prog.pure_eq_ret, Prog.bind_assoc, wp_deviceId, e1, e5]
  simp only [v213, v215, v217]
  iintro ⟨#HR, HO, T2, T3, P0, P1, D2, D3⟩ Hk
  unfold recvPay
  ihave P0 := (pts_halve) $$ P0; icases P0 with ⟨C3, B3⟩
  ihave P1 := (pts_halve) $$ P1; icases P1 with ⟨C1, B1⟩
  ihave C3 := (pts_split (kvReg_cut 3 0 128 256 (by decide) (by decide)) (kvReg_cut_disj 3 0 128 256)) $$ C3; icases C3 with ⟨E3, A3⟩
  ihave C1 := (pts_split (kvReg_cut 1 0 128 256 (by decide) (by decide)) (kvReg_cut_disj 1 0 128 256)) $$ C1; icases C1 with ⟨A1, E1⟩
  iapply (copy2 m K c) $$ [HO T2 E3 D2]
  · isplitr; · iexact HR
    isplitl [HO]; · iexact HO
    isplitl [T2]; · iexact T2
    isplitl [E3]; · iexact E3
    iexact D2
  iintro ⟨HO, F2⟩
  iapply (copy3 m K c) $$ [HO T3 E1 D3]
  · isplitr; · iexact HR
    isplitl [HO]; · iexact HO
    isplitl [T3]; · iexact T3
    isplitl [E1]; · iexact E1
    iexact D3
  iintro ⟨HO, F3⟩
  iapply (kv_load c (kvF m c) (w := v212 m c) (kv_unit_sub 3 0 256 _ _ _ ⟨rfl, rfl⟩ ⟨by decide, by decide⟩) rfl) $$ B3
  iintro B3
  iapply (kv_load c (kvF m c) (w := v214 m c) (kv_unit_sub 3 0 256 _ _ _ ⟨rfl, rfl⟩ ⟨by decide, by decide⟩) rfl) $$ B3
  iintro B3
  iapply Hk
  isplitl [HO]; · iexact HO
  isplitl [F2]; · iexact F2
  isplitl [F3]; · iexact F3
  isplitl [A3]; · iexact A3
  isplitl [B3]; · iexact B3
  isplitl [A1]; · iexact A1
  iexact B1

theorem part8 (c : Dev nD) {hq hk hv ho h4 h5} {α : Type} {Q : α → sProp 𝕄} {kk} :
    iprop(kvP c (kvReg 3 0 256) fullShare.right (kvF m c) ∗ kvP c (kvReg 1 0 256) fullShare.right (kvF m c))
      ⊢ iprop(((kvP c (kvReg 3 0 256) fullShare.right (kvF m c) ∗ kvP c (kvReg 1 0 256) fullShare.right (kvF m c)) -∗ WP c (kk ⟨v224 m c, v225 m c, v238 m c, v239 m c, v247 m c, v249 m c⟩) Q)
          -∗ WP c (k0_part8 (F := F) qM hq kM hk vM hv oM ho kvM h4 plM h5 cc0_scratch2 cc0_scratch3 cc0_scratch4 cc0_scratch5 cc0_scratch6 cc0_scratch7 (v135 m c) (v145 m c) (v147 m c) (v157 m c) (v159 m c) (v213 m c) (v215 m c) (v217 m c) >>= kk) Q) := by
  rw [k0_part8_eq_skeleton]; unfold k0_part8_skel
  simp only [semSignalWord, semWaitWord, Prog.lift, Prog.bind_op, Prog.bind_ret, Prog.pure_eq_ret, Prog.bind_assoc, wp_deviceId, e1, e5]
  simp only [v224, v225, v238, v239, v247, v249]
  iintro ⟨B3, B1⟩ Hk
  iapply (kv_load c (kvF m c) (w := v226 m c) (kv_unit_sub 3 0 256 _ _ _ ⟨rfl, rfl⟩ ⟨by decide, by decide⟩) rfl) $$ B3
  iintro B3
  iapply (kv_load c (kvF m c) (w := v228 m c) (kv_unit_sub 3 0 256 _ _ _ ⟨rfl, rfl⟩ ⟨by decide, by decide⟩) rfl) $$ B3
  iintro B3
  iapply (kv_load c (kvF m c) (w := v240 m c) (kv_unit_sub 1 0 256 _ _ _ ⟨rfl, rfl⟩ ⟨by decide, by decide⟩) rfl) $$ B1
  iintro B1
  iapply (kv_load c (kvF m c) (w := v242 m c) (kv_unit_sub 1 0 256 _ _ _ ⟨rfl, rfl⟩ ⟨by decide, by decide⟩) rfl) $$ B1
  iintro B1
  iapply Hk
  isplitl [B3]; · iexact B3
  iexact B1

theorem part9 (c : Dev nD) {hq hk hv ho h4 h5} {v2 v5 v13} {α : Type} {Q : α → sProp 𝕄} {kk} :
    iprop(kvP c (kvReg 1 0 256) fullShare.right (kvF m c))
      ⊢ iprop(((kvP c (kvReg 1 0 256) fullShare.right (kvF m c)) -∗ WP c (kk ⟨v252 m c, v253 m c, v266 m c, v267 m c⟩) Q)
          -∗ WP c (k0_part9 (F := F) qM hq kM hk vM hv oM ho kvM h4 plM h5 cc0_scratch2 cc0_scratch3 cc0_scratch4 cc0_scratch5 cc0_scratch6 cc0_scratch7 v2 v5 v13 (v135 m c) (v224 m c) (v225 m c) (v238 m c) (v239 m c) (v247 m c) (v249 m c) >>= kk) Q) := by
  rw [k0_part9_eq_skeleton]; unfold k0_part9_skel
  simp only [semSignalWord, semWaitWord, Prog.lift, Prog.bind_op, Prog.bind_ret, Prog.pure_eq_ret, Prog.bind_assoc, wp_deviceId, e1, e5]
  simp only [v252, v253, v266, v267]
  iintro B1 Hk
  iapply (kv_load c (kvF m c) (w := v254 m c) (kv_unit_sub 1 0 256 _ _ _ ⟨rfl, rfl⟩ ⟨by decide, by decide⟩) rfl) $$ B1
  iintro B1
  iapply (kv_load c (kvF m c) (w := v256 m c) (kv_unit_sub 1 0 256 _ _ _ ⟨rfl, rfl⟩ ⟨by decide, by decide⟩) rfl) $$ B1
  iintro B1
  iapply Hk
  iexact B1

theorem part10 (c : Dev nD) {hq hk hv ho h4 h5} {α : Type} {Q : α → sProp 𝕄} {kk} :
    iprop(records m K ∗ owesX c 8 ∗ rTok 2 c)
      ⊢ iprop(((owesX c 8 ∗ semVal (recvC c 2) 0 ∗ recvPay m 2 c) -∗ WP c (kk ⟨v292 m c, v293 m c, v306 m c, v307 m c, 16#32⟩) Q)
          -∗ WP c (k0_part10 (F := F) qM hq kM hk vM hv oM ho kvM h4 plM h5 cc0_scratch2 cc0_scratch3 cc0_scratch4 cc0_scratch5 cc0_scratch6 cc0_scratch7 (v135 m c) (v252 m c) (v253 m c) (v266 m c) (v267 m c) >>= kk) Q) := by
  rw [k0_part10_eq_skeleton]; unfold k0_part10_skel
  simp only [semSignalWord, semWaitWord, Prog.lift, Prog.bind_op, Prog.bind_ret, Prog.pure_eq_ret, Prog.bind_assoc, wp_deviceId, e1, e5]
  simp only [v292, v293, v306, v307]
  iintro ⟨#HR, HO, R2⟩ Hk
  iapply (recv2 m K c) $$ [HO R2]
  · isplitr; · iexact HR
    isplitl [HO]; · iexact HO
    iexact R2
  iintro ⟨HO, Z2, P2⟩
  unfold recvPay
  iapply (kv_load c (kvF m c) (w := v280 m c) (kv_unit_sub 2 0 128 _ _ _ ⟨rfl, rfl⟩ ⟨by decide, by decide⟩) rfl) $$ P2
  iintro P2
  iapply (kv_load c (kvF m c) (w := v282 m c) (kv_unit_sub 2 0 128 _ _ _ ⟨rfl, rfl⟩ ⟨by decide, by decide⟩) rfl) $$ P2
  iintro P2
  iapply (kv_load c (kvF m c) (w := v294 m c) (kv_unit_sub 2 0 128 _ _ _ ⟨rfl, rfl⟩ ⟨by decide, by decide⟩) rfl) $$ P2
  iintro P2
  iapply (kv_load c (kvF m c) (w := v296 m c) (kv_unit_sub 2 0 128 _ _ _ ⟨rfl, rfl⟩ ⟨by decide, by decide⟩) rfl) $$ P2
  iintro P2
  iapply Hk
  isplitl [HO]; · iexact HO
  isplitl [Z2]; · iexact Z2
  iexact P2

theorem part11 (c : Dev nD) {hq hk hv ho h4 h5} {v2 v5 v11 c16} {α : Type} {Q : α → sProp 𝕄} {kk} :
    iprop(records m K ∗ owesX c 8 ∗ rTok 3 c)
      ⊢ iprop(((owesX c 8 ∗ semVal (recvC c 3) 0 ∗ recvPay m 3 c) -∗ WP c (kk ⟨v332 m c, v333 m c, v335 m c⟩) Q)
          -∗ WP c (k0_part11 (F := F) qM hq kM hk vM hv oM ho kvM h4 plM h5 cc0_scratch2 cc0_scratch3 cc0_scratch4 cc0_scratch5 cc0_scratch6 cc0_scratch7 v2 v5 v11 (v135 m c) (v292 m c) (v293 m c) c16 >>= kk) Q) := by
  rw [k0_part11_eq_skeleton]; unfold k0_part11_skel
  simp only [semSignalWord, semWaitWord, Prog.lift, Prog.bind_op, Prog.bind_ret, Prog.pure_eq_ret, Prog.bind_assoc, wp_deviceId, e1, e5]
  simp only [v332, v333, v335]
  iintro ⟨#HR, HO, R3⟩ Hk
  iapply (recv3 m K c) $$ [HO R3]
  · isplitr; · iexact HR
    isplitl [HO]; · iexact HO
    iexact R3
  iintro ⟨HO, Z3, P3⟩
  unfold recvPay
  iapply (kv_load c (kvF m c) (w := v320 m c) (kv_unit_sub 2 128 256 _ _ _ ⟨rfl, rfl⟩ ⟨by decide, by decide⟩) rfl) $$ P3
  iintro P3
  iapply (kv_load c (kvF m c) (w := v322 m c) (kv_unit_sub 2 128 256 _ _ _ ⟨rfl, rfl⟩ ⟨by decide, by decide⟩) rfl) $$ P3
  iintro P3
  iapply (kv_load c (kvF m c) (w := v334 m c) (kv_unit_sub 2 128 256 _ _ _ ⟨rfl, rfl⟩ ⟨by decide, by decide⟩) rfl) $$ P3
  iintro P3
  iapply Hk
  isplitl [HO]; · iexact HO
  isplitl [Z3]; · iexact Z3
  iexact P3

end Cert.Exchange

end
-- ==== Proof.Parts2.lean ====
/-
# The body part by part: the exchange of results
-/
module

public import proofs.«01_k».proof.Proof.Parts1

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CK → ℕ)

theorem part12 (c : Dev nD) {hq hk hv ho h4 h5} {α : Type} {Q : α → sProp 𝕄} {kk} :
    iprop(recvPay m 3 c ∗ slotK m c 0)
      ⊢ iprop(((recvPay m 3 c ∗ slotK m c 3) -∗ WP c (kk ⟨v356 m c, (Scalar.extui (Scalar.andi (Scalar.cmpi .eq (w2 c) 0#32) (Scalar.cmpi .eq (w5 c) 3#32)))⟩) Q)
          -∗ WP c (k0_part12 (F := F) qM hq kM hk vM hv oM ho kvM h4 plM h5 cc0_scratch2 cc0_scratch3 cc0_scratch4 cc0_scratch5 cc0_scratch6 cc0_scratch7 (w2 c) (w5 c) (v135 m c) (v306 m c) (v307 m c) (v332 m c) (v333 m c) (v335 m c) >>= kk) Q) := by
  rw [k0_part12_eq_skeleton]; unfold k0_part12_skel
  simp only [semSignalWord, semWaitWord, Prog.lift, Prog.bind_op, Prog.bind_ret, Prog.pure_eq_ret, Prog.bind_assoc, wp_deviceId, e1, e5]
  simp only [v356]
  iintro ⟨P3, HS⟩ Hk
  unfold recvPay
  iapply (kv_load c (kvF m c) (w := v336 m c) (kv_unit_sub 2 128 256 _ _ _ ⟨rfl, rfl⟩ ⟨by decide, by decide⟩) rfl) $$ P3
  iintro P3
  simp only [bind_cond, Prog.bind_op, Prog.bind_ret]
  iapply (slot_block m c 0 0 0 (by decide) (by decide) rfl (cond_xy c 0 0 (by decide) (by decide)) rfl) $$ HS
  iintro HS
  iapply (slot_block m c 0 1 1 (by decide) (by decide) rfl (cond_xy c 0 1 (by decide) (by decide)) rfl) $$ HS
  iintro HS
  iapply (slot_block m c 0 2 2 (by decide) (by decide) rfl (cond_xy c 0 2 (by decide) (by decide)) rfl) $$ HS
  iintro HS
  iapply Hk
  isplitl [P3]; · iexact P3
  iexact HS

theorem part13 (c : Dev nD) {hq hk hv ho h4 h5} {v8 v18} {α : Type} {Q : α → sProp 𝕄} {kk} :
    iprop(slotK m c 3)
      ⊢ iprop(((slotK m c 8) -∗ WP c (kk ⟨⟩) Q)
          -∗ WP c (k0_part13 (F := F) qM hq kM hk vM hv oM ho kvM h4 plM h5 cc0_scratch2 cc0_scratch3 cc0_scratch4 cc0_scratch5 cc0_scratch6 cc0_scratch7 c (w2 c) (w5 c) v8 v18 (v356 m c) (Scalar.extui (Scalar.andi (Scalar.cmpi .eq (w2 c) 0#32) (Scalar.cmpi .eq (w5 c) 3#32))) >>= kk) Q) := by
  rw [k0_part13_eq_skeleton]; unfold k0_part13_skel
  simp only [semSignalWord, semWaitWord, Prog.lift, Prog.bind_op, Prog.bind_ret, Prog.pure_eq_ret, Prog.bind_assoc, wp_deviceId, e1, e5]
  iintro HS Hk
  simp only [bind_cond, Prog.bind_op, Prog.bind_ret]
  iapply (slot_block m c 0 3 3 (by decide) (by decide) rfl (cond_xy c 0 3 (by decide) (by decide)) rfl) $$ HS
  iintro HS
  iapply (slot_block m c 1 0 4 (by decide) (by decide) rfl (cond_xy c 1 0 (by decide) (by decide)) rfl) $$ HS
  iintro HS
  iapply (slot_block m c 1 1 5 (by decide) (by decide) rfl (cond_xy c 1 1 (by decide) (by decide)) rfl) $$ HS
  iintro HS
  iapply (slot_block m c 1 2 6 (by decide) (by decide) rfl (cond_xy c 1 2 (by decide) (by decide)) rfl) $$ HS
  iintro HS
  iapply (slot_block m c 1 3 7 (by decide) (by decide) rfl (cond_xy c 1 3 (by decide) (by decide)) rfl) $$ HS
  iintro HS
  iapply Hk
  iexact HS

theorem part14 (c : Dev nD) {hq hk hv ho h4 h5} {v2 v5 v8 v16 v19} {α : Type} {Q : α → sProp 𝕄} {kk} :
    iprop(records m K ∗ owesX c 8 ∗ sTok 4 c ∗ sTok 5 c ∗ sTok 8 c ∗ plP c (plReg (cx c) (cy c) 0 256) fullShare (plF m c) ∗ (∃ f, plP (peer 4 c) (plReg (cx c) (cy c) 0 256) fullShare f) ∗ (∃ f, plP (peer 5 c) (plReg (cx c) (cy c) 0 256) fullShare f) ∗ (∃ f, plP (peer 8 c) (plReg (cx c) (cy c) 0 256) fullShare f))
      ⊢ iprop(((owesX c 5 ∗ sFl 4 c ∗ sFl 5 c ∗ sFl 8 c ∗ plP c (plReg (cx c) (cy c) 0 256) fullShare.right.right (plF m c)) -∗ WP c (kk ⟨⟩) Q)
          -∗ WP c (k0_part14 (F := F) qM hq kM hk vM hv oM ho kvM h4 plM h5 cc0_scratch2 cc0_scratch3 cc0_scratch4 cc0_scratch5 cc0_scratch6 cc0_scratch7 c v2 v5 v8 v16 v19 >>= kk) Q) := by
  rw [k0_part14_eq_skeleton]; unfold k0_part14_skel
  simp only [semSignalWord, semWaitWord, Prog.lift, Prog.bind_op, Prog.bind_ret, Prog.pure_eq_ret, Prog.bind_assoc, wp_deviceId, e1, e5]
  iintro ⟨#HR, HO, T4, T5, T8, HS, D4, D5, D8⟩ Hk
  ihave HS := (pts_halve) $$ HS; icases HS with ⟨Sa, Sb⟩
  ihave Sa := (pts_halve) $$ Sa; icases Sa with ⟨Sc, Sd⟩
  ihave Sb := (pts_halve) $$ Sb; icases Sb with ⟨Se, W0⟩
  iapply (copy4 m K c) $$ [HO T4 Sc D4]
  · isplitr; · iexact HR
    isplitl [HO]; · iexact HO
    isplitl [T4]; · iexact T4
    isplitl [Sc]; · iexact Sc
    iexact D4
  iintro ⟨HO, F4⟩
  iapply (copy5 m K c) $$ [HO T5 Sd D5]
  · isplitr; · iexact HR
    isplitl [HO]; · iexact HO
    isplitl [T5]; · iexact T5
    isplitl [Sd]; · iexact Sd
    iexact D5
  iintro ⟨HO, F5⟩
  iapply (copy8 m K c) $$ [HO T8 Se D8]
  · isplitr; · iexact HR
    isplitl [HO]; · iexact HO
    isplitl [T8]; · iexact T8
    isplitl [Se]; · iexact Se
    iexact D8
  iintro ⟨HO, F8⟩
  iapply Hk
  isplitl [HO]; · iexact HO
  isplitl [F4]; · iexact F4
  isplitl [F5]; · iexact F5
  isplitl [F8]; · iexact F8
  iexact W0

theorem part15 (c : Dev nD) {hq hk hv ho h4 h5} {v2 v8 v16 v18} {α : Type} {Q : α → sProp 𝕄} {kk} :
    iprop(records m K ∗ owesX c 5 ∗ rTok 4 c ∗ rTok 5 c)
      ⊢ iprop((∀ a, (owesX c 5 ∗ semVal (recvC c 4) 0 ∗ recvPay m 4 c ∗ semVal (recvC c 5) 0 ∗ recvPay m 5 c) -∗ WP c (kk ⟨a, 1#32⟩) Q)
          -∗ WP c (k0_part15 (F := F) qM hq kM hk vM hv oM ho kvM h4 plM h5 cc0_scratch2 cc0_scratch3 cc0_scratch4 cc0_scratch5 cc0_scratch6 cc0_scratch7 c v2 v8 v16 v18 >>= kk) Q) := by
  rw [k0_part15_eq_skeleton]; unfold k0_part15_skel
  simp only [semSignalWord, semWaitWord, Prog.lift, Prog.bind_op, Prog.bind_ret, Prog.pure_eq_ret, Prog.bind_assoc, wp_deviceId, e1, e5]
  iintro ⟨#HR, HO, R4, R5⟩ Hk
  iapply (recv4 m K c) $$ [HO R4]
  · isplitr; · iexact HR
    isplitl [HO]; · iexact HO
    iexact R4
  iintro ⟨HO, Z4, P4⟩
  iapply (recv5 m K c) $$ [HO R5]
  · isplitr; · iexact HR
    isplitl [HO]; · iexact HO
    iexact R5
  iintro ⟨HO, Z5, P5⟩
  iapply Hk
  isplitl [HO]; · iexact HO
  isplitl [Z4]; · iexact Z4
  isplitl [P4]; · iexact P4
  isplitl [Z5]; · iexact Z5
  iexact P5

theorem part16 (c : Dev nD) {hq hk hv ho h4 h5} {v2 v5 v8 v16 v19 v466 c1} {α : Type} {Q : α → sProp 𝕄} {kk} :
    iprop(records m K ∗ owesX c 5 ∗ sTok 6 c ∗ sTok 7 c ∗ recvPay m 4 c ∗ recvPay m 5 c ∗ (∃ f, plP (peer 6 c) (plReg (cx c) (yl c) 0 128) fullShare f) ∗ (∃ f, plP (peer 7 c) (plReg (cx c) (yr c) 128 256) fullShare f))
      ⊢ iprop(((owesX c 3 ∗ sFl 6 c ∗ sFl 7 c ∗ plP c (plReg (cx c) (yl c) 128 256) fullShare.left (plF m c) ∗ plP c (plReg (cx c) (yl c) 0 256) fullShare.right (plF m c) ∗ plP c (plReg (cx c) (yr c) 0 128) fullShare.left (plF m c) ∗ plP c (plReg (cx c) (yr c) 0 256) fullShare.right (plF m c)) -∗ WP c (kk ⟨⟩) Q)
          -∗ WP c (k0_part16 (F := F) qM hq kM hk vM hv oM ho kvM h4 plM h5 cc0_scratch2 cc0_scratch3 cc0_scratch4 cc0_scratch5 cc0_scratch6 cc0_scratch7 c v2 v5 v8 v16 v19 v466 c1 >>= kk) Q) := by
  rw [k0_part16_eq_skeleton]; unfold k0_part16_skel
  simp only [semSignalWord, semWaitWord, Prog.lift, Prog.bind_op, Prog.bind_ret, Prog.pure_eq_ret, Prog.bind_assoc, wp_deviceId, e1, e5]
  iintro ⟨#HR, HO, T6, T7, P4, P5, D6, D7⟩ Hk
  unfold recvPay
  ihave P4 := (pts_halve) $$ P4; icases P4 with ⟨La, Lr⟩
  ihave P5 := (pts_halve) $$ P5; icases P5 with ⟨Ka, Kr⟩
  ihave La := (pts_split (plReg_cut (cx c) (yl c) 0 128 256 (by decide) (by decide)) (plReg_cut_disj (cx c) (yl c) 0 128 256)) $$ La; icases La with ⟨Lb, Ll⟩
  ihave Ka := (pts_split (plReg_cut (cx c) (yr c) 0 128 256 (by decide) (by decide)) (plReg_cut_disj (cx c) (yr c) 0 128 256)) $$ Ka; icases Ka with ⟨Kl, Kb⟩
  iapply (copy6 m K c) $$ [HO T6 Lb D6]
  · isplitr; · iexact HR
    isplitl [HO]; · iexact HO
    isplitl [T6]; · iexact T6
    isplitl [Lb]; · iexact Lb
    iexact D6
  iintro ⟨HO, F6⟩
  iapply (copy7 m K c) $$ [HO T7 Kb D7]
  · isplitr; · iexact HR
    isplitl [HO]; · iexact HO
    isplitl [T7]; · iexact T7
    isplitl [Kb]; · iexact Kb
    iexact D7
  iintro ⟨HO, F7⟩
  iapply Hk
  isplitl [HO]; · iexact HO
  isplitl [F6]; · iexact F6
  isplitl [F7]; · iexact F7
  isplitl [Ll]; · iexact Ll
  isplitl [Lr]; · iexact Lr
  isplitl [Kl]; · iexact Kl
  iexact Kr

theorem part17 (c : Dev nD) {hq hk hv ho h4 h5} {v2 v5 v8 v18 v19} {α : Type} {Q : α → sProp 𝕄} {kk} :
    iprop(records m K ∗ owesX c 3 ∗ sTok 9 c ∗ sTok 10 c ∗ plP c (plReg (cx c) (yl c) 0 256) fullShare.right (plF m c) ∗ plP c (plReg (cx c) (yr c) 0 256) fullShare.right (plF m c) ∗ (∃ f, plP (peer 9 c) (plReg (cx c) (yl c) 0 256) fullShare f) ∗ (∃ f, plP (peer 10 c) (plReg (cx c) (yr c) 0 256) fullShare f))
      ⊢ iprop(((owesX c 1 ∗ sFl 9 c ∗ sFl 10 c ∗ plP c (plReg (cx c) (yl c) 0 256) fullShare.right.right (plF m c) ∗ plP c (plReg (cx c) (yr c) 0 256) fullShare.right.right (plF m c)) -∗ WP c (kk ⟨⟩) Q)
          -∗ WP c (k0_part17 (F := F) qM hq kM hk vM hv oM ho kvM h4 plM h5 cc0_scratch2 cc0_scratch3 cc0_scratch4 cc0_scratch5 cc0_scratch6 cc0_scratch7 c v2 v5 v8 v18 v19 >>= kk) Q) := by
  rw [k0_part17_eq_skeleton]; unfold k0_part17_skel
  simp only [semSignalWord, semWaitWord, Prog.lift, Prog.bind_op, Prog.bind_ret, Prog.pure_eq_ret, Prog.bind_assoc, wp_deviceId, e1, e5]
  iintro ⟨#HR, HO, T9, T10, Lr, Kr, D9, D10⟩ Hk
  ihave Lr := (pts_halve) $$ Lr; icases Lr with ⟨La, W3⟩
  ihave Kr := (pts_halve) $$ Kr; icases Kr with ⟨Ka, W1⟩
  iapply (copy9 m K c) $$ [HO T9 La D9]
  · isplitr; · iexact HR
    isplitl [HO]; · iexact HO
    isplitl [T9]; · iexact T9
    isplitl [La]; · iexact La
    iexact D9
  iintro ⟨HO, F9⟩
  iapply (copy10 m K c) $$ [HO T10 Ka D10]
  · isplitr; · iexact HR
    isplitl [HO]; · iexact HO
    isplitl [T10]; · iexact T10
    isplitl [Ka]; · iexact Ka
    iexact D10
  iintro ⟨HO, F10⟩
  iapply Hk
  isplitl [HO]; · iexact HO
  isplitl [F9]; · iexact F9
  isplitl [F10]; · iexact F10
  isplitl [W3]; · iexact W3
  iexact W1

theorem part18 (c : Dev nD) {hq hk hv ho h4 h5} {v2 v5 v8 v16 v19} {α : Type} {Q : α → sProp 𝕄} {kk} :
    iprop(records m K ∗ owesX c 1 ∗ rTok 6 c ∗ rTok 7 c ∗ sTok 11 c ∗ (∃ f, plP (peer 11 c) (plReg (cx c) (yo c) 0 256) fullShare f))
      ⊢ iprop(((owesX c 0 ∗ semVal (recvC c 6) 0 ∗ semVal (recvC c 7) 0 ∗ sFl 11 c ∗ plP c (plReg (cx c) (yo c) 0 256) fullShare.right.left (plF m c) ∗ plP c (plReg (cx c) (yo c) 0 256) fullShare.right.right (plF m c)) -∗ WP c (kk (0#32)) Q)
          -∗ WP c (k0_part18 (F := F) qM hq kM hk vM hv oM ho kvM h4 plM h5 cc0_scratch2 cc0_scratch3 cc0_scratch4 cc0_scratch5 cc0_scratch6 cc0_scratch7 c v2 v5 v8 v16 v19 >>= kk) Q) := by
  rw [k0_part18_eq_skeleton]; unfold k0_part18_skel
  simp only [semSignalWord, semWaitWord, Prog.lift, Prog.bind_op, Prog.bind_ret, Prog.pure_eq_ret, Prog.bind_assoc, wp_deviceId, e1, e5]
  iintro ⟨#HR, HO, R6, R7, T11, D11⟩ Hk
  iapply (recv6 m K c) $$ [HO R6]
  · isplitr; · iexact HR
    isplitl [HO]; · iexact HO
    iexact R6
  iintro ⟨HO, Z6, P6⟩
  iapply (recv7 m K c) $$ [HO R7]
  · isplitr; · iexact HR
    isplitl [HO]; · iexact HO
    iexact R7
  iintro ⟨HO, Z7, P7⟩
  unfold recvPay
  ihave P := (pts_join (ℓ := (c : Thread nD τ).loc cc0_scratch1) (A := plReg (cx c) (yo c) 0 128) (B := plReg (cx c) (yo c) 128 256) (plReg_cut (cx c) (yo c) 0 128 256 (by decide) (by decide)) (plReg_cut_disj (cx c) (yo c) 0 128 256)) $$ [P6 P7]
  · isplitl [P6]; · iexact P6
    iexact P7
  ihave P := (pts_halve) $$ P; icases P with ⟨Pa, Pb⟩
  ihave Pb := (pts_halve) $$ Pb; icases Pb with ⟨V2, W2⟩
  iapply (copy11 m K c) $$ [HO T11 Pa D11]
  · isplitr; · iexact HR
    isplitl [HO]; · iexact HO
    isplitl [T11]; · iexact T11
    isplitl [Pa]; · iexact Pa
    iexact D11
  iintro ⟨HO, F11⟩
  iapply Hk
  isplitl [HO]; · iexact HO
  isplitl [Z6]; · iexact Z6
  isplitl [Z7]; · iexact Z7
  isplitl [F11]; · iexact F11
  isplitl [V2]; · iexact V2
  iexact W2

theorem part19 (c : Dev nD) {hq hk hv ho h4 h5} {v5 v8 v19} {α : Type} {Q : α → sProp 𝕄} {kk} :
    iprop(records m K ∗ owesX c 0 ∗ rTok 8 c ∗ plP c (rowReg (cx c)) fullShare.right.right (plF m c) ∗ (∃ f, oP c f))
      ⊢ iprop(((owesX c 0 ∗ semVal (recvC c 8) 0 ∗ recvPay m 8 c ∗ plP c (rowReg (cx c)) fullShare.right.right (plF m c) ∗ oHalf m c) -∗ WP c (kk ⟨⟩) Q)
          -∗ WP c (k0_part19 (F := F) qM hq kM hk vM hv oM ho kvM h4 plM h5 cc0_scratch2 cc0_scratch3 cc0_scratch4 cc0_scratch5 cc0_scratch6 cc0_scratch7 c (w2 c) v5 v8 v19 0#32 >>= kk) Q) := by
  rw [k0_part19_eq_skeleton]; unfold k0_part19_skel
  simp only [semSignalWord, semWaitWord, Prog.lift, Prog.bind_op, Prog.bind_ret, Prog.pure_eq_ret, Prog.bind_assoc, wp_deviceId, e1, e5]
  iintro ⟨#HR, HO, R8, Hr, Ho⟩ Hk
  icases Ho with ⟨%f, Ho⟩
  simp only [bind_cond, Prog.bind_op, Prog.bind_ret]
  by_cases hx : cx c = 0
  · rw [dif_pos ((cond_x c 0 (by decide)).mpr hx)]
    simp only [hx]
    iapply (lo_block m c fullShare.right.right f rfl) $$ [Hr Ho]
    · isplitl [Hr]; · iexact Hr
      iexact Ho
    iintro ⟨Hr, Ho⟩
    rw [dif_neg (fun h => absurd ((cond_x c 1 (by decide)).mp h) (by omega))]
    iapply (recv8 m K c) $$ [HO R8]
    · isplitr; · iexact HR
      isplitl [HO]; · iexact HO
      iexact R8
    iintro ⟨HO, Z8, P8⟩
    iapply Hk
    isplitl [HO]; · iexact HO
    isplitl [Z8]; · iexact Z8
    isplitl [P8]; · iexact P8
    isplitl [Hr]; · iexact Hr
    unfold oHalf; iexists _; isplitl [Ho]; · iexact Ho
    ipureintro; intro i hi
    rw [lo_write, if_pos (hi.mpr hx)]
  · have hx1 : cx c = 1 := by have := cx_lt c; omega
    rw [dif_neg (fun h => hx ((cond_x c 0 (by decide)).mp h)), dif_pos ((cond_x c 1 (by decide)).mpr hx1)]
    simp only [hx1]
    iapply (hi_block m c fullShare.right.right f rfl) $$ [Hr Ho]
    · isplitl [Hr]; · iexact Hr
      iexact Ho
    iintro ⟨Hr, Ho⟩
    iapply (recv8 m K c) $$ [HO R8]
    · isplitr; · iexact HR
      isplitl [HO]; · iexact HO
      iexact R8
    iintro ⟨HO, Z8, P8⟩
    iapply Hk
    isplitl [HO]; · iexact HO
    isplitl [Z8]; · iexact Z8
    isplitl [P8]; · iexact P8
    isplitl [Hr]; · iexact Hr
    unfold oHalf; iexists _; isplitl [Ho]; · iexact Ho
    ipureintro; intro i hi
    rw [hi_write, if_neg (fun h => hx (hi.mp h))]

theorem part20 (c : Dev nD) {hq hk hv ho h4 h5} {v5 v8 v19} {α : Type} {Q : α → sProp 𝕄} {kk} :
    iprop(records m K ∗ owesX c 0 ∗ rTok 9 c ∗ rTok 10 c ∗ rTok 11 c ∗ recvPay m 8 c ∗ oHalf m c)
      ⊢ iprop(((owesX c 0 ∗ semVal (recvC c 9) 0 ∗ semVal (recvC c 10) 0 ∗ semVal (recvC c 11) 0 ∗ plP c (rowReg (1 - cx c)) fullShare (plF m c) ∗ oMid m c) -∗ WP c (kk (Scalar.extui (Scalar.cmpi .eq (w2 c) 1#32))) Q)
          -∗ WP c (k0_part20 (F := F) qM hq kM hk vM hv oM ho kvM h4 plM h5 cc0_scratch2 cc0_scratch3 cc0_scratch4 cc0_scratch5 cc0_scratch6 cc0_scratch7 c (w2 c) v5 v8 v19 >>= kk) Q) := by
  rw [k0_part20_eq_skeleton]; unfold k0_part20_skel
  simp only [semSignalWord, semWaitWord, Prog.lift, Prog.bind_op, Prog.bind_ret, Prog.pure_eq_ret, Prog.bind_assoc, wp_deviceId, e1, e5]
  iintro ⟨#HR, HO, R9, R10, R11, P8, Ho⟩ Hk
  iapply (recv9 m K c) $$ [HO R9]
  · isplitr; · iexact HR
    isplitl [HO]; · iexact HO
    iexact R9
  iintro ⟨HO, Z9, P9⟩
  iapply (recv10 m K c) $$ [HO R10]
  · isplitr; · iexact HR
    isplitl [HO]; · iexact HO
    iexact R10
  iintro ⟨HO, Z10, P10⟩
  iapply (recv11 m K c) $$ [HO R11]
  · isplitr; · iexact HR
    isplitl [HO]; · iexact HO
    iexact R11
  iintro ⟨HO, Z11, P11⟩
  ihave Hr := (opp_row m c) $$ [P8 P9 P10 P11]
  · isplitl [P8]; · iexact P8
    isplitl [P9]; · iexact P9
    isplitl [P10]; · iexact P10
    iexact P11
  simp only [bind_cond, Prog.bind_op, Prog.bind_ret]
  unfold oHalf
  icases Ho with ⟨%f, Ho, %hf⟩
  by_cases hx : cx c = 0
  · rw [dif_pos ((cond_x c 0 (by decide)).mpr hx)]
    simp only [hx]
    ihave Hr := (Entails.of_eq (show (plP c (rowReg (1 - 0)) fullShare (plF m c) : sProp 𝕄) = plP c (rowReg 1) fullShare (plF m c) from rfl)) $$ Hr
    iapply (hi_block m c fullShare f (by rfl)) $$ [Hr Ho]
    · isplitl [Hr]; · iexact Hr
      iexact Ho
    iintro ⟨Hr, Ho⟩
    iapply Hk
    isplitl [HO]; · iexact HO
    isplitl [Z9]; · iexact Z9
    isplitl [Z10]; · iexact Z10
    isplitl [Z11]; · iexact Z11
    isplitl [Hr]; · iexact Hr
    unfold oMid; rw [if_pos hx]
    iapply (out_hi m c f _ hx hf); iexact Ho
  · rw [dif_neg (fun h => hx ((cond_x c 0 (by decide)).mp h))]
    iapply Hk
    isplitl [HO]; · iexact HO
    isplitl [Z9]; · iexact Z9
    isplitl [Z10]; · iexact Z10
    isplitl [Z11]; · iexact Z11
    isplitl [Hr]; · iexact Hr
    unfold oMid; rw [if_neg hx]; unfold oHalf
    iexists f; isplitl [Ho]; · iexact Ho
    ipureintro; exact hf

theorem part21 (c : Dev nD) {hq hk hv ho h4 h5} {α : Type} {Q : α → sProp 𝕄} {kk} :
    iprop(records m K ∗ owesX c 0 ∗ sFl 0 c ∗ sFl 1 c ∗ plP c (rowReg (1 - cx c)) fullShare (plF m c) ∗ oMid m c)
      ⊢ iprop(((owesX c 0 ∗ semVal (sendC c 0) 0 ∗ sendPay m 0 c ∗ semVal (sendC c 1) 0 ∗ sendPay m 1 c ∗ plP c (rowReg (1 - cx c)) fullShare (plF m c) ∗ oP c (outF m c)) -∗ WP c (kk ⟨⟩) Q)
          -∗ WP c (k0_part21 (F := F) qM hq kM hk vM hv oM ho kvM h4 plM h5 cc0_scratch2 cc0_scratch3 cc0_scratch4 cc0_scratch5 cc0_scratch6 cc0_scratch7 (Scalar.extui (Scalar.cmpi .eq (w2 c) 1#32)) >>= kk) Q) := by
  rw [k0_part21_eq_skeleton]; unfold k0_part21_skel
  simp only [semSignalWord, semWaitWord, Prog.lift, Prog.bind_op, Prog.bind_ret, Prog.pure_eq_ret, Prog.bind_assoc, wp_deviceId, e1, e5]
  iintro ⟨#HR, HO, F0, F1, Hr, Ho⟩ Hk
  simp only [bind_cond, Prog.bind_op, Prog.bind_ret]
  by_cases hx : cx c = 0
  · rw [dif_neg (fun h => absurd ((cond_x c 1 (by decide)).mp h) (by omega))]
    ihave Ho := (Entails.of_eq (show (oMid m c : sProp 𝕄) = oP c (outF m c) from if_pos hx)) $$ Ho
    iapply (sent0 m K c) $$ [HO F0]
    · isplitr; · iexact HR
      isplitl [HO]; · iexact HO
      iexact F0
    iintro ⟨HO, Y0, X0⟩
    iapply (sent1 m K c) $$ [HO F1]
    · isplitr; · iexact HR
      isplitl [HO]; · iexact HO
      iexact F1
    iintro ⟨HO, Y1, X1⟩
    iapply Hk
    isplitl [HO]; · iexact HO
    isplitl [Y0]; · iexact Y0
    isplitl [X0]; · iexact X0
    isplitl [Y1]; · iexact Y1
    isplitl [X1]; · iexact X1
    isplitl [Hr]; · iexact Hr
    iexact Ho
  · have hx1 : cx c = 1 := by have := cx_lt c; omega
    rw [dif_pos ((cond_x c 1 (by decide)).mpr hx1)]
    ihave Ho := (Entails.of_eq (show (oMid m c : sProp 𝕄) = oHalf m c from if_neg hx)) $$ Ho
    unfold oHalf
    icases Ho with ⟨%f, Ho, %hf⟩
    simp only [hx1]
    ihave Hr := (Entails.of_eq (show (plP c (rowReg (1 - 1)) fullShare (plF m c) : sProp 𝕄) = plP c (rowReg 0) fullShare (plF m c) from rfl)) $$ Hr
    iapply (lo_block m c fullShare f (by rfl)) $$ [Hr Ho]
    · isplitl [Hr]; · iexact Hr
      iexact Ho
    iintro ⟨Hr, Ho⟩
    iapply (sent0 m K c) $$ [HO F0]
    · isplitr; · iexact HR
      isplitl [HO]; · iexact HO
      iexact F0
    iintro ⟨HO, Y0, X0⟩
    iapply (sent1 m K c) $$ [HO F1]
    · isplitr; · iexact HR
      isplitl [HO]; · iexact HO
      iexact F1
    iintro ⟨HO, Y1, X1⟩
    iapply Hk
    isplitl [HO]; · iexact HO
    isplitl [Y0]; · iexact Y0
    isplitl [X0]; · iexact X0
    isplitl [Y1]; · iexact Y1
    isplitl [X1]; · iexact X1
    isplitl [Hr]; · iexact Hr
    iapply (out_lo m c f _ hx hf); iexact Ho

theorem part22 (c : Dev nD) {hq hk hv ho h4 h5} {α : Type} {Q : α → sProp 𝕄} {kk} :
    iprop(records m K ∗ owesX c 0 ∗ sFl 2 c ∗ sFl 3 c ∗ sFl 4 c ∗ sFl 5 c)
      ⊢ iprop(((owesX c 0 ∗ semVal (sendC c 2) 0 ∗ sendPay m 2 c ∗ semVal (sendC c 3) 0 ∗ sendPay m 3 c ∗ semVal (sendC c 4) 0 ∗ sendPay m 4 c ∗ semVal (sendC c 5) 0 ∗ sendPay m 5 c) -∗ WP c (kk ⟨⟩) Q)
          -∗ WP c (k0_part22 (F := F) qM hq kM hk vM hv oM ho kvM h4 plM h5 cc0_scratch2 cc0_scratch3 cc0_scratch4 cc0_scratch5 cc0_scratch6 cc0_scratch7 c >>= kk) Q) := by
  rw [k0_part22_eq_skeleton]; unfold k0_part22_skel
  simp only [semSignalWord, semWaitWord, Prog.lift, Prog.bind_op, Prog.bind_ret, Prog.pure_eq_ret, Prog.bind_assoc, wp_deviceId, e1, e5]
  iintro ⟨#HR, HO, F2, F3, F4, F5⟩ Hk
  iapply (sent2 m K c) $$ [HO F2]
  · isplitr; · iexact HR
    isplitl [HO]; · iexact HO
    iexact F2
  iintro ⟨HO, Y2, X2⟩
  iapply (sent3 m K c) $$ [HO F3]
  · isplitr; · iexact HR
    isplitl [HO]; · iexact HO
    iexact F3
  iintro ⟨HO, Y3, X3⟩
  iapply (sent4 m K c) $$ [HO F4]
  · isplitr; · iexact HR
    isplitl [HO]; · iexact HO
    iexact F4
  iintro ⟨HO, Y4, X4⟩
  iapply (sent5 m K c) $$ [HO F5]
  · isplitr; · iexact HR
    isplitl [HO]; · iexact HO
    iexact F5
  iintro ⟨HO, Y5, X5⟩
  iapply Hk
  isplitl [HO]; · iexact HO
  isplitl [Y2]; · iexact Y2
  isplitl [X2]; · iexact X2
  isplitl [Y3]; · iexact Y3
  isplitl [X3]; · iexact X3
  isplitl [Y4]; · iexact Y4
  isplitl [X4]; · iexact X4
  isplitl [Y5]; · iexact Y5
  iexact X5

theorem part23 (c : Dev nD) {hq hk hv ho h4 h5} {α : Type} {Q : α → sProp 𝕄} {kk} :
    iprop(records m K ∗ owesX c 0 ∗ sFl 6 c ∗ sFl 7 c ∗ sFl 8 c ∗ sFl 9 c)
      ⊢ iprop(((owesX c 0 ∗ semVal (sendC c 6) 0 ∗ sendPay m 6 c ∗ semVal (sendC c 7) 0 ∗ sendPay m 7 c ∗ semVal (sendC c 8) 0 ∗ sendPay m 8 c ∗ semVal (sendC c 9) 0 ∗ sendPay m 9 c) -∗ WP c (kk ⟨⟩) Q)
          -∗ WP c (k0_part23 (F := F) qM hq kM hk vM hv oM ho kvM h4 plM h5 cc0_scratch2 cc0_scratch3 cc0_scratch4 cc0_scratch5 cc0_scratch6 cc0_scratch7 c >>= kk) Q) := by
  rw [k0_part23_eq_skeleton]; unfold k0_part23_skel
  simp only [semSignalWord, semWaitWord, Prog.lift, Prog.bind_op, Prog.bind_ret, Prog.pure_eq_ret, Prog.bind_assoc, wp_deviceId, e1, e5]
  iintro ⟨#HR, HO, F6, F7, F8, F9⟩ Hk
  iapply (sent6 m K c) $$ [HO F6]
  · isplitr; · iexact HR
    isplitl [HO]; · iexact HO
    iexact F6
  iintro ⟨HO, Y6, X6⟩
  iapply (sent7 m K c) $$ [HO F7]
  · isplitr; · iexact HR
    isplitl [HO]; · iexact HO
    iexact F7
  iintro ⟨HO, Y7, X7⟩
  iapply (sent8 m K c) $$ [HO F8]
  · isplitr; · iexact HR
    isplitl [HO]; · iexact HO
    iexact F8
  iintro ⟨HO, Y8, X8⟩
  iapply (sent9 m K c) $$ [HO F9]
  · isplitr; · iexact HR
    isplitl [HO]; · iexact HO
    iexact F9
  iintro ⟨HO, Y9, X9⟩
  iapply Hk
  isplitl [HO]; · iexact HO
  isplitl [Y6]; · iexact Y6
  isplitl [X6]; · iexact X6
  isplitl [Y7]; · iexact Y7
  isplitl [X7]; · iexact X7
  isplitl [Y8]; · iexact Y8
  isplitl [X8]; · iexact X8
  isplitl [Y9]; · iexact Y9
  iexact X9

end Cert.Exchange

end
-- ==== Proof.Body.lean ====
/-
# The body: what it starts with, the run through its parts, what it ends with
-/
module

public import proofs.«01_k».proof.Proof.Parts2

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CK → ℕ)

theorem wp_fin (c : Dev nD) {α : Type} {Q : α → sProp 𝕄} (a : α) : Q a ⊢ WP c (Prog.ret a) Q := fupd_intro

omit [FloatOps F] in
theorem kv_at (n : Dev nD) {k lo hi k' lo' hi' : ℕ} (h : k = k' ∧ lo = lo' ∧ hi = hi') :
    iprop(∃ f, kvP n (kvReg k lo hi) fullShare f) ⊢ (iprop(∃ f, kvP n (kvReg k' lo' hi') fullShare f) : sProp 𝕄) := by
  obtain ⟨rfl, rfl, rfl⟩ := h; exact Entails.rfl
omit [FloatOps F] in
theorem pl_at (n : Dev nD) {x y lo hi x' y' : ℕ} (h : x = x' ∧ y = y') :
    iprop(∃ f, plP n (plReg x y lo hi) fullShare f) ⊢ (iprop(∃ f, plP n (plReg x' y' lo hi) fullShare f) : sProp 𝕄) := by
  obtain ⟨rfl, rfl⟩ := h; exact Entails.rfl

theorem at2 : ∀ c : Dev nD, (cx (nb 3 c) = cx c ∧ yl (nb 3 c) = cy c) ∧ (cx (nb 3 c) = cx c ∧ yo (nb 3 c) = yl c) := by decide +kernel
theorem at3 : ∀ c : Dev nD, (cx (nb 2 c) = cx c ∧ yr (nb 2 c) = cy c) ∧ (cx (nb 2 c) = cx c ∧ yo (nb 2 c) = yr c) := by decide +kernel
theorem at4 : ∀ c : Dev nD, 1 - cx (nb 4 c) = cx c := by decide +kernel

omit [FloatOps F] in
/-- What the five neighbours hand over is what the twelve copies fill. -/
theorem gives_dests (c : Dev nD) : iprop(give 0 (nb 1 c) ∗ give 1 (nb 0 c) ∗ give 2 (nb 3 c) ∗ give 3 (nb 2 c) ∗ give 4 (nb 4 c))
    ⊢ (iprop((∃ f, kvP (peer 0 c) (kvReg 3 0 256) fullShare f) ∗ (∃ f, kvP (peer 1 c) (kvReg 1 0 256) fullShare f) ∗ (∃ f, kvP (peer 2 c) (kvReg 2 0 128) fullShare f) ∗ (∃ f, kvP (peer 3 c) (kvReg 2 128 256) fullShare f) ∗ (∃ f, plP (peer 4 c) (plReg (cx c) (cy c) 0 256) fullShare f) ∗ (∃ f, plP (peer 5 c) (plReg (cx c) (cy c) 0 256) fullShare f) ∗ (∃ f, plP (peer 6 c) (plReg (cx c) (yl c) 0 128) fullShare f) ∗ (∃ f, plP (peer 7 c) (plReg (cx c) (yr c) 128 256) fullShare f) ∗ (∃ f, plP (peer 8 c) (plReg (cx c) (cy c) 0 256) fullShare f) ∗ (∃ f, plP (peer 9 c) (plReg (cx c) (yl c) 0 256) fullShare f) ∗ (∃ f, plP (peer 10 c) (plReg (cx c) (yr c) 0 256) fullShare f) ∗ (∃ f, plP (peer 11 c) (plReg (cx c) (yo c) 0 256) fullShare f)) : sProp 𝕄) := by
  unfold give peer
  dsimp only
  iintro ⟨⟨D0, D2⟩, ⟨D1, D3⟩, ⟨D4, D6⟩, ⟨D5, D7⟩, ⟨%f, D⟩⟩
  ihave D := (Entails.of_eq (show (plP (nb 4 c) (rowReg (1 - cx (nb 4 c))) fullShare f : sProp 𝕄) = plP (nb 4 c) (rowReg (cx c)) fullShare f by rw [at4])) $$ D
  ihave D := (row_pieces (nb 4 c) (cx c) (cy c) (cy_lt c) fullShare f) $$ D
  icases D with ⟨D8, D10, D11, D9⟩
  ihave D4 := (pl_at (nb 3 c) (at2 c).1) $$ D4
  ihave D6 := (pl_at (nb 3 c) (at2 c).2) $$ D6
  ihave D5 := (pl_at (nb 2 c) (at3 c).1) $$ D5
  ihave D7 := (pl_at (nb 2 c) (at3 c).2) $$ D7
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexists f; iexact D8
  isplitl [D9]; · iexists f; iexact D9
  isplitl [D10]; · iexists f; iexact D10
  iexists f; iexact D11

/-- The exchange buffer whole again. -/
theorem kv_back (c : Dev nD) : iprop(sendPay m 0 c ∗ sendPay m 1 c ∗ sendPay m 2 c ∗ kvP c (kvReg 3 128 256) fullShare.left (kvF m c) ∗ kvP c (kvReg 3 0 256) fullShare.right (kvF m c) ∗ sendPay m 3 c ∗ kvP c (kvReg 1 0 128) fullShare.left (kvF m c) ∗ kvP c (kvReg 1 0 256) fullShare.right (kvF m c) ∗ recvPay m 2 c ∗ recvPay m 3 c) ⊢ kvP c Finset.univ fullShare (kvF m c) := by
  unfold sendPay recvPay
  iintro ⟨X0, X1, X2, A3, B3, X3, A1, B1, P2, P3⟩
  ihave S0 := (pts_unhalve) $$ [X0 X1]
  · isplitl [X0]; · iexact X0
    iexact X1
  ihave S3 := (pts_join (ℓ := (c : Thread nD τ).loc cc0_scratch0) (A := kvReg 3 0 128) (B := kvReg 3 128 256) (kvReg_cut 3 0 128 256 (by decide) (by decide)) (kvReg_cut_disj 3 0 128 256)) $$ [X2 A3]
  · isplitl [X2]; · iexact X2
    iexact A3
  ihave S3 := (pts_unhalve) $$ [S3 B3]
  · isplitl [S3]; · iexact S3
    iexact B3
  ihave S1 := (pts_join (ℓ := (c : Thread nD τ).loc cc0_scratch0) (A := kvReg 1 0 128) (B := kvReg 1 128 256) (kvReg_cut 1 0 128 256 (by decide) (by decide)) (kvReg_cut_disj 1 0 128 256)) $$ [A1 X3]
  · isplitl [A1]; · iexact A1
    iexact X3
  ihave S1 := (pts_unhalve) $$ [S1 B1]
  · isplitl [S1]; · iexact S1
    iexact B1
  iapply (kv_unpieces c fullShare (kvF m c))
  isplitl [S0]; · iexact S0
  isplitl [S1]; · iexact S1
  isplitl [P2]; · iexact P2
  isplitl [P3]; · iexact P3
  iexact S3

/-- The result plane whole again. -/
theorem pl_back (c : Dev nD) : iprop(sendPay m 4 c ∗ sendPay m 5 c ∗ sendPay m 8 c ∗ plP c (plReg (cx c) (cy c) 0 256) fullShare.right.right (plF m c) ∗ sendPay m 6 c ∗ plP c (plReg (cx c) (yl c) 128 256) fullShare.left (plF m c) ∗ sendPay m 9 c ∗ plP c (plReg (cx c) (yl c) 0 256) fullShare.right.right (plF m c) ∗ sendPay m 7 c ∗ plP c (plReg (cx c) (yr c) 0 128) fullShare.left (plF m c) ∗ sendPay m 10 c ∗ plP c (plReg (cx c) (yr c) 0 256) fullShare.right.right (plF m c) ∗ sendPay m 11 c ∗ plP c (plReg (cx c) (yo c) 0 256) fullShare.right.left (plF m c) ∗ plP c (plReg (cx c) (yo c) 0 256) fullShare.right.right (plF m c) ∗ plP c (rowReg (1 - cx c)) fullShare (plF m c)) ⊢ plP c Finset.univ fullShare (plF m c) := by
  unfold sendPay
  iintro ⟨X4, X5, X8, W0, X6, Ll, X9, W3, X7, Kl, X10, W1, X11, V2, W2, Hr⟩
  ihave S0 := (pts_unhalve) $$ [X4 X5]
  · isplitl [X4]; · iexact X4
    iexact X5
  ihave W0 := (pts_unhalve) $$ [X8 W0]
  · isplitl [X8]; · iexact X8
    iexact W0
  ihave S0 := (pts_unhalve) $$ [S0 W0]
  · isplitl [S0]; · iexact S0
    iexact W0
  ihave S3 := (pts_join (ℓ := (c : Thread nD τ).loc cc0_scratch1) (A := plReg (cx c) (yl c) 0 128) (B := plReg (cx c) (yl c) 128 256) (plReg_cut (cx c) (yl c) 0 128 256 (by decide) (by decide)) (plReg_cut_disj (cx c) (yl c) 0 128 256)) $$ [X6 Ll]
  · isplitl [X6]; · iexact X6
    iexact Ll
  ihave W3 := (pts_unhalve) $$ [X9 W3]
  · isplitl [X9]; · iexact X9
    iexact W3
  ihave S3 := (pts_unhalve) $$ [S3 W3]
  · isplitl [S3]; · iexact S3
    iexact W3
  ihave S1 := (pts_join (ℓ := (c : Thread nD τ).loc cc0_scratch1) (A := plReg (cx c) (yr c) 0 128) (B := plReg (cx c) (yr c) 128 256) (plReg_cut (cx c) (yr c) 0 128 256 (by decide) (by decide)) (plReg_cut_disj (cx c) (yr c) 0 128 256)) $$ [Kl X7]
  · isplitl [Kl]; · iexact Kl
    iexact X7
  ihave W1 := (pts_unhalve) $$ [X10 W1]
  · isplitl [X10]; · iexact X10
    iexact W1
  ihave S1 := (pts_unhalve) $$ [S1 W1]
  · isplitl [S1]; · iexact S1
    iexact W1
  ihave W2 := (pts_unhalve) $$ [V2 W2]
  · isplitl [V2]; · iexact V2
    iexact W2
  ihave S2 := (pts_unhalve) $$ [X11 W2]
  · isplitl [X11]; · iexact X11
    iexact W2
  iapply (pts_join (ℓ := (c : Thread nD τ).loc cc0_scratch1) (rows_cut (cx c) (cx_lt c)) (rows_cut_disj (cx c) (cx_lt c)))
  isplitr [Hr]
  · iapply (row_unpieces c (cx c) (cy c) (cy_lt c) fullShare (plF m c))
    isplitl [S0]; · iexact S0
    isplitl [S1]; · iexact S1
    isplitl [S2]; · iexact S2
    iexact S3
  iexact Hr

/-- What the exchange buffer is cut into at the start. -/
theorem kv_start (c : Dev nD) : iprop(∃ f, kvP c Finset.univ fullShare f)
    ⊢ (iprop((∃ f, kvP c (kvReg 0 0 256) fullShare f) ∗ give 0 c ∗ give 1 c) : sProp 𝕄) := by
  unfold give; dsimp only
  iintro ⟨%f, H⟩
  ihave H := (kv_pieces c fullShare f) $$ H
  icases H with ⟨H0, H1, Ha, Hb, H3⟩
  isplitl [H0]; · iexists f; iexact H0
  isplitl [H3 Ha]
  · isplitl [H3]; · iexists f; iexact H3
    iexists f; iexact Ha
  isplitl [H1]; · iexists f; iexact H1
  iexists f; iexact Hb

/-- What the result plane is cut into at the start. -/
theorem pl_start (c : Dev nD) : iprop(∃ f, plP c Finset.univ fullShare f)
    ⊢ (iprop(slotK m c 0 ∗ give 2 c ∗ give 3 c ∗ give 4 c) : sProp 𝕄) := by
  unfold give slotK; dsimp only
  iintro ⟨%f, H⟩
  ihave H := (pts_split (ℓ := (c : Thread nD τ).loc cc0_scratch1) (rows_cut (cx c) (cx_lt c)) (rows_cut_disj (cx c) (cx_lt c))) $$ H
  icases H with ⟨H, H4⟩
  ihave H := (row_pieces c (cx c) (cy c) (cy_lt c) fullShare f) $$ H
  icases H with ⟨H0, H1, H2, H3⟩
  ihave H2 := (pts_split (ℓ := (c : Thread nD τ).loc cc0_scratch1) (plReg_cut (cx c) (yo c) 0 128 256 (by decide) (by decide)) (plReg_cut_disj (cx c) (yo c) 0 128 256)) $$ H2
  icases H2 with ⟨Ha, Hb⟩
  rw [if_neg (by omega)]
  isplitl [H0]; · iexists f; iexact H0
  isplitl [H3 Ha]
  · isplitl [H3]; · iexists f; iexact H3
    iexists f; iexact Ha
  isplitl [H1 Hb]
  · isplitl [H1]; · iexists f; iexact H1
    iexists f; iexact Hb
  iexists f; iexact H4

/-- The handshake's part of the start, the copies' and the arrivals'. -/
def barX (c : Dev nD) : sProp 𝕄 := iprop(dutyTok ER (barC (nb 0 c)) 0 0 ∗ dutyTok ER (barC (nb 1 c)) 0 1 ∗ dutyTok ER (barC (nb 2 c)) 0 2 ∗ dutyTok ER (barC (nb 3 c)) 0 3 ∗ dutyTok ER (barC (nb 4 c)) 0 4 ∗ cred (tallyAt (barC c) () 5) ∗ atPos ER (barC c) 0 ∅ 0)
def sAll (c : Dev nD) : sProp 𝕄 := iprop(sTok 0 c ∗ sTok 1 c ∗ sTok 2 c ∗ sTok 3 c ∗ sTok 4 c ∗ sTok 5 c ∗ sTok 6 c ∗ sTok 7 c ∗ sTok 8 c ∗ sTok 9 c ∗ sTok 10 c ∗ sTok 11 c)
def rAll (c : Dev nD) : sProp 𝕄 := iprop(rTok 0 c ∗ rTok 1 c ∗ rTok 2 c ∗ rTok 3 c ∗ rTok 4 c ∗ rTok 5 c ∗ rTok 6 c ∗ rTok 7 c ∗ rTok 8 c ∗ rTok 9 c ∗ rTok 10 c ∗ rTok 11 c)
/-- The semaphores given back, all at zero. -/
def zAll (c : Dev nD) : sProp 𝕄 := iprop(semVal (barC c) 0 ∗ semVal (sendC c 0) 0 ∗ semVal (sendC c 1) 0 ∗ semVal (sendC c 2) 0 ∗ semVal (sendC c 3) 0 ∗ semVal (sendC c 4) 0 ∗ semVal (sendC c 5) 0 ∗ semVal (sendC c 6) 0 ∗ semVal (sendC c 7) 0 ∗ semVal (sendC c 8) 0 ∗ semVal (sendC c 9) 0 ∗ semVal (sendC c 10) 0 ∗ semVal (sendC c 11) 0 ∗ semVal (recvC c 0) 0 ∗ semVal (recvC c 1) 0 ∗ semVal (recvC c 2) 0 ∗ semVal (recvC c 3) 0 ∗ semVal (recvC c 4) 0 ∗ semVal (recvC c 5) 0 ∗ semVal (recvC c 6) 0 ∗ semVal (recvC c 7) 0 ∗ semVal (recvC c 8) 0 ∗ semVal (recvC c 9) 0 ∗ semVal (recvC c 10) 0 ∗ semVal (recvC c 11) 0)

set_option maxHeartbeats 1600000 in
/-- The run of the body on device `c`. -/
theorem body_run (c : Dev nD) {hq hk hv ho h4 h5} {Q : PUnit → sProp 𝕄} :
    iprop(records m K ∗ owesX c 17 ∗ barX c ∗ sAll c ∗ rAll c ∗ (∃ f, kvP c Finset.univ fullShare f) ∗ (∃ f, plP c Finset.univ fullShare f) ∗ ((c : Thread nD τ).loc cc0_stg0_0 ↦[Finset.univ]{fullShare} qB m c) ∗ ((c : Thread nD τ).loc cc0_stg1_0 ↦[Finset.univ]{fullShare} kB m c) ∗ ((c : Thread nD τ).loc cc0_stg2_0 ↦[Finset.univ]{fullShare} vB m c) ∗ (∃ f, oP c f))
      ⊢ iprop(((owesX c 0 ∗ zAll c ∗ kvP c Finset.univ fullShare (kvF m c) ∗ plP c Finset.univ fullShare (plF m c) ∗ ((c : Thread nD τ).loc cc0_stg0_0 ↦[Finset.univ]{fullShare} qB m c) ∗ ((c : Thread nD τ).loc cc0_stg1_0 ↦[Finset.univ]{fullShare} kB m c) ∗ ((c : Thread nD τ).loc cc0_stg2_0 ↦[Finset.univ]{fullShare} vB m c) ∗ oP c (outF m c)) -∗ Q ⟨⟩)
          -∗ WP c (cc0_body (F := F) qM hq kM hk vM hv oM ho kvM h4 plM h5 cc0_scratch2 cc0_scratch3 cc0_scratch4 cc0_scratch5 cc0_scratch6 cc0_scratch7) Q) := by
  rw [cc0_body_eq_skeleton]; unfold cc0_body_skel
  iintro ⟨#HR, HO, bX, sX, rX, kvH, plH, HQ, HK, HV, Ho⟩ Hk
  unfold barX sAll rAll
  icases bX with ⟨t0, t1, t2, t3, t4, cb, ab⟩
  icases sX with ⟨T0, T1, T2, T3, T4, T5, T6, T7, T8, T9, T10, T11⟩
  icases rX with ⟨R0, R1, R2, R3, R4, R5, R6, R7, R8, R9, R10, R11⟩
  ihave H := (kv_start c) $$ kvH; icases H with ⟨H0, G0, G1⟩
  ihave H := (pl_start m c) $$ plH; icases H with ⟨HS, G2, G3, G4⟩
  iapply (part1 m c) $$ [HK]
  · iexact HK
  iintro %a %b %d %e %f %g HK
  dsimp only
  iapply (part2 m K c) $$ [HO HV H0 t0 G0]
  · isplitr; · iexact HR
    isplitl [HO]; · iexact HO
    isplitl [HV]; · iexact HV
    isplitl [H0]; · iexact H0
    isplitl [t0]; · iexact t0
    iexact G0
  iintro ⟨HO, HV, H0⟩
  dsimp only
  iapply (part3 m K c) $$ [HO t1 t2 t3 t4 G1 G2 G3 G4 cb ab]
  · isplitr; · iexact HR
    isplitl [HO]; · iexact HO
    isplitl [t1]; · iexact t1
    isplitl [t2]; · iexact t2
    isplitl [t3]; · iexact t3
    isplitl [t4]; · iexact t4
    isplitl [G1]; · iexact G1
    isplitl [G2]; · iexact G2
    isplitl [G3]; · iexact G3
    isplitl [G4]; · iexact G4
    isplitl [cb]; · iexact cb
    iexact ab
  iintro %a %b ⟨HO, Zb, J0, J1, J2, J3, J4⟩
  dsimp only
  ihave H := (gives_dests c) $$ [J0 J1 J2 J3 J4]
  · isplitl [J0]; · iexact J0
    isplitl [J1]; · iexact J1
    isplitl [J2]; · iexact J2
    isplitl [J3]; · iexact J3
    iexact J4
  icases H with ⟨D0, D1, D2, D3, D4, D5, D6, D7, D8, D9, D10, D11⟩
  iapply (part4 m K c) $$ [HO T0 T1 H0 D0 D1 HQ]
  · isplitr; · iexact HR
    isplitl [HO]; · iexact HO
    isplitl [T0]; · iexact T0
    isplitl [T1]; · iexact T1
    isplitl [H0]; · iexact H0
    isplitl [D0]; · iexact D0
    isplitl [D1]; · iexact D1
    iexact HQ
  iintro ⟨HO, F0, F1, HQ⟩
  dsimp only
  iapply (part5 m c) $$ [HO]
  · iexact HO
  iintro HO
  dsimp only
  iapply (part6 m K c) $$ [HO R0 R1]
  · isplitr; · iexact HR
    isplitl [HO]; · iexact HO
    isplitl [R0]; · iexact R0
    iexact R1
  iintro ⟨HO, Z0, P0, Z1, P1⟩
  iapply (part7 m K c) $$ [HO T2 T3 P0 P1 D2 D3]
  · isplitr; · iexact HR
    isplitl [HO]; · iexact HO
    isplitl [T2]; · iexact T2
    isplitl [T3]; · iexact T3
    isplitl [P0]; · iexact P0
    isplitl [P1]; · iexact P1
    isplitl [D2]; · iexact D2
    iexact D3
  iintro ⟨HO, F2, F3, A3, B3, A1, B1⟩
  dsimp only
  iapply (part8 m c) $$ [B3 B1]
  · isplitl [B3]; · iexact B3
    iexact B1
  iintro ⟨B3, B1⟩
  dsimp only
  iapply (part9 m c) $$ [B1]
  · iexact B1
  iintro B1
  dsimp only
  iapply (part10 m K c) $$ [HO R2]
  · isplitr; · iexact HR
    isplitl [HO]; · iexact HO
    iexact R2
  iintro ⟨HO, Z2, P2⟩
  dsimp only
  iapply (part11 m K c) $$ [HO R3]
  · isplitr; · iexact HR
    isplitl [HO]; · iexact HO
    iexact R3
  iintro ⟨HO, Z3, P3⟩
  dsimp only
  iapply (part12 m c) $$ [P3 HS]
  · isplitl [P3]; · iexact P3
    iexact HS
  iintro ⟨P3, HS⟩
  dsimp only
  iapply (part13 m c) $$ [HS]
  · iexact HS
  iintro HS
  ihave HS := (Entails.of_eq (show (slotK m c 8 : sProp 𝕄) = plP c (plReg (cx c) (cy c) 0 256) fullShare (plF m c) from if_pos (by have := cx_lt c; have := cy_lt c; omega))) $$ HS
  iapply (part14 m K c) $$ [HO T4 T5 T8 HS D4 D5 D8]
  · isplitr; · iexact HR
    isplitl [HO]; · iexact HO
    isplitl [T4]; · iexact T4
    isplitl [T5]; · iexact T5
    isplitl [T8]; · iexact T8
    isplitl [HS]; · iexact HS
    isplitl [D4]; · iexact D4
    isplitl [D5]; · iexact D5
    iexact D8
  iintro ⟨HO, F4, F5, F8, W0⟩
  iapply (part15 m K c) $$ [HO R4 R5]
  · isplitr; · iexact HR
    isplitl [HO]; · iexact HO
    isplitl [R4]; · iexact R4
    iexact R5
  iintro %a ⟨HO, Z4, P4, Z5, P5⟩
  dsimp only
  iapply (part16 m K c) $$ [HO T6 T7 P4 P5 D6 D7]
  · isplitr; · iexact HR
    isplitl [HO]; · iexact HO
    isplitl [T6]; · iexact T6
    isplitl [T7]; · iexact T7
    isplitl [P4]; · iexact P4
    isplitl [P5]; · iexact P5
    isplitl [D6]; · iexact D6
    iexact D7
  iintro ⟨HO, F6, F7, Ll, Lr, Kl, Kr⟩
  iapply (part17 m K c) $$ [HO T9 T10 Lr Kr D9 D10]
  · isplitr; · iexact HR
    isplitl [HO]; · iexact HO
    isplitl [T9]; · iexact T9
    isplitl [T10]; · iexact T10
    isplitl [Lr]; · iexact Lr
    isplitl [Kr]; · iexact Kr
    isplitl [D9]; · iexact D9
    iexact D10
  iintro ⟨HO, F9, F10, W3, W1⟩
  iapply (part18 m K c) $$ [HO R6 R7 T11 D11]
  · isplitr; · iexact HR
    isplitl [HO]; · iexact HO
    isplitl [R6]; · iexact R6
    isplitl [R7]; · iexact R7
    isplitl [T11]; · iexact T11
    iexact D11
  iintro ⟨HO, Z6, Z7, F11, V2, W2⟩
  ihave Hr := (row_unpieces c (cx c) (cy c) (cy_lt c) fullShare.right.right (plF m c)) $$ [W0 W1 W2 W3]
  · isplitl [W0]; · iexact W0
    isplitl [W1]; · iexact W1
    isplitl [W2]; · iexact W2
    iexact W3
  iapply (part19 m K c) $$ [HO R8 Hr Ho]
  · isplitr; · iexact HR
    isplitl [HO]; · iexact HO
    isplitl [R8]; · iexact R8
    isplitl [Hr]; · iexact Hr
    iexact Ho
  iintro ⟨HO, Z8, P8, Hr, Ho⟩
  ihave Hr := (row_pieces c (cx c) (cy c) (cy_lt c) fullShare.right.right (plF m c)) $$ Hr
  icases Hr with ⟨W0, W1, W2, W3⟩
  iapply (part20 m K c) $$ [HO R9 R10 R11 P8 Ho]
  · isplitr; · iexact HR
    isplitl [HO]; · iexact HO
    isplitl [R9]; · iexact R9
    isplitl [R10]; · iexact R10
    isplitl [R11]; · iexact R11
    isplitl [P8]; · iexact P8
    iexact Ho
  iintro ⟨HO, Z9, Z10, Z11, Hr, Ho⟩
  iapply (part21 m K c) $$ [HO F0 F1 Hr Ho]
  · isplitr; · iexact HR
    isplitl [HO]; · iexact HO
    isplitl [F0]; · iexact F0
    isplitl [F1]; · iexact F1
    isplitl [Hr]; · iexact Hr
    iexact Ho
  iintro ⟨HO, Y0, X0, Y1, X1, Hr, Ho⟩
  iapply (part22 m K c) $$ [HO F2 F3 F4 F5]
  · isplitr; · iexact HR
    isplitl [HO]; · iexact HO
    isplitl [F2]; · iexact F2
    isplitl [F3]; · iexact F3
    isplitl [F4]; · iexact F4
    iexact F5
  iintro ⟨HO, Y2, X2, Y3, X3, Y4, X4, Y5, X5⟩
  iapply (part23 m K c) $$ [HO F6 F7 F8 F9]
  · isplitr; · iexact HR
    isplitl [HO]; · iexact HO
    isplitl [F6]; · iexact F6
    isplitl [F7]; · iexact F7
    isplitl [F8]; · iexact F8
    iexact F9
  iintro ⟨HO, Y6, X6, Y7, X7, Y8, X8, Y9, X9⟩
  simp only [Prog.lift, Prog.bind_op, Prog.bind_ret, Prog.pure_eq_ret]
  iapply (sent10 m K c) $$ [HO F10]
  · isplitr; · iexact HR
    isplitl [HO]; · iexact HO
    iexact F10
  iintro ⟨HO, Y10, X10⟩
  iapply (sent11 m K c) $$ [HO F11]
  · isplitr; · iexact HR
    isplitl [HO]; · iexact HO
    iexact F11
  iintro ⟨HO, Y11, X11⟩
  iapply (wp_fin c ⟨⟩)
  iapply Hk
  isplitl [HO]; · iexact HO
  isplitl [Zb Y0 Y1 Y2 Y3 Y4 Y5 Y6 Y7 Y8 Y9 Y10 Y11 Z0 Z1 Z2 Z3 Z4 Z5 Z6 Z7 Z8 Z9 Z10 Z11]
  · unfold zAll
    isplitl [Zb]; · iexact Zb
    isplitl [Y0]; · iexact Y0
    isplitl [Y1]; · iexact Y1
    isplitl [Y2]; · iexact Y2
    isplitl [Y3]; · iexact Y3
    isplitl [Y4]; · iexact Y4
    isplitl [Y5]; · iexact Y5
    isplitl [Y6]; · iexact Y6
    isplitl [Y7]; · iexact Y7
    isplitl [Y8]; · iexact Y8
    isplitl [Y9]; · iexact Y9
    isplitl [Y10]; · iexact Y10
    isplitl [Y11]; · iexact Y11
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    iexact Z11
  isplitl [X0 X1 X2 A3 B3 X3 A1 B1 P2 P3]
  · iapply (kv_back m c)
    isplitl [X0]; · iexact X0
    isplitl [X1]; · iexact X1
    isplitl [X2]; · iexact X2
    isplitl [A3]; · iexact A3
    isplitl [B3]; · iexact B3
    isplitl [X3]; · iexact X3
    isplitl [A1]; · iexact A1
    isplitl [B1]; · iexact B1
    isplitl [P2]; · iexact P2
    iexact P3
  isplitl [X4 X5 X8 W0 X6 Ll X9 W3 X7 Kl X10 W1 X11 V2 W2 Hr]
  · iapply (pl_back m c)
    isplitl [X4]; · iexact X4
    isplitl [X5]; · iexact X5
    isplitl [X8]; · iexact X8
    isplitl [W0]; · iexact W0
    isplitl [X6]; · iexact X6
    isplitl [Ll]; · iexact Ll
    isplitl [X9]; · iexact X9
    isplitl [W3]; · iexact W3
    isplitl [X7]; · iexact X7
    isplitl [Kl]; · iexact Kl
    isplitl [X10]; · iexact X10
    isplitl [W1]; · iexact W1
    isplitl [X11]; · iexact X11
    isplitl [V2]; · iexact V2
    isplitl [W2]; · iexact W2
    iexact Hr
  isplitl [HQ]; · iexact HQ
  isplitl [HK]; · iexact HK
  isplitl [HV]; · iexact HV
  iexact Ho

end Cert.Exchange

end
-- ==== Proof.Launch.lean ====
/-
# The launch: the body's obligation, what every device is dealt, the run of the whole program
-/
module

public import proofs.«01_k».proof.Proof.Body
public import proofs.«01_k».proof.Proof.Gen.KernelIdeal.Points
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What device `c`'s body starts from. -/
def start (c : Dev nD) : sProp 𝕄 := iprop(∃ K, records m K ∗ barX c ∗ sAll c ∗ rAll c)
def phiA (c : Dev nD) : sProp 𝕄 :=
  iprop(start m c ∗ (∃ f, kvP c Finset.univ fullShare f) ∗ ∃ f, plP c Finset.univ fullShare f)
def phiB (c : Dev nD) : sProp 𝕄 :=
  iprop(zAll c ∗ kvP c Finset.univ fullShare (kvF m c) ∗ plP c Finset.univ fullShare (plF m c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => qB m c
    | ⟨1, _⟩ => kB m c
    | ⟨2, _⟩ => vB m c
    | ⟨3, _⟩ => outF m c
  Φ t := match t with
    | ⟨0, _⟩ => phiA m c
    | ⟨_ + 1, _⟩ => phiB m c
  q _ := fullShare
  owed t := match t with
    | ⟨0, _⟩ => Or c 17
    | ⟨_ + 1, _⟩ => 0

omit [FloatOps F] in
theorem owns_all (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def preB (c : Dev nD) : sProp 𝕄 :=
  iprop(phiA m c ∗ (dats m ρ 0 c).owesAt () t0_0.castSucc
    ∗ (∃ d, held c cc0_stg0_0 ((dats m ρ 0 c).before (0 : Fin 4) t0_0 d))
    ∗ (∃ d, held c cc0_stg1_0 ((dats m ρ 0 c).before (1 : Fin 4) t0_0 d))
    ∗ (∃ d, held c cc0_stg2_0 ((dats m ρ 0 c).before (2 : Fin 4) t0_0 d))
    ∗ (∃ d, held c cc0_stg3_0 ((dats m ρ 0 c).before (3 : Fin 4) t0_0 d)))
def postB (c : Dev nD) : sProp 𝕄 :=
  iprop(phiB m c ∗ (dats m ρ 0 c).owesAt () t0_0.succ
    ∗ held c cc0_stg0_0 (qB m c) ∗ held c cc0_stg1_0 (kB m c) ∗ held c cc0_stg2_0 (vB m c) ∗ held c cc0_stg3_0 (outF m c))

set_option maxHeartbeats 1600000 in
theorem body_pre (c : Dev nD) {hq hk hv ho h4 h5} :
    preB m ρ c ⊢ wp frame (wpE (defs₀ (F := F)) Variants.none c none) Set.univ
      (cc0_body (F := F) qM hq kM hk vM hv oM ho kvM h4 plM h5 cc0_scratch2 cc0_scratch3 cc0_scratch4 cc0_scratch5 cc0_scratch6 cc0_scratch7)
      (fun _ => postB m ρ c) := by
  unfold preB phiA start
  iintro ⟨⟨⟨%K, #HR, bX, sX, rX⟩, kvH, plH⟩, Ho, ⟨%d0, %g0, %hg0, H0⟩, ⟨%d1, %g1, %hg1, H1⟩, ⟨%d2, %g2, %hg2, H2⟩, ⟨%d3, %g3, %hg3, H3⟩⟩
  have e0 : g0 = qB m c := by rw [hg0]; unfold Dat.before; rw [if_pos (fetch0_0 _)]; rfl
  have e1 : g1 = kB m c := by rw [hg1]; unfold Dat.before; rw [if_pos (fetch0_1 _)]; rfl
  have e2 : g2 = vB m c := by rw [hg2]; unfold Dat.before; rw [if_pos (fetch0_2 _)]; rfl
  subst e0; subst e1; subst e2
  unfold Dat.owesAt Pipeline.owesWithin
  icases Ho with ⟨%W, %hW, HO⟩
  rw [show (dats m ρ 0 c).owed t0_0.castSucc = Or c 17 from rfl]
  iapply (body_run m K c (Q := fun _ => postB m ρ c)) $$ [HO bX sX rX kvH plH H0 H1 H2 H3]
  · isplitr; · iexact HR
    isplitl [HO]; · unfold owesX; iexists W; iexact HO
    isplitl [bX]; · iexact bX
    isplitl [sX]; · iexact sX
    isplitl [rX]; · iexact rX
    isplitl [kvH]; · iexact kvH
    isplitl [plH]; · iexact plH
    isplitl [H0]; · iexact H0
    isplitl [H1]; · iexact H1
    isplitl [H2]; · iexact H2
    iexists g3; iexact H3
  iintro ⟨HO, zX, kvH, plH, H0, H1, H2, H3⟩
  unfold postB phiB owesX Dat.owesAt Pipeline.owesWithin
  rw [show (dats m ρ 0 c).owed t0_0.succ = 0 from rfl]
  isplitl [zX kvH plH]
  · isplitl [zX]; · iexact zX
    isplitl [kvH] <;> iassumption
  isplitl [HO]
  · icases HO with ⟨%W', HO⟩
    iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

set_option maxRecDepth 4000 in
theorem body_obl (c : Dev nD) : BodyObligation (dats (F := F) m ρ 0 c) (defs₀ (F := F)) Variants.none () Set.univ := fun t => by
  rw [fin_N0 t]
  rw [bigSep_W0, bigSep_W0]
  simp only [owns_all]
  exact body_pre m ρ c

/-! ## What the launch deals -/

/-- A copy's two semaphores are the kernel's own. -/
def osem (j : Fin 12 ⊕ Fin 12) : SemLoc sig := csem (some j)
theorem osem_facts : Pipeline.OwnSemFacts cfg0.spec osem := by decide +kernel

theorem share_full (c : Dev nD) (w : Fin cfg0.W) : (dats m ρ 0 c).share w = fullShare := by unfold Dat.share; split <;> rfl

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def allCells : Finset (GSem nD τ sig) := Finset.univ.map ⟨kcell, kcell_injective⟩

/-- The duties of a device's own cells: five of its barrier, one of each copy's send and receive side. -/
abbrev DK : Type := Fin 5 ⊕ (Fin 12 ⊕ Fin 12)
def dkOf : DK → CK × Fin 5
  | .inl d => (none, d)
  | .inr j => (some j, 0)
theorem dkOf_injective : Function.Injective dkOf := by
  rintro (d | j) (d' | j') h
  · exact congrArg Sum.inl (congrArg Prod.snd h)
  · exact absurd (congrArg Prod.fst h) (by intro h; cases h)
  · exact absurd (congrArg Prod.fst h) (by intro h; cases h)
  · exact congrArg Sum.inr (Option.some.inj (congrArg Prod.fst h))
def tokOf (x : Dev nD × DK) : GSem nD τ sig × ℕ × Fin 5 := (kcell (x.1, (dkOf x.2).1), 0, (dkOf x.2).2)
theorem tokOf_injective : Function.Injective tokOf := by
  rintro ⟨c, j⟩ ⟨c', j'⟩ h
  have h1 := kcell_injective (congrArg (fun x : GSem nD τ sig × ℕ × Fin 5 => x.1) h)
  have h2 : (dkOf j).2 = (dkOf j').2 := congrArg (fun x : GSem nD τ sig × ℕ × Fin 5 => x.2.2) h
  have h3 : c = c' := congrArg Prod.fst h1
  have h4 : (dkOf j).1 = (dkOf j').1 := congrArg Prod.snd h1
  rw [h3, dkOf_injective (Prod.ext h4 h2)]
def allToks : Finset (GSem nD τ sig × ℕ × Fin 5) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun d : Fin 5 => dutyTok ER (barC c) 0 d)
    ∗ (bigSep Finset.univ fun i : Fin 12 => dutyTok ER (sendC c i) 0 0) ∗ bigSep Finset.univ fun i : Fin 12 => dutyTok ER (recvC c i) 0 0)

/-- What device `c` is dealt, -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

/-- the duty tokens of what IT pays, -/
def payToks (c : Dev nD) : sProp 𝕄 :=
  iprop((bigSep Finset.univ fun d : Fin 5 => dutyTok ER (barC (nb d c)) 0 d)
    ∗ (bigSep Finset.univ fun i : Fin 12 => dutyTok ER (sendC c i) 0 0) ∗ bigSep Finset.univ fun i : Fin 12 => dutyTok ER (recvC (peer i c) i) 0 0)
def linear (c : Dev nD) : sProp 𝕄 :=
  iprop((bigSep Finset.univ fun k : CK => atPos ER (kcell (c, k)) 0 ∅ 0) ∗ payToks c)
def recs (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)
instance recs_persistent (K : Dev nD × CK → ℕ) : BI.Persistent (recs m K) := by unfold recs; infer_instance
/-- and what the global step makes of it. -/
def G' (c : Dev nD) : sProp 𝕄 := iprop(∃ K, recs m K ∗ linear c)

omit [FloatOps F] in
theorem toks_sum (c : Dev nD) :
    (bigSep Finset.univ fun j : DK => (dutyTok ER (tokOf (c, j)).1 (tokOf (c, j)).2.1 (tokOf (c, j)).2.2 : sProp 𝕄)) = toks c := by
  rw [bigSep_univ_sum, bigSep_univ_sum]; rfl

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_sum c
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

abbrev ownZ (c : Dev nD) : sProp 𝕄 := Pipeline.ownSems0 (Ix := Unit) (Name := ℕ) (U := UU) (Lvl := ℕ) (Val := Elt F) (τ := τ) osem c

omit [FloatOps F] in
theorem unscoped_eq (c : Dev nD) : (unscopedSems0 c : sProp 𝕄) = semVal (barC c) 0 := by
  unfold unscopedSems0; rw [bigSep_eq_bigSepL_of_eq [SemLoc.reg barS] (by decide) (by decide)]; rfl

omit [FloatOps F] in
theorem bigSep_ck (Φ : CK → sProp 𝕄) : bigSep Finset.univ Φ = bigSepL ckList Φ :=
  bigSep_univ_eq_bigSepL ckList (by decide +kernel) (by decide +kernel) Φ

omit [FloatOps F] in
theorem z_eq (c : Dev nD) : zAll (F := F) c = bigSep Finset.univ fun k : CK => semVal (kcell (c, k)) 0 := by
  rw [bigSep_ck]; rfl
omit [FloatOps F] in
theorem z_split (c : Dev nD) : zAll (F := F) c = iprop(unscopedSems0 c ∗ ownZ c) := by
  unfold ownZ
  rw [unscoped_eq, Pipeline.ownSems0_eq_of_list c osem (((List.finRange 12).map Sum.inl) ++ (List.finRange 12).map Sum.inr)
    (by decide +kernel) (by decide +kernel)]; rfl

theorem core_alloc (c : Dev nD) :
    iprop(ownZ c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq ((z_split (F := F) c).symm.trans (z_eq c))) $$ [Hos Hus]
  · isplitl [Hus] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem around {D : Type} [Fintype D] [DecidableEq D] (e : D → Dev nD ≃ Dev nD) (f : Dev nD → D → sProp 𝕄) :
    (bigSep Finset.univ fun c : Dev nD => bigSep Finset.univ fun d : D => f c d)
      = bigSep Finset.univ fun c : Dev nD => bigSep Finset.univ fun d : D => f (e d c) d := by
  rw [bigSep_univ_comm (fun c d => f c d), bigSep_univ_comm (fun c d => f (e d c) d)]
  exact bigSep_congr fun d _ => bigSep_univ_equiv (e d) fun c => f c d

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    around nbE (fun c d => (dutyTok ER (barC c) 0 d : sProp 𝕄)), around peerE (fun c i => (dutyTok ER (recvC c i) 0 0 : sProp 𝕄))]
  exact BI.Entails.refl _

omit [FloatOps F] in
theorem bigSep_dup {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (bigSep_dup (R := recs m K) (Φ := linear) fun c _ => show iprop(recs m K ∗ linear c) ⊢ G' m c from by
    unfold G'; iintro H; iexists K; iexact H)
  isplitr
  · unfold recs; isplitl; · iexact HI
    iexact HR
  · iapply (Entails.of_eq (show iprop((bigSep Finset.univ fun c : Dev nD => bigSep Finset.univ fun k : CK => (atPos ER (kcell (c, k)) 0 ∅ 0 : sProp 𝕄)) ∗ bigSep Finset.univ payToks)
        = bigSep Finset.univ linear from (bigSep_sep' Finset.univ _ _).symm))
    isplitl [Hat]; · iexact Hat
    iexact Htk

theorem glob : (bigSep Finset.univ fun c => iprop(ownZ c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The launch credit -/

/-- What the others owe device `c`'s cells, in the same order. -/
def Tr (c : Dev nD) : ℕ → CellTallies nD τ sig Unit
  | 0 => 0
  | n + 1 => Tr c n + tallyAt (kcell (c, oblK (16 - n))) () (kamt (oblK (16 - n)))

theorem sum_Or (n : ℕ) : (∑ d, Or d n) = ∑ d, Tr d n := by
  induction n with
  | zero => rfl
  | succ n ih =>
    simp only [Or, Tr, Finset.sum_add_distrib, ih]
    exact congrArg _ (Equiv.sum_comp (nbE (oblD (16 - n))) fun d => (tallyAt (kcell (d, oblK (16 - n))) () (kamt (oblK (16 - n))) : CellTallies nD τ sig Unit))

theorem Tr_own (c : Dev nD) (g : GSem nD τ sig) (n : ℕ) (h : Tr c n g ≠ 0) : g.1 = (c.tc : Thread nD τ) := by
  induction n with
  | zero => exact absurd rfl h
  | succ n ih =>
    by_cases h0 : Tr c n g = 0
    · by_contra hne
      refine h ?_
      rw [Tr, Pi.add_apply, h0, tallyAt_ne_cell (fun h' => hne (congrArg Prod.fst h')), add_zero]
    · exact ih h0

theorem Tr_eq (c : Dev nD) : Tr c 17 = 0 + tallyAt (recvC c 11) () (amt 11) + tallyAt (recvC c 10) () (amt 10) + tallyAt (recvC c 9) () (amt 9)
    + tallyAt (recvC c 7) () (amt 7) + tallyAt (recvC c 6) () (amt 6) + tallyAt (recvC c 8) () (amt 8) + tallyAt (recvC c 5) () (amt 5)
    + tallyAt (recvC c 4) () (amt 4) + tallyAt (recvC c 3) () (amt 3) + tallyAt (recvC c 2) () (amt 2) + tallyAt (recvC c 1) () (amt 1)
    + tallyAt (recvC c 0) () (amt 0) + tallyAt (barC c) () 1 + tallyAt (barC c) () 1 + tallyAt (barC c) () 1 + tallyAt (barC c) () 1 + tallyAt (barC c) () 1 := rfl

omit [FloatOps F] in
theorem cred_two (a b : CellTallies nD τ sig Unit) : (cred (a + b) : sProp 𝕄) = iprop(cred a ∗ cred b) := BI.Entails.antisymm (cred_add a b).1 (cred_add a b).2

omit [FloatOps F] in
theorem creds (c : Dev nD) : (Pipeline.launchCred (fun d => Or d 17) c : sProp 𝕄)
    ⊢ iprop(cred (tallyAt (barC c) () 5) ∗ cred (tallyAt (recvC c 0) () (amt 0)) ∗ cred (tallyAt (recvC c 1) () (amt 1)) ∗ cred (tallyAt (recvC c 2) () (amt 2))
      ∗ cred (tallyAt (recvC c 3) () (amt 3)) ∗ cred (tallyAt (recvC c 4) () (amt 4)) ∗ cred (tallyAt (recvC c 5) () (amt 5)) ∗ cred (tallyAt (recvC c 6) () (amt 6))
      ∗ cred (tallyAt (recvC c 7) () (amt 7)) ∗ cred (tallyAt (recvC c 8) () (amt 8)) ∗ cred (tallyAt (recvC c 9) () (amt 9)) ∗ cred (tallyAt (recvC c 10) () (amt 10))
      ∗ cred (tallyAt (recvC c 11) () (amt 11))) := by
  rw [Pipeline.launchCred_of_sum (fun d => Or d 17) (fun d => Tr d 17) (sum_Or 17) (fun d g => Tr_own d g 17) c, Tr_eq,
    show (tallyAt (barC c) () 5 : CellTallies nD τ sig Unit) = tallyAt (barC c) () 1 + tallyAt (barC c) () 1 + tallyAt (barC c) () 1 + tallyAt (barC c) () 1 + tallyAt (barC c) () 1 from by
      rw [tallyAt_add, tallyAt_add, tallyAt_add, tallyAt_add]]
  generalize (tallyAt (barC c) () 1 : CellTallies nD τ sig Unit) = b
  simp only [cred_two]
  iintro ⟨⟨⟨⟨⟨⟨⟨⟨⟨⟨⟨⟨⟨⟨⟨⟨⟨-, H11⟩, H10⟩, H9⟩, H7⟩, H6⟩, H8⟩, H5⟩, H4⟩, H3⟩, H2⟩, H1⟩, H0⟩, B0⟩, B1⟩, B2⟩, B3⟩, B4⟩
  isplitl [B0 B1 B2 B3 B4]
  · isplitr [B4]
    · isplitr [B3]
      · isplitr [B2]
        · isplitl [B0] <;> iassumption
        iexact B2
      iexact B3
    iexact B4
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-! ## The side conditions -/

theorem bigSep_f5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_f12 (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ
theorem at_eq (c : Dev nD) : (bigSep Finset.univ fun k : CK => (atPos ER (kcell (c, k)) 0 ∅ 0 : sProp 𝕄))
    = iprop(atPos ER (barC c) 0 ∅ 0 ∗ atPos ER (sendC c 0) 0 ∅ 0 ∗ atPos ER (sendC c 1) 0 ∅ 0 ∗ atPos ER (sendC c 2) 0 ∅ 0 ∗ atPos ER (sendC c 3) 0 ∅ 0 ∗ atPos ER (sendC c 4) 0 ∅ 0 ∗ atPos ER (sendC c 5) 0 ∅ 0 ∗ atPos ER (sendC c 6) 0 ∅ 0 ∗ atPos ER (sendC c 7) 0 ∅ 0 ∗ atPos ER (sendC c 8) 0 ∅ 0 ∗ atPos ER (sendC c 9) 0 ∅ 0 ∗ atPos ER (sendC c 10) 0 ∅ 0 ∗ atPos ER (sendC c 11) 0 ∅ 0 ∗ atPos ER (recvC c 0) 0 ∅ 0 ∗ atPos ER (recvC c 1) 0 ∅ 0 ∗ atPos ER (recvC c 2) 0 ∅ 0 ∗ atPos ER (recvC c 3) 0 ∅ 0 ∗ atPos ER (recvC c 4) 0 ∅ 0 ∗ atPos ER (recvC c 5) 0 ∅ 0 ∗ atPos ER (recvC c 6) 0 ∅ 0 ∗ atPos ER (recvC c 7) 0 ∅ 0 ∗ atPos ER (recvC c 8) 0 ∅ 0 ∗ atPos ER (recvC c 9) 0 ∅ 0 ∗ atPos ER (recvC c 10) 0 ∅ 0 ∗ atPos ER (recvC c 11) 0 ∅ 0) := by
  rw [bigSep_ck]; rfl

theorem start_intro (c : Dev nD) :
    iprop(Pipeline.unscopedRestP Pipeline.Prefetch.none cfg0.spec c (fun b => m ((c : Thread nD τ).loc b)) ∗ levAts L lv
        ∗ Pipeline.launchCred (fun d => Or d 17) c ∗ prngReg c (ρ c) ∗ G' m c)
      ⊢ |={Set.univ}=> iprop(start m c ∗ emp) := by
  unfold G' linear payToks start barX sAll rAll sTok rTok
  rw [at_eq, bigSep_f5, bigSep_f12, bigSep_f12]
  iintro ⟨-, #Hlev, Hcr, -, ⟨%K, #HR, ⟨AB, AS0, AS1, AS2, AS3, AS4, AS5, AS6, AS7, AS8, AS9, AS10, AS11, AR0, AR1, AR2, AR3, AR4, AR5, AR6, AR7, AR8, AR9, AR10, AR11⟩, ⟨D0, D1, D2, D3, D4⟩, ⟨TS0, TS1, TS2, TS3, TS4, TS5, TS6, TS7, TS8, TS9, TS10, TS11⟩, ⟨TR0, TR1, TR2, TR3, TR4, TR5, TR6, TR7, TR8, TR9, TR10, TR11⟩⟩⟩
  ihave Hc := (creds (F := F) c) $$ Hcr
  icases Hc with ⟨CB, C0, C1, C2, C3, C4, C5, C6, C7, C8, C9, C10, C11⟩
  imodintro
  isplitl
  · iexists K
    isplitr
    · unfold records recs levs; icases HR with ⟨#H1, #H2⟩
      isplitr; · iexact H1
      isplitr; · iexact H2
      iexact Hlev
    isplitl [D0 D1 D2 D3 D4 CB AB]
    · isplitl [D0]; · iexact D0
      isplitl [D1]; · iexact D1
      isplitl [D2]; · iexact D2
      isplitl [D3]; · iexact D3
      isplitl [D4]; · iexact D4
      isplitl [CB] <;> iassumption
    isplitl [TS0 TR0 AS0 TS1 TR1 AS1 TS2 TR2 AS2 TS3 TR3 AS3 TS4 TR4 AS4 TS5 TR5 AS5 TS6 TR6 AS6 TS7 TR7 AS7 TS8 TR8 AS8 TS9 TR9 AS9 TS10 TR10 AS10 TS11 TR11 AS11]
    · isplitl [TS0 TR0 AS0]
      · isplitl [TS0]; · iexact TS0
        isplitl [TR0] <;> iassumption
      isplitl [TS1 TR1 AS1]
      · isplitl [TS1]; · iexact TS1
        isplitl [TR1] <;> iassumption
      isplitl [TS2 TR2 AS2]
      · isplitl [TS2]; · iexact TS2
        isplitl [TR2] <;> iassumption
      isplitl [TS3 TR3 AS3]
      · isplitl [TS3]; · iexact TS3
        isplitl [TR3] <;> iassumption
      isplitl [TS4 TR4 AS4]
      · isplitl [TS4]; · iexact TS4
        isplitl [TR4] <;> iassumption
      isplitl [TS5 TR5 AS5]
      · isplitl [TS5]; · iexact TS5
        isplitl [TR5] <;> iassumption
      isplitl [TS6 TR6 AS6]
      · isplitl [TS6]; · iexact TS6
        isplitl [TR6] <;> iassumption
      isplitl [TS7 TR7 AS7]
      · isplitl [TS7]; · iexact TS7
        isplitl [TR7] <;> iassumption
      isplitl [TS8 TR8 AS8]
      · isplitl [TS8]; · iexact TS8
        isplitl [TR8] <;> iassumption
      isplitl [TS9 TR9 AS9]
      · isplitl [TS9]; · iexact TS9
        isplitl [TR9] <;> iassumption
      isplitl [TS10 TR10 AS10]
      · isplitl [TS10]; · iexact TS10
        isplitl [TR10] <;> iassumption
      isplitl [TS11]; · iexact TS11
      isplitl [TR11] <;> iassumption
    isplitl [C0 AR0]
    · isplitl [C0] <;> iassumption
    isplitl [C1 AR1]
    · isplitl [C1] <;> iassumption
    isplitl [C2 AR2]
    · isplitl [C2] <;> iassumption
    isplitl [C3 AR3]
    · isplitl [C3] <;> iassumption
    isplitl [C4 AR4]
    · isplitl [C4] <;> iassumption
    isplitl [C5 AR5]
    · isplitl [C5] <;> iassumption
    isplitl [C6 AR6]
    · isplitl [C6] <;> iassumption
    isplitl [C7 AR7]
    · isplitl [C7] <;> iassumption
    isplitl [C8 AR8]
    · isplitl [C8] <;> iassumption
    isplitl [C9 AR9]
    · isplitl [C9] <;> iassumption
    isplitl [C10 AR10]
    · isplitl [C10] <;> iassumption
    isplitl [C11] <;> iassumption
  · iempintro

theorem phiA_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = phiA m c from rfl, scopedRest0_eq]
  unfold phiA
  iintro ⟨Hs, -, H⟩
  isplitl [Hs]; · iexact Hs
  iexact H

theorem phiB_exit (c : Dev nD) :
    (dats m ρ 0 c).Φ (Fin.last cfg0.N) ⊢ iprop(unscopedSems0 c ∗ ownZ c ∗ Pipeline.scopedRest cfg0.spec c) := by
  rw [show (dats m ρ 0 c).Φ (Fin.last cfg0.N) = phiB m c from rfl, scopedRest0_eq]
  unfold phiB
  rw [z_split]
  iintro ⟨⟨HB, HO⟩, H4, H5⟩
  isplitl [HB]; · iexact HB
  isplitl [HO]; · iexact HO
  isplitl [H4]
  · iexists (kvF m c); iexact H4
  iexists (plF m c); iexact H5

theorem waits (c : Dev nD) : (levAts L lv : sProp 𝕄) ⊢ Pipeline.cellsWaits cfgs (dats m ρ) () 0 c :=
  Pipeline.cellsWaits_intro cfgs (dats m ρ) () 0 c fun w s t => by
    have hz : ∀ (w : Fin 4) (s : Fin (spec0 w).nbuf) (d : Dev nD), lv ((d : Thread nD τ), .dma ((spec0 w).sem s)) () = 0 := by decide +kernel
    rcases t with ⟨_ | _, ht⟩
    · exact mayWait_of c _ 0 17 (le_refl _) (hz w s c) (by decide)
    · exact mayWait_of c _ 0 0 (by omega) (hz w s c) (by decide)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of thirty-two devices, over any float values, from any memory with every counter at zero: the whole
    program ends, every device's arrays are at the computed contents and every counter is at zero again. -/
theorem run_all : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ Variants.none m ρ main
    (hmain := fun _ => rfl)
    (hbody := body_obl m ρ) (hne := fun w => by fin_cases w <;> exact Nat.succ_pos _) (harr := arr_whole0) (hstage := stage_whole0) (hshare := share_full m ρ)
    (hdistinct := winFacts0.arr_inj)
    (O₀ := fun c => Or c 17) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phiA_intro m ρ) (hout := phiB_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_0 (c : Dev nD) : finalA m ρ c (0 : Fin 4) = m ((c : Thread nD τ).loc main_arg0) := (dats (F := F) m ρ 0 c).arrAt_in (0 : Fin 4) rfl _
theorem finalA_1 (c : Dev nD) : finalA m ρ c (1 : Fin 4) = m ((c : Thread nD τ).loc main_arg1) := (dats (F := F) m ρ 0 c).arrAt_in (1 : Fin 4) rfl _
theorem finalA_2 (c : Dev nD) : finalA m ρ c (2 : Fin 4) = m ((c : Thread nD τ).loc main_arg2) := (dats (F := F) m ρ 0 c).arrAt_in (2 : Fin 4) rfl _

/-- The same with the arrays named. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_v1) = finalA m ρ c (3 : Fin 4)) ∧ r.2.sem = fun _ => 0) :=
  (θ_run defs _ _).mono (fun r h => ⟨fun c => ⟨(h.1 c (0 : Fin 4)).trans (finalA_0 m ρ c), (h.1 c (1 : Fin 4)).trans (finalA_1 m ρ c),
    (h.1 c (2 : Fin 4)).trans (finalA_2 m ρ c), h.1 c (3 : Fin 4)⟩, h.2⟩) (run_all m ρ)

end Cert.Exchange

end
-- ==== Proof.Value1.lean ====
/-
# The kernel's arithmetic read index by index
-/
module

public import proofs.«01_k».proof.Proof.Launch
public import Idealize.ShloMosaic.Lib.Pointwise

@[expose] public section

set_option maxRecDepth 16384

noncomputable section

namespace Cert.Reading

open Cert.KernelIdeal Cert.KernelIdeal.Gen
open Cert.Exchange hiding ix4 ix5
open Idealize.ShloMosaic Idealize.ShloMosaic.TcCoe

variable (m : (ℓ : Loc nD τ sig) → Buf (Elt Ideal) ℓ)

/-- The index spelled by its coordinates, in either spelling. -/
theorem ix5_eq {n0 n1 n2 n3 n4 : ℕ} (a : Fin n0) (b : Fin n1) (c : Fin n2) (d : Fin n3) (e : Fin n4) :
    Cert.Exchange.ix5 a b c d e = ix5 a b c d e := eq_ix5 _
theorem ix4_eq {n0 n1 n2 n3 : ℕ} (a : Fin n0) (b : Fin n1) (c : Fin n2) (d : Fin n3) :
    Cert.Exchange.ix4 a b c d = ix4 a b c d := eq_ix4 _

/-- The head of device `c`. -/
def hd (c : Dev nD) : Fin 8 := ⟨4 * cx c + cy c, by revert c; decide +kernel⟩

/-- The first row of the flattened head axis that belongs to the device's head, as a word. -/
theorem head_word (c : Dev nD) :
    Scalar.muli (Scalar.addi (Scalar.muli (Scalar.remsi (Scalar.divsi (Dev.word c) 16#32) 2#32) 4#32)
      (Scalar.remsi (Scalar.divsi (Dev.word c) 4#32) 4#32)) 64#32 = BitVec.ofNat 32 (64 * (hd c).val) := by
  revert c; decide +kernel

/-- The selection matrix has a one where the flattened row is the column's in the device's head. -/
theorem sel_apply (c : Dev nD) (k : Fin 512) (d : Fin 64) :
    (v29 (F := Ideal) c (ix2 k d) : EReal) = if k.val = 64 * (hd c).val + d.val then 1 else 0 := by
  unfold v29 k0_pay1
  simp only [head_word]
  pointwise
  have hb : BitVec.ofNat 32 (64 * (hd c).val) + BitVec.ofNat 32 d.val = BitVec.ofNat 32 (64 * (hd c).val + d.val) := by
    rw [BitVec.ofNat_add]
  have hk := k.isLt
  have hh := (hd c).isLt
  have hdl := d.isLt
  have hiff : BitVec.ofNat 32 k.val = BitVec.ofNat 32 (64 * (hd c).val + d.val) ↔ k.val = 64 * (hd c).val + d.val := by
    constructor
    · intro h
      have := congrArg BitVec.toNat h
      simp only [BitVec.toNat_ofNat] at this
      omega
    · intro h; rw [h]
  show (((BitVec.setWidth 32 (IntOp.cmpi CmpIPredicate.eq (BitVec.ofNat 32 k.val)
    (BitVec.ofNat 32 (64 * (hd c).val) + BitVec.ofNat 32 d.val))).toInt : ℝ) : EReal) = _
  rw [hb]
  by_cases h : k.val = 64 * (hd c).val + d.val
  · rw [if_pos h, hiff.2 h]
    simp [IntOp.cmpi]
  · rw [if_neg h]
    have h' := fun e => h (hiff.1 e)
    have h'' : (BitVec.ofNat 32 k.val == BitVec.ofNat 32 (64 * (hd c).val + d.val)) = false := beq_eq_false_iff_ne.2 h'
    simp [IntOp.cmpi, h'']

/-- A row of the flattened heads against a column of the selection matrix is the entry of the device's head. -/
theorem sel_sum (c : Dev nD) (d : Fin 64) (x : Fin 8 → Fin 64 → EReal) :
    (∑ k : Fin 512, x ⟨k.val / 64, by omega⟩ ⟨k.val % 64, by omega⟩ * (v29 (F := Ideal) c (ix2 k d) : EReal))
      = x (hd c) d := by
  have hh := (hd c).isLt
  have hdl := d.isLt
  rw [Finset.sum_eq_single (⟨64 * (hd c).val + d.val, by omega⟩ : Fin 512)]
  · rw [sel_apply, if_pos rfl, mul_one]
    congr 1 <;> apply Fin.ext <;> simp <;> omega
  · intro k _ hk
    rw [sel_apply, if_neg (fun e => hk (Fin.ext e)), mul_zero]
  · intro h; exact absurd (Finset.mem_univ _) h

/-- The blocks of device `c`, as extended reals. -/
def Qd (c : Dev nD) (b : Fin 2) (r : Fin 256) (h : Fin 8) (d : Fin 64) : EReal := qB m c (ix4 b r h d)
def Kd (c : Dev nD) (b : Fin 2) (r : Fin 256) (h : Fin 8) (d : Fin 64) : EReal := kB m c (ix4 b r h d)
def Vd (c : Dev nD) (b : Fin 2) (r : Fin 256) (h : Fin 8) (d : Fin 64) : EReal := vB m c (ix4 b r h d)

theorem fin2 (b : Fin 2) : b = 0 ∨ b = 1 := by revert b; decide

theorem v42_apply (c : Dev nD) (b : Fin 2) (r : Fin 256) (d : Fin 64) :
    (v42 m c (ix3 b r d) : EReal) = Kd m c b r (hd c) d := by
  unfold v42 v32 v34
  pointwise [k0_pay4, k0_pay3, k0_pay2]
  rcases fin2 b with rfl | rfl
  · rw [dif_pos (by decide)]
    exact sel_sum c d (fun h e => Kd m c 0 r h e)
  · rw [dif_neg (by decide)]
    exact sel_sum c d (fun h e => Kd m c 1 r h e)

theorem v55_apply (c : Dev nD) (b : Fin 2) (r : Fin 256) (d : Fin 64) :
    (v55 m c (ix3 b r d) : EReal) = Vd m c b r (hd c) d := by
  unfold v55
  pointwise [k0_pay5]
  rcases fin2 b with rfl | rfl
  · rw [dif_pos (by decide)]
    exact sel_sum c d (fun h e => Vd m c 0 r h e)
  · rw [dif_neg (by decide)]
    exact sel_sum c d (fun h e => Vd m c 1 r h e)

/-- The kernel's scale, the eighth. -/
def eighth : EReal := Ideal.ofBits .f32 0x3E000000#32

theorem v135_apply (c : Dev nD) (b : Fin 2) (r : Fin 256) (d : Fin 64) :
    (v135 m c (ix3 b r d) : EReal) = Qd m c b r (hd c) d * eighth := by
  unfold v135 v123 v124
  pointwise [k0_pay10, k0_pay9, k0_pay8]
  rcases fin2 b with rfl | rfl
  · rw [dif_pos (by decide)]
    exact congrArg (· * eighth) (sel_sum c d (fun h e => Qd m c 0 r h e))
  · rw [dif_neg (by decide)]
    exact congrArg (· * eighth) (sel_sum c d (fun h e => Qd m c 1 r h e))

/-! ## The scores and their exponentials -/

/-- The weight of key `j` of block `k` along the ring for row `r`. -/
def Ew (c : Dev nD) (k : ℕ) (b : Fin 2) (r : Fin 256) (j : Fin 256) : EReal :=
  Ideal.exp (∑ d : Fin 64, (Qd m c b r (hd c) d * eighth) * Kd m (zadd c k) b j (hd (zadd c k)) d)

/-- The selected value of that key. -/
def Vw (c : Dev nD) (k : ℕ) (b : Fin 2) (j : Fin 256) (d : Fin 64) : EReal := Vd m (zadd c k) b j (hd (zadd c k)) d

theorem zadd_zero (c : Dev nD) : zadd c 0 = c := by revert c; decide +kernel

/-- The exchange buffer once full: keys and values of each slot. -/
theorem kvF_key (c : Dev nD) (k : Fin 4) (b : Fin 2) (r : Fin 256) (d : Fin 64) :
    (kvF m c (ix5 k 0 b r d) : EReal) = Kd m (zadd c k.val) b r (hd (zadd c k.val)) d := by
  show (if (0 : ℕ) = 0 then v58 m (zadd c k.val) _ else _) = _
  rw [if_pos rfl]
  unfold v58
  pointwise [k0_pay6]
  exact v42_apply m (zadd c k.val) b r d

theorem kvF_val (c : Dev nD) (k : Fin 4) (b : Fin 2) (r : Fin 256) (d : Fin 64) :
    (kvF m c (ix5 k 1 b r d) : EReal) = Vd m (zadd c k.val) b r (hd (zadd c k.val)) d := by
  show (if (1 : ℕ) = 0 then _ else v61 m (zadd c k.val) _) = _
  rw [if_neg (by decide)]
  unfold v61
  pointwise [k0_pay7]
  exact v55_apply m (zadd c k.val) b r d

/-- What a load of the exchange buffer reads, element by element. -/
theorem kvLd_apply (c : Dev nD) (off size : Fin 5 → ℕ) (h : ∀ a, off a + size a ≤ S4x2x2x256x64.size a)
    (i : (⟨5, size⟩ : Shape).Idx) (j : S4x2x2x256x64.Idx) (hj : ∀ a, (j a).val = off a + (i a).val) :
    kvLd m c off size h i = kvF m c j := by
  show kvF m c _ = kvF m c j
  congr 1
  funext a
  apply Fin.ext
  rw [hj a]
  show off a + 1 * (i a).val = _
  omega

theorem key_load (c : Dev nD) (k : Fin 4) (b : Fin 2)
    (h : ∀ a, (![k.val, 0, b.val, 0, 0] : Fin 5 → ℕ) a + S1x1x1x256x64.size a ≤ S4x2x2x256x64.size a) (r : Fin 256) (d : Fin 64) :
    (kvLd m c ![k.val, 0, b.val, 0, 0] S1x1x1x256x64.size h (ix5 0 0 0 r d) : EReal)
      = Kd m (zadd c k.val) b r (hd (zadd c k.val)) d := by
  rw [← kvF_key]
  exact kvLd_apply m c _ _ h _ _ (fun a => by
    match a with
    | 0 => rfl
    | 1 => rfl
    | 2 => rfl
    | 3 => exact (Nat.zero_add _).symm
    | 4 => exact (Nat.zero_add _).symm)

theorem val_load (c : Dev nD) (k : Fin 4) (b : Fin 2)
    (h : ∀ a, (![k.val, 1, b.val, 0, 0] : Fin 5 → ℕ) a + S1x1x1x256x64.size a ≤ S4x2x2x256x64.size a) (r : Fin 256) (d : Fin 64) :
    (kvLd m c ![k.val, 1, b.val, 0, 0] S1x1x1x256x64.size h (ix5 0 0 0 r d) : EReal) = Vw m c k.val b r d := by
  rw [Vw, ← kvF_val]
  exact kvLd_apply m c _ _ h _ _ (fun a => by
    match a with
    | 0 => rfl
    | 1 => rfl
    | 2 => rfl
    | 3 => exact (Nat.zero_add _).symm
    | 4 => exact (Nat.zero_add _).symm)

theorem key_load_half (c : Dev nD) (k : Fin 4) (b : Fin 2) (o : ℕ) (ho : o ≤ 128)
    (h : ∀ a, (![k.val, 0, b.val, o, 0] : Fin 5 → ℕ) a + S1x1x1x128x64.size a ≤ S4x2x2x256x64.size a) (r : Fin 128) (d : Fin 64) :
    (kvLd m c ![k.val, 0, b.val, o, 0] S1x1x1x128x64.size h (ix5 0 0 0 r d) : EReal)
      = Kd m (zadd c k.val) b ⟨o + r.val, by omega⟩ (hd (zadd c k.val)) d := by
  rw [← kvF_key]
  exact kvLd_apply m c _ _ h _ _ (fun a => by
    match a with
    | 0 => rfl
    | 1 => rfl
    | 2 => rfl
    | 3 => rfl
    | 4 => exact (Nat.zero_add _).symm)

theorem val_load_half (c : Dev nD) (k : Fin 4) (b : Fin 2) (o : ℕ) (ho : o ≤ 128)
    (h : ∀ a, (![k.val, 1, b.val, o, 0] : Fin 5 → ℕ) a + S1x1x1x128x64.size a ≤ S4x2x2x256x64.size a) (r : Fin 128) (d : Fin 64) :
    (kvLd m c ![k.val, 1, b.val, o, 0] S1x1x1x128x64.size h (ix5 0 0 0 r d) : EReal)
      = Vw m c k.val b ⟨o + r.val, by omega⟩ d := by
  rw [Vw, ← kvF_val]
  exact kvLd_apply m c _ _ h _ _ (fun a => by
    match a with
    | 0 => rfl
    | 1 => rfl
    | 2 => rfl
    | 3 => rfl
    | 4 => exact (Nat.zero_add _).symm)

theorem key_load_low (c : Dev nD) (k : Fin 4) (b : Fin 2)
    (h : ∀ a, (![k.val, 0, b.val, 0, 0] : Fin 5 → ℕ) a + S1x1x1x128x64.size a ≤ S4x2x2x256x64.size a) (r : Fin 128) (d : Fin 64) :
    (kvLd m c ![k.val, 0, b.val, 0, 0] S1x1x1x128x64.size h (ix5 0 0 0 r d) : EReal)
      = Kd m (zadd c k.val) b ⟨r.val, by omega⟩ (hd (zadd c k.val)) d := by
  rw [key_load_half m c k b 0 (by decide) h r d]
  exact congrArg (fun i => Kd m (zadd c k.val) b i (hd (zadd c k.val)) d) (Fin.ext (Nat.zero_add _))

theorem val_load_low (c : Dev nD) (k : Fin 4) (b : Fin 2)
    (h : ∀ a, (![k.val, 1, b.val, 0, 0] : Fin 5 → ℕ) a + S1x1x1x128x64.size a ≤ S4x2x2x256x64.size a) (r : Fin 128) (d : Fin 64) :
    (kvLd m c ![k.val, 1, b.val, 0, 0] S1x1x1x128x64.size h (ix5 0 0 0 r d) : EReal)
      = Vw m c k.val b ⟨r.val, by omega⟩ d := by
  rw [val_load_half m c k b 0 (by decide) h r d]
  exact congrArg (fun i => Vw m c k.val b i d) (Fin.ext (Nat.zero_add _))

/-- The weight, spelled with the queries and the keys as the kernel holds them. -/
theorem weight_of (c : Dev nD) (k : ℕ) (b : Fin 2) (r j : Fin 256) (x y : Fin 64 → EReal)
    (hx : ∀ d, x d = Qd m c b r (hd c) d * eighth) (hy : ∀ d, y d = Kd m (zadd c k) b j (hd (zadd c k)) d) :
    Ideal.exp (∑ d : Fin 64, x d * y d) = Ew m c k b r j :=
  congrArg Ideal.exp (Finset.sum_congr rfl fun d _ => by rw [hx, hy])

/-- The keys and values the first chunk reads are the device's own. -/
theorem own_key (c : Dev nD) (b : Fin 2) (r : Fin 256) (d : Fin 64) :
    (v42 m c (ix3 b r d) : EReal) = Kd m (zadd c 0) b r (hd (zadd c 0)) d := by rw [v42_apply, zadd_zero]
theorem own_val (c : Dev nD) (b : Fin 2) (r : Fin 256) (d : Fin 64) :
    (v55 m c (ix3 b r d) : EReal) = Vw m c 0 b r d := by rw [v55_apply, Vw, zadd_zero]

/-! ## The chunks, in the order the kernel takes them -/

theorem v145_apply (c : Dev nD) (r : Fin 256) (d : Fin 64) :
    (v145 m c (ix2 r d) : EReal) = ∑ j : Fin 256, Ew m c 0 0 r j * Vw m c 0 0 j d := by
  unfold v145
  pointwise [k0_pay12, k0_pay11]
  exact Finset.sum_congr rfl fun j _ => congrArg₂ (· * ·)
    (weight_of m c 0 0 r j _ _ (fun e => v135_apply m c 0 r e) (fun e => own_key m c 0 j e)) (own_val m c 0 j d)

theorem v147_apply (c : Dev nD) (r : Fin 256) :
    (v147 m c (ix2 r 0) : EReal) = ∑ j : Fin 256, Ew m c 0 0 r j := by
  unfold v147
  pointwise [k0_pay13, k0_pay11]
  exact Finset.sum_congr rfl fun j _ =>
    weight_of m c 0 0 r j _ _ (fun e => v135_apply m c 0 r e) (fun e => own_key m c 0 j e)

theorem v157_apply (c : Dev nD) (r : Fin 256) (d : Fin 64) :
    (v157 m c (ix2 r d) : EReal) = ∑ j : Fin 256, Ew m c 0 1 r j * Vw m c 0 1 j d := by
  unfold v157
  pointwise [k0_pay15, k0_pay14]
  exact Finset.sum_congr rfl fun j _ => congrArg₂ (· * ·)
    (weight_of m c 0 1 r j _ _ (fun e => v135_apply m c 1 r e) (fun e => own_key m c 1 j e)) (own_val m c 1 j d)

theorem v159_apply (c : Dev nD) (r : Fin 256) :
    (v159 m c (ix2 r 0) : EReal) = ∑ j : Fin 256, Ew m c 0 1 r j := by
  unfold v159
  pointwise [k0_pay16, k0_pay14]
  exact Finset.sum_congr rfl fun j _ =>
    weight_of m c 0 1 r j _ _ (fun e => v135_apply m c 1 r e) (fun e => own_key m c 1 j e)

theorem v224_apply (c : Dev nD) (r : Fin 256) (d : Fin 64) :
    (v224 m c (ix2 r d) : EReal) = (v145 m c (ix2 r d) : EReal) + ∑ j : Fin 256, Ew m c 3 0 r j * Vw m c 3 0 j d := by
  unfold v224 v213 v215 v217 v212 v214
  pointwise [k0_pay21, k0_pay20, k0_pay17, k0_pay18, k0_pay19]
  exact congrArg₂ (· + ·) rfl (Finset.sum_congr rfl fun j _ => congrArg₂ (· * ·)
    (weight_of m c 3 0 r j _ _ (fun e => v135_apply m c 0 r e) (fun e => key_load m c 3 0 _ j e)) (val_load m c 3 0 _ j d))

theorem v225_apply (c : Dev nD) (r : Fin 256) :
    (v225 m c (ix2 r 0) : EReal) = (v147 m c (ix2 r 0) : EReal) + ∑ j : Fin 256, Ew m c 3 0 r j := by
  unfold v225 v213 v217 v212
  pointwise [k0_pay22, k0_pay20, k0_pay17, k0_pay19]
  exact congrArg₂ (· + ·) rfl (Finset.sum_congr rfl fun j _ =>
    weight_of m c 3 0 r j _ _ (fun e => v135_apply m c 0 r e) (fun e => key_load m c 3 0 _ j e))

theorem v238_apply (c : Dev nD) (r : Fin 256) (d : Fin 64) :
    (v238 m c (ix2 r d) : EReal) = (v157 m c (ix2 r d) : EReal) + ∑ j : Fin 256, Ew m c 3 1 r j * Vw m c 3 1 j d := by
  unfold v238 v226 v228
  pointwise [k0_pay24, k0_pay23]
  exact congrArg₂ (· + ·) rfl (Finset.sum_congr rfl fun j _ => congrArg₂ (· * ·)
    (weight_of m c 3 1 r j _ _ (fun e => v135_apply m c 1 r e) (fun e => key_load m c 3 1 _ j e)) (val_load m c 3 1 _ j d))

theorem v239_apply (c : Dev nD) (r : Fin 256) :
    (v239 m c (ix2 r 0) : EReal) = (v159 m c (ix2 r 0) : EReal) + ∑ j : Fin 256, Ew m c 3 1 r j := by
  unfold v239 v226
  pointwise [k0_pay25, k0_pay23]
  exact congrArg₂ (· + ·) rfl (Finset.sum_congr rfl fun j _ =>
    weight_of m c 3 1 r j _ _ (fun e => v135_apply m c 1 r e) (fun e => key_load m c 3 1 _ j e))

theorem v252_apply (c : Dev nD) (r : Fin 256) (d : Fin 64) :
    (v252 m c (ix2 r d) : EReal) = (v224 m c (ix2 r d) : EReal) + ∑ j : Fin 256, Ew m c 1 0 r j * Vw m c 1 0 j d := by
  unfold v252 v249 v240 v242
  pointwise [k0_pay28, k0_pay27, k0_pay26]
  exact congrArg₂ (· + ·) rfl (Finset.sum_congr rfl fun j _ => congrArg₂ (· * ·)
    (weight_of m c 1 0 r j _ _ (fun e => v135_apply m c 0 r e) (fun e => key_load m c 1 0 _ j e)) (val_load m c 1 0 _ j d))

theorem v253_apply (c : Dev nD) (r : Fin 256) :
    (v253 m c (ix2 r 0) : EReal) = (v225 m c (ix2 r 0) : EReal) + ∑ j : Fin 256, Ew m c 1 0 r j := by
  unfold v253 v247 v240
  pointwise [k0_pay29, k0_pay26]
  exact congrArg₂ (· + ·) rfl (Finset.sum_congr rfl fun j _ =>
    weight_of m c 1 0 r j _ _ (fun e => v135_apply m c 0 r e) (fun e => key_load m c 1 0 _ j e))

theorem v266_apply (c : Dev nD) (r : Fin 256) (d : Fin 64) :
    (v266 m c (ix2 r d) : EReal) = (v238 m c (ix2 r d) : EReal) + ∑ j : Fin 256, Ew m c 1 1 r j * Vw m c 1 1 j d := by
  unfold v266 v254 v256
  pointwise [k0_pay31, k0_pay30]
  exact congrArg₂ (· + ·) rfl (Finset.sum_congr rfl fun j _ => congrArg₂ (· * ·)
    (weight_of m c 1 1 r j _ _ (fun e => v135_apply m c 1 r e) (fun e => key_load m c 1 1 _ j e)) (val_load m c 1 1 _ j d))

theorem v267_apply (c : Dev nD) (r : Fin 256) :
    (v267 m c (ix2 r 0) : EReal) = (v239 m c (ix2 r 0) : EReal) + ∑ j : Fin 256, Ew m c 1 1 r j := by
  unfold v267 v254
  pointwise [k0_pay32, k0_pay30]
  exact congrArg₂ (· + ·) rfl (Finset.sum_congr rfl fun j _ =>
    weight_of m c 1 1 r j _ _ (fun e => v135_apply m c 1 r e) (fun e => key_load m c 1 1 _ j e))

theorem v292_apply (c : Dev nD) (r : Fin 256) (d : Fin 64) :
    (v292 m c (ix2 r d) : EReal) = (v252 m c (ix2 r d) : EReal)
      + ∑ j : Fin 128, Ew m c 2 0 r ⟨j.val, by omega⟩ * Vw m c 2 0 ⟨j.val, by omega⟩ d := by
  unfold v292 v280 v282
  pointwise [k0_pay34, k0_pay33]
  exact congrArg₂ (· + ·) rfl (Finset.sum_congr rfl fun j _ => congrArg₂ (· * ·)
    (weight_of m c 2 0 r ⟨j.val, by omega⟩ _ _ (fun e => v135_apply m c 0 r e) (fun e => key_load_low m c 2 0 _ j e)) (val_load_low m c 2 0 _ j d))

theorem v293_apply (c : Dev nD) (r : Fin 256) :
    (v293 m c (ix2 r 0) : EReal) = (v253 m c (ix2 r 0) : EReal) + ∑ j : Fin 128, Ew m c 2 0 r ⟨j.val, by omega⟩ := by
  unfold v293 v280
  pointwise [k0_pay35, k0_pay33]
  exact congrArg₂ (· + ·) rfl (Finset.sum_congr rfl fun j _ =>
    weight_of m c 2 0 r ⟨j.val, by omega⟩ _ _ (fun e => v135_apply m c 0 r e) (fun e => key_load_low m c 2 0 _ j e))

theorem v306_apply (c : Dev nD) (r : Fin 256) (d : Fin 64) :
    (v306 m c (ix2 r d) : EReal) = (v266 m c (ix2 r d) : EReal)
      + ∑ j : Fin 128, Ew m c 2 1 r ⟨j.val, by omega⟩ * Vw m c 2 1 ⟨j.val, by omega⟩ d := by
  unfold v306 v294 v296
  pointwise [k0_pay37, k0_pay36]
  exact congrArg₂ (· + ·) rfl (Finset.sum_congr rfl fun j _ => congrArg₂ (· * ·)
    (weight_of m c 2 1 r ⟨j.val, by omega⟩ _ _ (fun e => v135_apply m c 1 r e) (fun e => key_load_low m c 2 1 _ j e)) (val_load_low m c 2 1 _ j d))

theorem v307_apply (c : Dev nD) (r : Fin 256) :
    (v307 m c (ix2 r 0) : EReal) = (v267 m c (ix2 r 0) : EReal) + ∑ j : Fin 128, Ew m c 2 1 r ⟨j.val, by omega⟩ := by
  unfold v307 v294
  pointwise [k0_pay38, k0_pay36]
  exact congrArg₂ (· + ·) rfl (Finset.sum_congr rfl fun j _ =>
    weight_of m c 2 1 r ⟨j.val, by omega⟩ _ _ (fun e => v135_apply m c 1 r e) (fun e => key_load_low m c 2 1 _ j e))

theorem v332_apply (c : Dev nD) (r : Fin 256) (d : Fin 64) :
    (v332 m c (ix2 r d) : EReal) = (v292 m c (ix2 r d) : EReal)
      + ∑ j : Fin 128, Ew m c 2 0 r ⟨128 + j.val, by omega⟩ * Vw m c 2 0 ⟨128 + j.val, by omega⟩ d := by
  unfold v332 v320 v322
  pointwise [k0_pay40, k0_pay39]
  exact congrArg₂ (· + ·) rfl (Finset.sum_congr rfl fun j _ => congrArg₂ (· * ·)
    (weight_of m c 2 0 r ⟨128 + j.val, by omega⟩ _ _ (fun e => v135_apply m c 0 r e) (fun e => key_load_half m c 2 0 128 (by decide) _ j e)) (val_load_half m c 2 0 128 (by decide) _ j d))

theorem v333_apply (c : Dev nD) (r : Fin 256) :
    (v333 m c (ix2 r 0) : EReal) = (v293 m c (ix2 r 0) : EReal) + ∑ j : Fin 128, Ew m c 2 0 r ⟨128 + j.val, by omega⟩ := by
  unfold v333 v320
  pointwise [k0_pay41, k0_pay39]
  exact congrArg₂ (· + ·) rfl (Finset.sum_congr rfl fun j _ =>
    weight_of m c 2 0 r ⟨128 + j.val, by omega⟩ _ _ (fun e => v135_apply m c 0 r e) (fun e => key_load_half m c 2 0 128 (by decide) _ j e))

/-- The result of a row before the division and the sum it is divided by. -/
def num (c : Dev nD) (b : Fin 2) (r : Fin 256) (d : Fin 64) : EReal :=
  (((∑ j : Fin 256, Ew m c 0 b r j * Vw m c 0 b j d) + ∑ j : Fin 256, Ew m c 3 b r j * Vw m c 3 b j d)
    + ∑ j : Fin 256, Ew m c 1 b r j * Vw m c 1 b j d) + ∑ j : Fin 256, Ew m c 2 b r j * Vw m c 2 b j d
def den (c : Dev nD) (b : Fin 2) (r : Fin 256) : EReal :=
  (((∑ j : Fin 256, Ew m c 0 b r j) + ∑ j : Fin 256, Ew m c 3 b r j) + ∑ j : Fin 256, Ew m c 1 b r j)
    + ∑ j : Fin 256, Ew m c 2 b r j

/-- A sum over the keys of one block is the sum over its two halves. -/
theorem sum_halves (f : Fin 256 → EReal) :
    ∑ j : Fin 256, f j = (∑ j : Fin 128, f ⟨j.val, by omega⟩) + ∑ j : Fin 128, f ⟨128 + j.val, by omega⟩ := by
  rw [show (∑ j : Fin 256, f j) = ∑ j : Fin (128 + 128), f j from rfl, Fin.sum_univ_add]
  refine congrArg₂ (· + ·) (Finset.sum_congr rfl fun j _ => congrArg f (Fin.ext ?_)) (Finset.sum_congr rfl fun j _ => congrArg f (Fin.ext ?_))
  · simp
  · simp [Nat.add_comm]

theorem v356_apply (c : Dev nD) (b : Fin 2) (r : Fin 256) (d : Fin 64) :
    (v356 m c (ix3 b r d) : EReal) = Ideal.div (num m c b r d) (den m c b r) := by
  unfold v356 v335 v334 v336
  pointwise [k0_pay43, k0_pay42]
  rcases fin2 b with rfl | rfl
  · rw [dif_pos (by decide)]
    refine congrArg₂ Ideal.div ?_ ?_
    · refine (v332_apply m c r d).trans ?_
      rw [num, sum_halves (fun j => Ew m c 2 0 r j * Vw m c 2 0 j d), v292_apply, v252_apply, v224_apply, v145_apply, add_assoc]
    · refine (v333_apply m c r).trans ?_
      rw [den, sum_halves (fun j => Ew m c 2 0 r j), v293_apply, v253_apply, v225_apply, v147_apply, add_assoc]
  · rw [dif_neg (by decide)]
    refine congrArg₂ Ideal.div ?_ ?_
    · rw [num, sum_halves (fun j => Ew m c 2 1 r j * Vw m c 2 1 j d), ← add_assoc, ← v157_apply, ← v238_apply, ← v266_apply, ← v306_apply]
      exact congrArg₂ (· + ·) rfl (Finset.sum_congr rfl fun j _ => congrArg₂ (· * ·)
        (weight_of m c 2 1 r ⟨128 + j.val, by omega⟩ _ _ (fun e => v135_apply m c 1 r e)
          (fun e => key_load_half m c 2 1 128 (by decide) _ j e)) (val_load_half m c 2 1 128 (by decide) _ j d))
    · rw [den, sum_halves (fun j => Ew m c 2 1 r j), ← add_assoc, ← v159_apply, ← v239_apply, ← v267_apply, ← v307_apply]
      exact congrArg₂ (· + ·) rfl (Finset.sum_congr rfl fun j _ =>
        weight_of m c 2 1 r ⟨128 + j.val, by omega⟩ _ _ (fun e => v135_apply m c 1 r e)
          (fun e => key_load_half m c 2 1 128 (by decide) _ j e))

/-! ## The result plane and the output block -/

theorem myO_apply (c : Dev nD) (b : Fin 2) (r : Fin 256) (d : Fin 64) :
    (myO m c (Cert.Exchange.ix5 0 0 b r d) : EReal) = v356 m c (ix3 b r d) := by
  rw [ix5_eq]
  unfold myO
  pointwise [k0_pay47]

/-- What a load of the result plane reads. -/
theorem plLd_apply (c : Dev nD) (x : Fin 2) (y : Fin 4)
    (h : ∀ a, (![x.val, y.val, 0, 0, 0] : Fin 5 → ℕ) a + S1x1x2x256x64.size a ≤ S2x4x2x256x64.size a)
    (b : Fin 2) (r : Fin 256) (d : Fin 64) :
    (plLd m c ![x.val, y.val, 0, 0, 0] h (ix5 0 0 b r d) : EReal) = v356 m (dv x.val y.val (cz c)) (ix3 b r d) := by
  rw [← myO_apply]
  show plF m c _ = _
  refine Eq.trans (congrArg (plF m c) (a₂ := (ix5 x y b r d : S2x4x2x256x64.Idx)) ?_) rfl
  funext a
  apply Fin.ext
  match a with
  | 0 => rfl
  | 1 => rfl
  | 2 => show 0 + 1 * b.val = b.val; omega
  | 3 => show 0 + 1 * r.val = r.val; omega
  | 4 => show 0 + 1 * d.val = d.val; omega

theorem fin4 (y : Fin 4) : y = 0 ∨ y = 1 ∨ y = 2 ∨ y = 3 := by revert y; decide

theorem pay52_apply (x0 x1 x2 x3 : Vec Ideal S1x1x2x256x64 .bf16) (b : Fin 2) (r : Fin 256) (y : Fin 4) (d : Fin 64) (z : EReal)
    (h0 : y = 0 → (x0 (ix5 0 0 b r d) : EReal) = z) (h1 : y = 1 → (x1 (ix5 0 0 b r d) : EReal) = z)
    (h2 : y = 2 → (x2 (ix5 0 0 b r d) : EReal) = z) (h3 : y = 3 → (x3 (ix5 0 0 b r d) : EReal) = z) :
    (k0_pay52 x0 x1 x2 x3 (ix4 b r y d) : EReal) = z := by
  pointwise [k0_pay52]
  rcases fin4 y with rfl | rfl | rfl | rfl
  · exact h0 rfl
  · exact h1 rfl
  · exact h2 rfl
  · exact h3 rfl

theorem outLo_apply (c : Dev nD) (b : Fin 2) (r : Fin 256) (y : Fin 4) (d : Fin 64) :
    (outLo m c (ix4 b r y d) : EReal) = v356 m (dv 0 y.val (cz c)) (ix3 b r d) := by
  unfold outLo
  exact pay52_apply _ _ _ _ b r y d _
    (fun e => by subst e; exact plLd_apply m c 0 0 _ b r d) (fun e => by subst e; exact plLd_apply m c 0 1 _ b r d)
    (fun e => by subst e; exact plLd_apply m c 0 2 _ b r d) (fun e => by subst e; exact plLd_apply m c 0 3 _ b r d)

theorem pay53_apply (x0 x1 x2 x3 : Vec Ideal S1x1x2x256x64 .bf16) (b : Fin 2) (r : Fin 256) (y : Fin 4) (d : Fin 64) (z : EReal)
    (h0 : y = 0 → (x0 (ix5 0 0 b r d) : EReal) = z) (h1 : y = 1 → (x1 (ix5 0 0 b r d) : EReal) = z)
    (h2 : y = 2 → (x2 (ix5 0 0 b r d) : EReal) = z) (h3 : y = 3 → (x3 (ix5 0 0 b r d) : EReal) = z) :
    (k0_pay53 x0 x1 x2 x3 (ix4 b r y d) : EReal) = z := by
  pointwise [k0_pay53]
  rcases fin4 y with rfl | rfl | rfl | rfl
  · exact h0 rfl
  · exact h1 rfl
  · exact h2 rfl
  · exact h3 rfl

theorem outHi_apply (c : Dev nD) (b : Fin 2) (r : Fin 256) (y : Fin 4) (d : Fin 64) :
    (outHi m c (ix4 b r y d) : EReal) = v356 m (dv 1 y.val (cz c)) (ix3 b r d) := by
  unfold outHi
  exact pay53_apply _ _ _ _ b r y d _
    (fun e => by subst e; exact plLd_apply m c 1 0 _ b r d) (fun e => by subst e; exact plLd_apply m c 1 1 _ b r d)
    (fun e => by subst e; exact plLd_apply m c 1 2 _ b r d) (fun e => by subst e; exact plLd_apply m c 1 3 _ b r d)

/-- Head `h` of the output block of device `c` is the result of the device with that head on the same ring position. -/
theorem outF_apply (c : Dev nD) (b : Fin 2) (r : Fin 256) (h : Fin 8) (d : Fin 64) :
    (outF m c (ix4 b r h d) : EReal) = v356 m (dv (h.val / 4) (h.val % 4) (cz c)) (ix3 b r d) := by
  have hh := h.isLt
  by_cases h4 : h.val < 4
  · refine (dif_pos h4).trans ((congrArg (outLo m c) (ix4_eq _ _ _ _)).trans ((outLo_apply m c b r ⟨h.val, h4⟩ d).trans ?_))
    rw [show h.val / 4 = 0 by omega, show h.val % 4 = h.val by omega]
  · refine (dif_neg h4).trans ((congrArg (outHi m c) (ix4_eq _ _ _ _)).trans ((outHi_apply m c b r ⟨h.val - 4, by omega⟩ d).trans ?_))
    rw [show h.val / 4 = 1 by omega, show h.val % 4 = h.val - 4 by omega]

end Cert.Reading

end
-- ==== Proof.Value2.lean ====
/-
# The reference read index by index, and the arithmetic between the two
-/
module

public import proofs.«01_k».proof.Proof.Gen.ReferenceIdeal.Run
public import Idealize.ShloMosaic.Lib.Pointwise

@[expose] public section

set_option maxRecDepth 16384

noncomputable section

namespace Cert.Attention

open Cert.ReferenceIdeal Cert.ReferenceIdeal.Gen
open Idealize.ShloMosaic

/-! ## The reference's terms -/

variable (q k v : FVec Ideal S2x1024x8x64 .bf16)

/-- The scaled scores. -/
def scores : FVec Ideal S2x8x1024x1024 .f32 :=
  mulf (Host.dotGeneral dot_S2x1024x8x64_S2x1024x8x64_S2x8x1024x1024_3_3_1_1_02_02 none (extf .f32 q bitsLt_bf16_f32) (extf .f32 k bitsLt_bf16_f32))
    (broadcastInDim S2x8x1024x1024 ![] bcast_S_S2x8x1024x1024 (constant S_ .f32 0x3E000000#32))
/-- The largest score of each row. -/
def tops : FVec Ideal S2x8x1024 .f32 :=
  Host.reduce FloatOps.maximumf (scores q k) (constant S_ .f32 0xFF800000#32) reducesTo_S2x8x1024x1024_S2x8x1024_d3 h_S_
/-- A value per row, spread along the row. -/
def spread (x : FVec Ideal S2x8x1024 .f32) : FVec Ideal S2x8x1024x1024 .f32 :=
  broadcastInDim S2x8x1024x1024 ![0, 1, 2, 3] bcast_S2x8x1024x1_S2x8x1024x1024_0_1_2_3
    (broadcastInDim S2x8x1024x1 ![0, 1, 2] bcast_S2x8x1024_S2x8x1024x1_0_1_2 x)
def weights : FVec Ideal S2x8x1024x1024 .f32 := Host.exp (subf (scores q k) (spread (tops q k)))
def sums : FVec Ideal S2x8x1024 .f32 :=
  Host.reduceAdd (weights q k) (constant S_ .f32 0x00000000#32) reducesTo_S2x8x1024x1024_S2x8x1024_d3 h_S_
def result : FVec Ideal S2x1024x8x64 .f32 :=
  transpose S2x1024x8x64 [0, 3, 1, 2] (Host.dotGeneral dot_S2x1024x8x64_S2x8x1024x1024_S2x8x64x1024_1_3_3_2_02_01 none
    (extf .f32 v bitsLt_bf16_f32) (Host.divf (weights q k) (spread (sums q k)))) transposes_S2x8x64x1024_S2x1024x8x64_0_3_1_2

def eighth : EReal := Ideal.ofBits .f32 0x3E000000#32

theorem scores_apply (b : Fin 2) (h : Fin 8) (R J : Fin 1024) :
    (scores q k (ix4 b h R J) : EReal) = (∑ d : Fin 64, (q (ix4 b R h d) : EReal) * (k (ix4 b J h d) : EReal)) * eighth := by
  pointwise [scores]
  rfl

theorem spread_apply (x : FVec Ideal S2x8x1024 .f32) (b : Fin 2) (h : Fin 8) (R J : Fin 1024) :
    spread x (ix4 b h R J) = x (ix3 b h R) := by
  pointwise [spread]

theorem ofBits_bot : (Ideal.ofBits .f32 0xFF800000#32 : EReal) = ⊥ := by
  simp [Ideal.ofBits, Ideal.ieee]

theorem tops_apply (b : Fin 2) (h : Fin 8) (R : Fin 1024) :
    (tops q k (ix3 b h R) : EReal) = Finset.univ.fold max ⊥ (fun J : Fin 1024 => (scores q k (ix4 b h R J) : EReal)) := by
  pointwise [tops]
  rw [ofBits_bot]

theorem weights_apply (b : Fin 2) (h : Fin 8) (R J : Fin 1024) :
    (weights q k (ix4 b h R J) : EReal) = Ideal.exp ((scores q k (ix4 b h R J) : EReal) - (tops q k (ix3 b h R) : EReal)) := by
  pointwise [weights, spread]

theorem sums_apply (b : Fin 2) (h : Fin 8) (R : Fin 1024) :
    (sums q k (ix3 b h R) : EReal) = ∑ J : Fin 1024, (weights q k (ix4 b h R J) : EReal) := by
  pointwise [sums]

theorem result_apply (b : Fin 2) (R : Fin 1024) (h : Fin 8) (d : Fin 64) :
    (result q k v (ix4 b R h d) : EReal)
      = ∑ J : Fin 1024, (v (ix4 b J h d) : EReal) * Ideal.div (weights q k (ix4 b h R J) : EReal) (sums q k (ix3 b h R) : EReal) := by
  pointwise [result, spread]

/-! ## Softmax with and without the maximum subtracted -/

theorem eighth_eq : eighth = ((1 / 8 : ℝ) : EReal) := by
  simp [eighth, Ideal.ofBits, Ideal.ieee, -EReal.coe_mul]
  norm_num

/-- A positive real distributes over a sum of extended reals. -/
theorem coe_mul_sum {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih => rw [Finset.sum_insert hi, Finset.sum_insert hi, EReal.left_distrib_of_nonneg_of_ne_top (EReal.coe_nonneg.2 ha) (EReal.coe_ne_top a), ih]

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The largest of finitely many reals is a real. -/
theorem fold_max_real {n : ℕ} (s : Fin (n + 1) → ℝ) :
    ∃ M : ℝ, Finset.univ.fold max ⊥ (fun J => (s J : EReal)) = (M : EReal) := by
  have hlt : Finset.univ.fold max ⊥ (fun J => (s J : EReal)) < ⊤ :=
    (Finset.fold_max_lt _).2 ⟨bot_lt_top, fun J _ => EReal.coe_lt_top _⟩
  have hgt : (s 0 : EReal) ≤ Finset.univ.fold max ⊥ (fun J => (s J : EReal)) :=
    (Finset.le_fold_max _).2 (Or.inr ⟨0, Finset.mem_univ _, le_rfl⟩)
  refine ⟨_, (EReal.coe_toReal hlt.ne ?_).symm⟩
  exact fun e => absurd (e ▸ hgt) (by simp)

/-- THE SOFTMAX: dividing the weighted sum by the sum of the weights is weighting by the divided weights, the maximum
    subtracted or not; the scores real, the values any extended reals. -/
theorem softmax (s : Fin 1024 → ℝ) (v : Fin 1024 → EReal) (M : ℝ) :
    Ideal.div (∑ J, Ideal.exp (s J : EReal) * v J) (∑ J, Ideal.exp (s J : EReal))
      = ∑ J, v J * Ideal.div (Ideal.exp ((s J : EReal) - (M : EReal))) (∑ J', Ideal.exp ((s J' : EReal) - (M : EReal))) := by
  have hpos : 0 < ∑ J, Real.exp (s J) := Finset.sum_pos (fun J _ => Real.exp_pos _) ⟨0, Finset.mem_univ _⟩
  have hpos' : 0 < ∑ J, Real.exp (s J - M) := Finset.sum_pos (fun J _ => Real.exp_pos _) ⟨0, Finset.mem_univ _⟩
  have hsum : ∑ J, Real.exp (s J - M) = (∑ J, Real.exp (s J)) * (Real.exp M)⁻¹ := by
    rw [Finset.sum_mul]
    exact Finset.sum_congr rfl fun J _ => by rw [Real.exp_sub, div_eq_mul_inv]
  simp only [← EReal.coe_sub, Ideal.exp_coe, ← coe_sum]
  rw [Ideal.div_coe hpos.ne', mul_comm, coe_mul_sum _ _ (by positivity)]
  refine Finset.sum_congr rfl fun J _ => ?_
  rw [Ideal.div_coe hpos'.ne', ← EReal.coe_mul, mul_comm (v J), ← mul_assoc, ← EReal.coe_mul]
  congr 2
  rw [hsum, Real.exp_sub]
  have := (Real.exp_pos M).ne'
  field_simp

/-- The keys in four blocks of 256. -/
theorem sum_blocks (f : Fin 1024 → EReal) :
    ∑ J : Fin 1024, f J = ∑ w : Fin 4, ∑ j : Fin 256, f ⟨256 * w.val + j.val, by omega⟩ := by
  have e := (finProdFinEquiv (m := 4) (n := 256)).sum_comp f
  rw [Fintype.sum_prod_type] at e
  refine e.symm.trans (Finset.sum_congr rfl fun w _ => Finset.sum_congr rfl fun j _ => congrArg f (Fin.ext ?_))
  show j.val + 256 * w.val = 256 * w.val + j.val
  omega

/-- The order in which a device takes the four blocks: its own, the one before, the next, the one after it. -/
theorem sum_order (z : Fin 4) (g : Fin 4 → EReal) :
    ((g z + g (z + 3)) + g (z + 1)) + g (z + 2) = ∑ w : Fin 4, g w := by
  rw [Fin.sum_univ_four]
  fin_cases z
  · show ((g 0 + g 3) + g 1) + g 2 = _
    abel
  · show ((g 1 + g 0) + g 2) + g 3 = _
    abel
  · show ((g 2 + g 1) + g 3) + g 0 = _
    abel
  · show ((g 3 + g 2) + g 0) + g 1 = _
    abel

/-- The kernel scales the queries, the reference the scores. -/
theorem scaled_score (q k : Fin 64 → ℝ) :
    ∑ d, ((q d : EReal) * eighth) * (k d : EReal) = (((∑ d, q d * k d) * (1 / 8) : ℝ) : EReal) := by
  rw [eighth_eq, Finset.sum_mul, coe_sum]
  refine Finset.sum_congr rfl fun d _ => ?_
  rw [← EReal.coe_mul, ← EReal.coe_mul]
  exact congrArg _ (by ring)

/-- The reference at real queries and keys: the plain quotient of sums. -/
theorem result_real (qr kr : Fin 2 → Fin 1024 → Fin 8 → Fin 64 → ℝ)
    (hq : ∀ b R h d, (q (ix4 b R h d) : EReal) = (qr b R h d : EReal)) (hk : ∀ b R h d, (k (ix4 b R h d) : EReal) = (kr b R h d : EReal))
    (b : Fin 2) (R : Fin 1024) (h : Fin 8) (d : Fin 64) :
    (result q k v (ix4 b R h d) : EReal)
      = Ideal.div (∑ J : Fin 1024, Ideal.exp (((∑ e, qr b R h e * kr b J h e) * (1 / 8) : ℝ) : EReal) * (v (ix4 b J h d) : EReal))
          (∑ J : Fin 1024, Ideal.exp (((∑ e, qr b R h e * kr b J h e) * (1 / 8) : ℝ) : EReal)) := by
  have hs : ∀ J : Fin 1024, (scores q k (ix4 b h R J) : EReal) = (((∑ e, qr b R h e * kr b J h e) * (1 / 8) : ℝ) : EReal) := fun J => by
    rw [scores_apply, eighth_eq]
    simp only [hq, hk, ← EReal.coe_mul, ← coe_sum]
  obtain ⟨M, hM⟩ := fold_max_real (n := 1023) fun J => (∑ e, qr b R h e * kr b J h e) * (1 / 8)
  have ht : (tops q k (ix3 b h R) : EReal) = (M : EReal) := by
    rw [tops_apply, ← hM]
    exact congrArg (fun f => Finset.univ.fold max ⊥ f) (funext hs)
  have hw : ∀ J : Fin 1024, (weights q k (ix4 b h R J) : EReal)
      = Ideal.exp ((((∑ e, qr b R h e * kr b J h e) * (1 / 8) : ℝ) : EReal) - (M : EReal)) := fun J => by
    rw [weights_apply, hs, ht]
  rw [result_apply, sums_apply, softmax _ _ M]
  simp only [hw]

end Cert.Attention

end
-- ==== Proof.Value3.lean ====
/-
# The kernel's result is its block of the reference's
-/
module

public import proofs.«01_k».proof.Defs
public import proofs.«01_k».proof.Proof.Value1
public import proofs.«01_k».proof.Proof.Value2
public import proofs.«01_k».proof.Proof.Gen.KernelIdeal
public import proofs.«01_k».proof.Proof.Gen.ReferenceIdeal

@[expose] public section

set_option maxRecDepth 16384

noncomputable section

namespace Cert.Reading

open Cert.KernelIdeal Cert.KernelIdeal.Gen
open Cert.Exchange hiding ix4 ix5
open Idealize.ShloMosaic Idealize.ShloMosaic.TcCoe Idealize.SL.Sem Idealize.ShloMosaic.Pipeline

variable (m : (ℓ : Loc nD τ sig) → Buf (Elt Ideal) ℓ)

/-! ## The windows are the whole arrays -/

theorem finalA_out (ρ : Dev nD → PrngReg) (c : Dev nD) : finalA m ρ c (3 : Fin 4) = outF m c :=
  (dats m ρ 0 c).arrAt_eq_of_after_last (3 : Fin 4) (0 : Fin 1)
    ⟨flush0_3 (0 : Fin 1), fun t _ => Fin.ext (by have : t.val < 1 := t.isLt; show t.val = 0; omega), fun a => by revert a; decide +kernel⟩ _ fun j => rfl

theorem Qd_eq (c : Dev nD) (b : Fin 2) (r : Fin 256) (h : Fin 8) (d : Fin 64) :
    Qd m c b r h d = (m ((c : Thread nD τ).loc main_arg0) : FVec Ideal S2x256x8x64 .bf16) (ix4 b r h d) :=
  congrArg (m ((c : Thread nD τ).loc main_arg0) : FVec Ideal S2x256x8x64 .bf16)
    (funext fun a => Fin.ext (Window.rect_emb_val_of_index_zero win0_0 (0 : Fin 1) a (by revert a; decide +kernel) _))

theorem Kd_eq (c : Dev nD) (b : Fin 2) (r : Fin 256) (h : Fin 8) (d : Fin 64) :
    Kd m c b r h d = (m ((c : Thread nD τ).loc main_arg1) : FVec Ideal S2x256x8x64 .bf16) (ix4 b r h d) :=
  congrArg (m ((c : Thread nD τ).loc main_arg1) : FVec Ideal S2x256x8x64 .bf16)
    (funext fun a => Fin.ext (Window.rect_emb_val_of_index_zero win0_1 (0 : Fin 1) a (by revert a; decide +kernel) _))

theorem Vd_eq (c : Dev nD) (b : Fin 2) (r : Fin 256) (h : Fin 8) (d : Fin 64) :
    Vd m c b r h d = (m ((c : Thread nD τ).loc main_arg2) : FVec Ideal S2x256x8x64 .bf16) (ix4 b r h d) :=
  congrArg (m ((c : Thread nD τ).loc main_arg2) : FVec Ideal S2x256x8x64 .bf16)
    (funext fun a => Fin.ext (Window.rect_emb_val_of_index_zero win0_2 (0 : Fin 1) a (by revert a; decide +kernel) _))

/-! ## A device's block of a whole array -/

/-- The row of the whole array at which row `r` of device `c`'s block is. -/
def row (c : Dev nD) (r : Fin 256) : Fin 1024 := ⟨256 * cz c + r.val, by have := cz_lt c; omega⟩

theorem lin_z (c : Dev nD) : Layout.meshLin [2, 4, 4] c.val [2] = cz c := by revert c; decide +kernel

theorem block_eq {α : Type} (c : Dev nD) (v : (⟨4, ![2, 1024, 8, 64]⟩ : Shape).Idx → α) :
    Layout.blockN ⟨4, ![2, 256, 8, 64]⟩ ⟨4, ![2, 1024, 8, 64]⟩ (Layout.meshBlock [2, 4, 4] ![[], [2], [], []] c) v
      = fun i => v (ix4 (i 0) (row c (i 1)) (i 2) (i 3)) := by
  refine funext fun i => congrArg v (funext fun a => Fin.ext ?_)
  match a with
  | 0 => show 0 * 2 + (i 0).val = (i 0).val; omega
  | 1 =>
    show Layout.meshLin [2, 4, 4] c.val [2] * 256 + (i 1).val = 256 * cz c + (i 1).val
    rw [lin_z]; omega
  | 2 => show 0 * 8 + (i 2).val = (i 2).val; omega
  | 3 => show 0 * 64 + (i 3).val = (i 3).val; omega

/-! ## The kernel's quotient over all the keys -/

theorem hd_zadd (k : Fin 4) : ∀ c : Dev nD, hd (zadd c k.val) = hd c := by revert k; decide +kernel
theorem cz_zadd (k : Fin 4) : ∀ c : Dev nD, cz (zadd c k.val) = (cz c + k.val) % 4 := by revert k; decide +kernel
theorem hd_dv (h : Fin 8) : ∀ c : Dev nD, hd (dv (h.val / 4) (h.val % 4) (cz c)) = h := by revert h; decide +kernel
theorem cz_dv (h : Fin 8) : ∀ c : Dev nD, cz (dv (h.val / 4) (h.val % 4) (cz c)) = cz c := by revert h; decide +kernel

/-- The line coordinate as an index. -/
def zi (c : Dev nD) : Fin 4 := ⟨cz c, cz_lt c⟩

/-- What the four slots add up to: a sum over all the keys. -/
theorem slots (c : Dev nD) (f : Fin 1024 → EReal) (g : ℕ → EReal)
    (hg : ∀ k : Fin 4, g k.val = ∑ j : Fin 256, f (row (zadd c k.val) j)) :
    ((g 0 + g 3) + g 1) + g 2 = ∑ J : Fin 1024, f J := by
  rw [Cert.Attention.sum_blocks, ← Cert.Attention.sum_order (zi c)]
  have e : ∀ k w : Fin 4, zi c + k = w → g k.val = ∑ j : Fin 256, f ⟨256 * w.val + j.val, by omega⟩ := by
    rintro k _ rfl
    refine (hg k).trans (Finset.sum_congr rfl fun j _ => congrArg f (Fin.ext ?_))
    show 256 * cz (zadd c k.val) + j.val = 256 * (zi c + k).val + j.val
    rw [cz_zadd, Fin.val_add]; rfl
  exact congrArg₂ _ (congrArg₂ _ (congrArg₂ _ (e 0 _ (add_zero _)) (e 3 _ rfl)) (e 1 _ rfl)) (e 2 _ rfl)

variable (qr kr : Fin 2 → Fin 1024 → Fin 8 → Fin 64 → ℝ) (V : Fin 2 → Fin 1024 → Fin 8 → Fin 64 → EReal)

/-- The score of row `R` against key `J`. -/
def score (b : Fin 2) (h : Fin 8) (R J : Fin 1024) : ℝ := (∑ e, qr b R h e * kr b J h e) * (1 / 8)

section
variable {m qr kr V}
  (hq : ∀ c b r h d, Qd m c b r h d = (qr b (row c r) h d : EReal)) (hk : ∀ c b r h d, Kd m c b r h d = (kr b (row c r) h d : EReal))
  (hv : ∀ c b r h d, Vd m c b r h d = V b (row c r) h d)

include hq hk in
theorem Ew_eq (c : Dev nD) (k : Fin 4) (b : Fin 2) (r j : Fin 256) :
    Ew m c k.val b r j = Ideal.exp (score qr kr b (hd c) (row c r) (row (zadd c k.val) j) : EReal) := by
  unfold Ew
  simp only [hq, hk, hd_zadd]
  exact congrArg Ideal.exp (Cert.Attention.scaled_score _ _)

include hq hk in
theorem den_eq (c : Dev nD) (b : Fin 2) (r : Fin 256) :
    den m c b r = ∑ J : Fin 1024, Ideal.exp (score qr kr b (hd c) (row c r) J : EReal) :=
  slots c (fun J => Ideal.exp (score qr kr b (hd c) (row c r) J : EReal)) (fun k => ∑ j : Fin 256, Ew m c k b r j)
    fun k => Finset.sum_congr rfl fun j _ => Ew_eq hq hk c k b r j

include hq hk hv in
theorem num_eq (c : Dev nD) (b : Fin 2) (r : Fin 256) (d : Fin 64) :
    num m c b r d = ∑ J : Fin 1024, Ideal.exp (score qr kr b (hd c) (row c r) J : EReal) * V b J (hd c) d :=
  slots c (fun J => Ideal.exp (score qr kr b (hd c) (row c r) J : EReal) * V b J (hd c) d)
    (fun k => ∑ j : Fin 256, Ew m c k b r j * Vw m c k b j d)
    fun k => Finset.sum_congr rfl fun j _ => by
      show Ew m c k.val b r j * Vw m c k.val b j d = _
      rw [Ew_eq hq hk c k b r j, Vw, hv, hd_zadd]

include hq hk hv in
/-- Every element the kernel leaves, over all the keys. -/
theorem out_eq (c : Dev nD) (b : Fin 2) (r : Fin 256) (h : Fin 8) (d : Fin 64) :
    (outF m c (ix4 b r h d) : EReal)
      = Ideal.div (∑ J : Fin 1024, Ideal.exp (score qr kr b h (row c r) J : EReal) * V b J h d)
          (∑ J : Fin 1024, Ideal.exp (score qr kr b h (row c r) J : EReal)) := by
  have hr : row (dv (h.val / 4) (h.val % 4) (cz c)) r = row c r := by simp only [row, cz_dv]
  rw [outF_apply, v356_apply, num_eq hq hk hv, den_eq hq hk, hr, hd_dv]

end

/-! ## The precondition: queries and keys are real -/

theorem bits_inf : (Ideal.ofBits .bf16 0x7F80#16 : EReal) = ⊤ := by
  simp [Ideal.ofBits, Ideal.ieee]

instance preFacts : Cert.Pre_finite_queries_and_keys_KernelIdeal.Facts where
  bcast_S_S2x256x8x64 := by decide
instance preFactsReference : Cert.Pre_finite_queries_and_keys_ReferenceIdeal.Facts where
  bcast_S_S2x1024x8x64 := by decide

/-- A value whose absolute value is below infinity is real. -/
theorem real_of_abs (x : EReal) (h : max x (-x) < ⊤) : x = (x.toReal : EReal) := by
  refine (EReal.coe_toReal (fun e => ?_) fun e => ?_).symm
  · rw [e] at h; simp at h
  · rw [e] at h; simp at h

theorem of_and (p q : Prop) [Decidable p] [Decidable q]
    (h : IntOp.andi (BitVec.ofBool (decide p)) (BitVec.ofBool (decide q)) = 1#1) : p ∧ q := by
  by_cases hp : p <;> by_cases hq : q <;> simp [hp, hq, IntOp.andi] at h ⊢

theorem pre_at (x y z : FVec Ideal S2x256x8x64 .bf16)
    (hp : Cert.Pre_finite_queries_and_keys_KernelIdeal.fn (F := Ideal) x y z = fun _ => 1#1)
    (b : Fin 2) (r : Fin 256) (h : Fin 8) (d : Fin 64) :
    (x (ix4 b r h d) : EReal) = ((x (ix4 b r h d) : EReal).toReal : EReal)
      ∧ (y (ix4 b r h d) : EReal) = ((y (ix4 b r h d) : EReal).toReal : EReal) := by
  have e := congrFun hp (ix4 b r h d)
  revert e
  pointwise [Cert.Pre_finite_queries_and_keys_KernelIdeal.fn]
  intro e
  have e' := of_and _ _ e
  rw [bits_inf] at e'
  exact ⟨real_of_abs _ e'.1, real_of_abs _ e'.2⟩

/-! ## The claim -/

/-- Every row of the whole array is a row of some device's block. -/
theorem row_surj (R : Fin 1024) : ∃ (c : Dev nD) (r : Fin 256), row c r = R := by
  refine ⟨dv 0 0 (R.val / 256), ⟨R.val % 256, by omega⟩, Fin.ext ?_⟩
  show 256 * ((16 * 0 + 4 * 0 + R.val / 256) % 32 % 4) + R.val % 256 = R.val
  omega

theorem out_block (Q K V : FVec Ideal Cert.ReferenceIdeal.S2x1024x8x64 .bf16)
    (hQ : ∀ c : Dev nD, m ((c : Thread nD τ).loc main_arg0)
      = Layout.blockN ⟨4, ![2, 256, 8, 64]⟩ ⟨4, ![2, 1024, 8, 64]⟩ (Layout.meshBlock [2, 4, 4] ![[], [2], [], []] c) Q)
    (hK : ∀ c : Dev nD, m ((c : Thread nD τ).loc main_arg1)
      = Layout.blockN ⟨4, ![2, 256, 8, 64]⟩ ⟨4, ![2, 1024, 8, 64]⟩ (Layout.meshBlock [2, 4, 4] ![[], [2], [], []] c) K)
    (hV : ∀ c : Dev nD, m ((c : Thread nD τ).loc main_arg2)
      = Layout.blockN ⟨4, ![2, 256, 8, 64]⟩ ⟨4, ![2, 1024, 8, 64]⟩ (Layout.meshBlock [2, 4, 4] ![[], [2], [], []] c) V)
    (hp : Cert.Pre_KernelIdeal_finite_queries_and_keys_KernelIdeal m) (c : Dev nD) :
    outF m c = Layout.blockN ⟨4, ![2, 256, 8, 64]⟩ ⟨4, ![2, 1024, 8, 64]⟩ (Layout.meshBlock [2, 4, 4] ![[], [2], [], []] c)
      (Cert.Attention.result Q K V) := by
  have q1 : ∀ c b r h d, Qd m c b r h d = Q (ix4 b (row c r) h d) := fun c b r h d => by
    rw [Qd_eq, hQ c, block_eq]; rfl
  have k1 : ∀ c b r h d, Kd m c b r h d = K (ix4 b (row c r) h d) := fun c b r h d => by
    rw [Kd_eq, hK c, block_eq]; rfl
  have v1 : ∀ c b r h d, Vd m c b r h d = V (ix4 b (row c r) h d) := fun c b r h d => by
    rw [Vd_eq, hV c, block_eq]; rfl
  have q2 : ∀ b R h d, (Q (ix4 b R h d) : EReal) = ((Q (ix4 b R h d) : EReal).toReal : EReal) := fun b R h d => by
    obtain ⟨c, r, rfl⟩ := row_surj R
    rw [← q1, Qd_eq]
    exact (pre_at _ _ _ (hp c) b r h d).1
  have k2 : ∀ b R h d, (K (ix4 b R h d) : EReal) = ((K (ix4 b R h d) : EReal).toReal : EReal) := fun b R h d => by
    obtain ⟨c, r, rfl⟩ := row_surj R
    rw [← k1, Kd_eq]
    exact (pre_at _ _ _ (hp c) b r h d).2
  rw [block_eq]
  refine funext fun (i : S2x256x8x64.Idx) => ?_
  rw [eq_ix4 i]
  refine (out_eq (qr := fun b R h d => (Q (ix4 b R h d) : EReal).toReal) (kr := fun b R h d => (K (ix4 b R h d) : EReal).toReal)
    (V := fun b R h d => V (ix4 b R h d)) (fun c b r h d => (q1 c b r h d).trans (q2 _ _ _ _)) (fun c b r h d => (k1 c b r h d).trans (k2 _ _ _ _)) v1
    c (i 0) (i 1) (i 2) (i 3)).trans ?_
  exact (Cert.Attention.result_real Q K V _ _ q2 k2 (i 0) (row c (i 1)) (i 2) (i 3)).symm

/-- The kernel, exactly computed, leaves on every device its block of the reference's result. -/
theorem algebraic : Cert.algebraic_KernelIdeal_ReferenceIdeal_pre_finite_queries_and_keys_KernelIdeal := by
  intro m g m' g' hp hA
  refine ⟨Cert.Attention.result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun r h c => ?_) (run_main m g)
    obtain ⟨h0, h1, h2, h3⟩ := h.1 c
    refine ⟨h3.trans ((finalA_out m g c).trans ?_), h0, h1, h2⟩
    exact out_block m _ _ _ (fun c => (hA c).1) (fun c => (hA c).2.1) (fun c => (hA c).2.2) hp c
  · exact (θ_run Cert.ReferenceIdeal.defs _ _).mono (fun r h => h 0) (Cert.ReferenceIdeal.Value.run m' g')

end Cert.Reading

end
-- ==== Proof.lean ====
/-
# The claims, put together
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value3
public import Idealize.ShloMosaic.Adequacy
public import Idealize.ShloMosaic.Init

@[expose] public section

noncomputable section

namespace Cert.Proof

open Idealize.ShloMosaic Idealize.SL.Sem

theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩)
    (Cert.Exchange.run_main (F := Ideal) m ρ)

/-- The body table of the kernel is its idealization's: one label, the same body. -/
theorem bodies_eq : Cert.Kernel.defs₀ (F := Bits) = Cert.KernelIdeal.defs₀ (F := Bits) := by
  unfold Cert.Kernel.defs₀ Cert.KernelIdeal.defs₀
  refine congrArg Defs.onTc ?_
  funext k a
  match k, a with
  | 0, (t, s) => exact rfl
  | ⟨n + 1, h⟩, _ => exact absurd h (Nat.not_lt.2 (Nat.le_add_left _ _))

theorem defs_eq : Cert.Kernel.defs (F := Bits) = Cert.KernelIdeal.defs (F := Bits) :=
  congrArg (fun d => Pipeline.defs Cert.Kernel.pcfgs d) bodies_eq

/-- The kernel's text is its idealization's, so the same run is its own. -/
theorem frame_kernel : Cert.quiescent_Kernel := fun m ρ _ => by
  rw [defs_eq]
  exact (θ_run Cert.KernelIdeal.defs (onTc (τ := Cert.KernelIdeal.τ) Cert.KernelIdeal.main) ⟨m, fun _ => 0, ρ⟩).mono
    (fun _ h => ⟨fun c => ⟨(h.1 c).1, (h.1 c).2.1, (h.1 c).2.2.1⟩, h.2⟩)
    (Cert.Exchange.run_main (F := Bits) m ρ)

theorem frame_reference : Cert.quiescent_ReferenceIdeal := fun m ρ _ =>
  (θ_run Cert.ReferenceIdeal.defs _ _).mono (fun r h => ⟨fun c => ⟨(h c).2.1, (h c).2.2.1, (h c).2.2.2⟩,
      funext fun g => by
        rcases g with ⟨t, sm⟩
        rcases sm with s | s
        · exact s.elim0
        · exact s.elim0⟩)
    (Cert.ReferenceIdeal.Value.run (F := Ideal) m ρ)

theorem claim : Cert.Claim := ⟨Cert.Kernel.Gen.facts, Cert.KernelIdeal.Gen.facts, Cert.ReferenceIdeal.Gen.facts,
  Cert.Reading.preFacts, Cert.Reading.preFactsReference,
  frame_kernel, frame_ideal, fun m ρ _ => frame_ideal m ρ trivial, frame_reference, fun m ρ _ => frame_reference m ρ trivial,
  trivial, Cert.Reading.algebraic⟩

end Cert.Proof

end
